-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_exact_totals_ReferenceIdeal [hPre_exact_totals_ReferenceIdeal : Cert.Pre_exact_totals_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_totals_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Synced (m : (ℓ : Loc Cert.Synced.nD Cert.Synced.τ Cert.Synced.sig) → Buf (Elt Bits) ℓ) : Prop :=
  True

def Pre_SyncedIdeal (m : (ℓ : Loc Cert.SyncedIdeal.nD Cert.SyncedIdeal.τ Cert.SyncedIdeal.sig) → Buf (Elt Ideal) ℓ) : Prop :=
  True

def Pre_SyncedIdeal_exact_totals_SyncedIdeal [hPre_exact_totals_SyncedIdeal : Cert.Pre_exact_totals_SyncedIdeal.Facts] (m : (ℓ : Loc Cert.SyncedIdeal.nD Cert.SyncedIdeal.τ Cert.SyncedIdeal.sig) → Buf (Elt Ideal) ℓ) : Prop :=
  ∀ c : Dev Cert.SyncedIdeal.nD,
    (Cert.Pre_exact_totals_SyncedIdeal.fn (F := Ideal) (m ((c.tc : Thread Cert.SyncedIdeal.nD Cert.SyncedIdeal.τ).loc Cert.SyncedIdeal.main_arg0)) (m ((c.tc : Thread Cert.SyncedIdeal.nD Cert.SyncedIdeal.τ).loc Cert.SyncedIdeal.main_arg1)) (m ((c.tc : Thread Cert.SyncedIdeal.nD Cert.SyncedIdeal.τ).loc Cert.SyncedIdeal.main_arg2)) (m ((c.tc : Thread Cert.SyncedIdeal.nD Cert.SyncedIdeal.τ).loc Cert.SyncedIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_exact_totals_ReferenceIdeal [hReferenceIdeal : Cert.ReferenceIdeal.Facts] [hPre_exact_totals_ReferenceIdeal : Cert.Pre_exact_totals_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_totals_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Synced [hSynced : Cert.Synced.Facts] : Prop :=
  ∀ (m : (ℓ : Loc Cert.Synced.nD Cert.Synced.τ Cert.Synced.sig) → Buf (Elt Bits) ℓ) (g : Dev Cert.Synced.nD → PrngReg), Pre_Synced m →
    θ_run (Cert.Synced.defs (F := Bits)) (onTc (τ := Cert.Synced.τ) (Cert.Synced.main (F := Bits))) ⟨m, fun _ => 0, g⟩ (fun r => (∀ c : Dev Cert.Synced.nD,
      r.2.mem ((c.tc : Thread Cert.Synced.nD Cert.Synced.τ).loc Cert.Synced.main_arg0) = m ((c.tc : Thread Cert.Synced.nD Cert.Synced.τ).loc Cert.Synced.main_arg0)
      ∧ r.2.mem ((c.tc : Thread Cert.Synced.nD Cert.Synced.τ).loc Cert.Synced.main_arg1) = m ((c.tc : Thread Cert.Synced.nD Cert.Synced.τ).loc Cert.Synced.main_arg1)
      ∧ r.2.mem ((c.tc : Thread Cert.Synced.nD Cert.Synced.τ).loc Cert.Synced.main_arg2) = m ((c.tc : Thread Cert.Synced.nD Cert.Synced.τ).loc Cert.Synced.main_arg2)
      ∧ r.2.mem ((c.tc : Thread Cert.Synced.nD Cert.Synced.τ).loc Cert.Synced.main_arg3) = m ((c.tc : Thread Cert.Synced.nD Cert.Synced.τ).loc Cert.Synced.main_arg3))
      ∧ r.2.sem = fun _ => 0)

def quiescent_SyncedIdeal [hSyncedIdeal : Cert.SyncedIdeal.Facts] : Prop :=
  ∀ (m : (ℓ : Loc Cert.SyncedIdeal.nD Cert.SyncedIdeal.τ Cert.SyncedIdeal.sig) → Buf (Elt Ideal) ℓ) (g : Dev Cert.SyncedIdeal.nD → PrngReg), Pre_SyncedIdeal m →
    θ_run (Cert.SyncedIdeal.defs (F := Ideal)) (onTc (τ := Cert.SyncedIdeal.τ) (Cert.SyncedIdeal.main (F := Ideal))) ⟨m, fun _ => 0, g⟩ (fun r => (∀ c : Dev Cert.SyncedIdeal.nD,
      r.2.mem ((c.tc : Thread Cert.SyncedIdeal.nD Cert.SyncedIdeal.τ).loc Cert.SyncedIdeal.main_arg0) = m ((c.tc : Thread Cert.SyncedIdeal.nD Cert.SyncedIdeal.τ).loc Cert.SyncedIdeal.main_arg0)
      ∧ r.2.mem ((c.tc : Thread Cert.SyncedIdeal.nD Cert.SyncedIdeal.τ).loc Cert.SyncedIdeal.main_arg1) = m ((c.tc : Thread Cert.SyncedIdeal.nD Cert.SyncedIdeal.τ).loc Cert.SyncedIdeal.main_arg1)
      ∧ r.2.mem ((c.tc : Thread Cert.SyncedIdeal.nD Cert.SyncedIdeal.τ).loc Cert.SyncedIdeal.main_arg2) = m ((c.tc : Thread Cert.SyncedIdeal.nD Cert.SyncedIdeal.τ).loc Cert.SyncedIdeal.main_arg2)
      ∧ r.2.mem ((c.tc : Thread Cert.SyncedIdeal.nD Cert.SyncedIdeal.τ).loc Cert.SyncedIdeal.main_arg3) = m ((c.tc : Thread Cert.SyncedIdeal.nD Cert.SyncedIdeal.τ).loc Cert.SyncedIdeal.main_arg3))
      ∧ r.2.sem = fun _ => 0)

def quiescent_SyncedIdeal_pre_exact_totals_SyncedIdeal [hSyncedIdeal : Cert.SyncedIdeal.Facts] [hPre_exact_totals_SyncedIdeal : Cert.Pre_exact_totals_SyncedIdeal.Facts] : Prop :=
  ∀ (m : (ℓ : Loc Cert.SyncedIdeal.nD Cert.SyncedIdeal.τ Cert.SyncedIdeal.sig) → Buf (Elt Ideal) ℓ) (g : Dev Cert.SyncedIdeal.nD → PrngReg), Pre_SyncedIdeal_exact_totals_SyncedIdeal m →
    θ_run (Cert.SyncedIdeal.defs (F := Ideal)) (onTc (τ := Cert.SyncedIdeal.τ) (Cert.SyncedIdeal.main (F := Ideal))) ⟨m, fun _ => 0, g⟩ (fun r => (∀ c : Dev Cert.SyncedIdeal.nD,
      r.2.mem ((c.tc : Thread Cert.SyncedIdeal.nD Cert.SyncedIdeal.τ).loc Cert.SyncedIdeal.main_arg0) = m ((c.tc : Thread Cert.SyncedIdeal.nD Cert.SyncedIdeal.τ).loc Cert.SyncedIdeal.main_arg0)
      ∧ r.2.mem ((c.tc : Thread Cert.SyncedIdeal.nD Cert.SyncedIdeal.τ).loc Cert.SyncedIdeal.main_arg1) = m ((c.tc : Thread Cert.SyncedIdeal.nD Cert.SyncedIdeal.τ).loc Cert.SyncedIdeal.main_arg1)
      ∧ r.2.mem ((c.tc : Thread Cert.SyncedIdeal.nD Cert.SyncedIdeal.τ).loc Cert.SyncedIdeal.main_arg2) = m ((c.tc : Thread Cert.SyncedIdeal.nD Cert.SyncedIdeal.τ).loc Cert.SyncedIdeal.main_arg2)
      ∧ r.2.mem ((c.tc : Thread Cert.SyncedIdeal.nD Cert.SyncedIdeal.τ).loc Cert.SyncedIdeal.main_arg3) = m ((c.tc : Thread Cert.SyncedIdeal.nD Cert.SyncedIdeal.τ).loc Cert.SyncedIdeal.main_arg3))
      ∧ r.2.sem = fun _ => 0)

def preserves_Kernel_KernelIdeal : Prop :=
  True

def algebraic_KernelIdeal_ReferenceIdeal_on_exact_own_blocks [hKernelIdeal : Cert.KernelIdeal.Facts] [hReferenceIdeal : Cert.ReferenceIdeal.Facts] [hOn_exact_own_blocks : Cert.On_exact_own_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 64]⟩ : Shape).Idx, (Layout.block ⟨2, ![4096, 64]⟩ ⟨2, ![4096, 2048]⟩ 1 32 c ((Cert.On_exact_own_blocks.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 64]⟩ : Shape).Idx → _) i = 1#1 → r.2.mem ((c.tc : Thread Cert.KernelIdeal.nD Cert.KernelIdeal.τ).loc Cert.KernelIdeal.main_v1) i = (Layout.block ⟨2, ![4096, 64]⟩ ⟨2, ![4096, 2048]⟩ 1 32 c v0 : (⟨2, ![4096, 64]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_exact_own_blocks.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_Synced_SyncedIdeal : Prop :=
  True

def algebraic_SyncedIdeal_ReferenceIdeal_pre_exact_totals_SyncedIdeal [hSyncedIdeal : Cert.SyncedIdeal.Facts] [hReferenceIdeal : Cert.ReferenceIdeal.Facts] [hPre_exact_totals_SyncedIdeal : Cert.Pre_exact_totals_SyncedIdeal.Facts] : Prop :=
  ∀ (m : (ℓ : Loc Cert.SyncedIdeal.nD Cert.SyncedIdeal.τ Cert.SyncedIdeal.sig) → Buf (Elt Ideal) ℓ) (g : Dev Cert.SyncedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SyncedIdeal_exact_totals_SyncedIdeal m →
    (∀ c : Dev Cert.SyncedIdeal.nD,
      m ((c.tc : Thread Cert.SyncedIdeal.nD Cert.SyncedIdeal.τ).loc Cert.SyncedIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.SyncedIdeal.nD Cert.SyncedIdeal.τ).loc Cert.SyncedIdeal.main_arg1) = m' (((0 : Dev Cert.ReferenceIdeal.nD).tc : Thread Cert.ReferenceIdeal.nD Cert.ReferenceIdeal.τ).loc Cert.ReferenceIdeal.main_arg1)
      ∧ m ((c.tc : Thread Cert.SyncedIdeal.nD Cert.SyncedIdeal.τ).loc Cert.SyncedIdeal.main_arg2) = m' (((0 : Dev Cert.ReferenceIdeal.nD).tc : Thread Cert.ReferenceIdeal.nD Cert.ReferenceIdeal.τ).loc Cert.ReferenceIdeal.main_arg2)
      ∧ m ((c.tc : Thread Cert.SyncedIdeal.nD Cert.SyncedIdeal.τ).loc Cert.SyncedIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.SyncedIdeal.defs (F := Ideal)) (onTc (τ := Cert.SyncedIdeal.τ) (Cert.SyncedIdeal.main (F := Ideal))) ⟨m, fun _ => 0, g⟩ (fun r => ∀ c : Dev Cert.SyncedIdeal.nD,
          r.2.mem ((c.tc : Thread Cert.SyncedIdeal.nD Cert.SyncedIdeal.τ).loc Cert.SyncedIdeal.main_v1) = Layout.block ⟨2, ![4096, 64]⟩ ⟨2, ![4096, 2048]⟩ 1 32 c v0
          ∧ r.2.mem ((c.tc : Thread Cert.SyncedIdeal.nD Cert.SyncedIdeal.τ).loc Cert.SyncedIdeal.main_arg0) = m ((c.tc : Thread Cert.SyncedIdeal.nD Cert.SyncedIdeal.τ).loc Cert.SyncedIdeal.main_arg0)
          ∧ r.2.mem ((c.tc : Thread Cert.SyncedIdeal.nD Cert.SyncedIdeal.τ).loc Cert.SyncedIdeal.main_arg1) = m ((c.tc : Thread Cert.SyncedIdeal.nD Cert.SyncedIdeal.τ).loc Cert.SyncedIdeal.main_arg1)
          ∧ r.2.mem ((c.tc : Thread Cert.SyncedIdeal.nD Cert.SyncedIdeal.τ).loc Cert.SyncedIdeal.main_arg2) = m ((c.tc : Thread Cert.SyncedIdeal.nD Cert.SyncedIdeal.τ).loc Cert.SyncedIdeal.main_arg2)
          ∧ r.2.mem ((c.tc : Thread Cert.SyncedIdeal.nD Cert.SyncedIdeal.τ).loc Cert.SyncedIdeal.main_arg3) = m ((c.tc : Thread Cert.SyncedIdeal.nD Cert.SyncedIdeal.τ).loc Cert.SyncedIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_SyncedIdeal_ReferenceIdeal_on_exact_totals [hSyncedIdeal : Cert.SyncedIdeal.Facts] [hReferenceIdeal : Cert.ReferenceIdeal.Facts] [hOn_exact_totals : Cert.On_exact_totals.Facts] : Prop :=
  ∀ (m : (ℓ : Loc Cert.SyncedIdeal.nD Cert.SyncedIdeal.τ Cert.SyncedIdeal.sig) → Buf (Elt Ideal) ℓ) (g : Dev Cert.SyncedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SyncedIdeal m →
    (∀ c : Dev Cert.SyncedIdeal.nD,
      m ((c.tc : Thread Cert.SyncedIdeal.nD Cert.SyncedIdeal.τ).loc Cert.SyncedIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.SyncedIdeal.nD Cert.SyncedIdeal.τ).loc Cert.SyncedIdeal.main_arg1) = m' (((0 : Dev Cert.ReferenceIdeal.nD).tc : Thread Cert.ReferenceIdeal.nD Cert.ReferenceIdeal.τ).loc Cert.ReferenceIdeal.main_arg1)
      ∧ m ((c.tc : Thread Cert.SyncedIdeal.nD Cert.SyncedIdeal.τ).loc Cert.SyncedIdeal.main_arg2) = m' (((0 : Dev Cert.ReferenceIdeal.nD).tc : Thread Cert.ReferenceIdeal.nD Cert.ReferenceIdeal.τ).loc Cert.ReferenceIdeal.main_arg2)
      ∧ m ((c.tc : Thread Cert.SyncedIdeal.nD Cert.SyncedIdeal.τ).loc Cert.SyncedIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.SyncedIdeal.defs (F := Ideal)) (onTc (τ := Cert.SyncedIdeal.τ) (Cert.SyncedIdeal.main (F := Ideal))) ⟨m, fun _ => 0, g⟩ (fun r => ∀ c : Dev Cert.SyncedIdeal.nD,
          (∀ i : (⟨2, ![4096, 64]⟩ : Shape).Idx, (Layout.block ⟨2, ![4096, 64]⟩ ⟨2, ![4096, 2048]⟩ 1 32 c ((Cert.On_exact_totals.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 64]⟩ : Shape).Idx → _) i = 1#1 → r.2.mem ((c.tc : Thread Cert.SyncedIdeal.nD Cert.SyncedIdeal.τ).loc Cert.SyncedIdeal.main_v1) i = (Layout.block ⟨2, ![4096, 64]⟩ ⟨2, ![4096, 2048]⟩ 1 32 c v0 : (⟨2, ![4096, 64]⟩ : Shape).Idx → _) i)
          ∧ r.2.mem ((c.tc : Thread Cert.SyncedIdeal.nD Cert.SyncedIdeal.τ).loc Cert.SyncedIdeal.main_arg0) = m ((c.tc : Thread Cert.SyncedIdeal.nD Cert.SyncedIdeal.τ).loc Cert.SyncedIdeal.main_arg0)
          ∧ r.2.mem ((c.tc : Thread Cert.SyncedIdeal.nD Cert.SyncedIdeal.τ).loc Cert.SyncedIdeal.main_arg1) = m ((c.tc : Thread Cert.SyncedIdeal.nD Cert.SyncedIdeal.τ).loc Cert.SyncedIdeal.main_arg1)
          ∧ r.2.mem ((c.tc : Thread Cert.SyncedIdeal.nD Cert.SyncedIdeal.τ).loc Cert.SyncedIdeal.main_arg2) = m ((c.tc : Thread Cert.SyncedIdeal.nD Cert.SyncedIdeal.τ).loc Cert.SyncedIdeal.main_arg2)
          ∧ r.2.mem ((c.tc : Thread Cert.SyncedIdeal.nD Cert.SyncedIdeal.τ).loc Cert.SyncedIdeal.main_arg3) = m ((c.tc : Thread Cert.SyncedIdeal.nD Cert.SyncedIdeal.τ).loc Cert.SyncedIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_exact_totals.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hSynced : Cert.Synced.Facts) (hSyncedIdeal : Cert.SyncedIdeal.Facts) (hPre_exact_totals_ReferenceIdeal : Cert.Pre_exact_totals_ReferenceIdeal.Facts) (hPre_exact_totals_SyncedIdeal : Cert.Pre_exact_totals_SyncedIdeal.Facts) (hOn_exact_own_blocks : Cert.On_exact_own_blocks.Facts) (hOn_exact_totals : Cert.On_exact_totals.Facts),
    quiescent_Kernel (hKernel := hKernel)
    ∧ quiescent_KernelIdeal (hKernelIdeal := hKernelIdeal)
    ∧ quiescent_ReferenceIdeal (hReferenceIdeal := hReferenceIdeal)
    ∧ quiescent_ReferenceIdeal_pre_exact_totals_ReferenceIdeal (hReferenceIdeal := hReferenceIdeal) (hPre_exact_totals_ReferenceIdeal := hPre_exact_totals_ReferenceIdeal)
    ∧ quiescent_Synced (hSynced := hSynced)
    ∧ quiescent_SyncedIdeal (hSyncedIdeal := hSyncedIdeal)
    ∧ quiescent_SyncedIdeal_pre_exact_totals_SyncedIdeal (hSyncedIdeal := hSyncedIdeal) (hPre_exact_totals_SyncedIdeal := hPre_exact_totals_SyncedIdeal)
    ∧ preserves_Kernel_KernelIdeal
    ∧ algebraic_KernelIdeal_ReferenceIdeal_on_exact_own_blocks (hKernelIdeal := hKernelIdeal) (hReferenceIdeal := hReferenceIdeal) (hOn_exact_own_blocks := hOn_exact_own_blocks)
    ∧ preserves_Synced_SyncedIdeal
    ∧ algebraic_SyncedIdeal_ReferenceIdeal_pre_exact_totals_SyncedIdeal (hSyncedIdeal := hSyncedIdeal) (hReferenceIdeal := hReferenceIdeal) (hPre_exact_totals_SyncedIdeal := hPre_exact_totals_SyncedIdeal)
    ∧ algebraic_SyncedIdeal_ReferenceIdeal_on_exact_totals (hSyncedIdeal := hSyncedIdeal) (hReferenceIdeal := hReferenceIdeal) (hOn_exact_totals := hOn_exact_totals)
-- ==== On_exact_own_blocks.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  bcast_S_S4096x2048 : S_.BroadcastsInDim S4096x2048 (![] : Fin 0 → Fin S4096x2048.rank)
  natLt_8_32 : 8 < 32
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x2048 32 := iotaInDim S4096x2048 32 0
  let main_v1 : IVec S4096x2048 32 := iotaInDim S4096x2048 32 1
  let main_c : IVec S_ 32 := constantI S_ 32 7#32
  let main_v2 : IVec S4096x2048 32 := broadcastInDim S4096x2048 ![] bcast_S_S4096x2048 main_c
  let main_v3 : IVec S4096x2048 32 := Host.shrui main_v0 main_v2
  let main_c_0 : IVec S_ 32 := constantI S_ 32 6#32
  let main_v4 : IVec S4096x2048 32 := broadcastInDim S4096x2048 ![] bcast_S_S4096x2048 main_c_0
  let main_v5 : IVec S4096x2048 32 := Host.shrui main_v1 main_v4
  let main_v6 : IVec S4096x2048 1 := cmpi .eq main_v3 main_v5
  let main_v7 : IVec S4096x4096 32 := (extsi 32 · natLt_8_32) main_arg0
  let main_v8 : IVec S4096x4096 32 := absi main_v7
  let main_v9 : FVec F S4096x4096 .f32 := sitofp .f32 main_v8
  let main_v10 : IVec S4096x2048 32 := (extsi 32 · natLt_8_32) main_arg1
  let main_v11 : IVec S4096x2048 32 := absi main_v10
  let main_v12 : FVec F S4096x2048 .f32 := sitofp .f32 main_v11
  let main_v13 : FVec F S4096x2048 .f32 := (fun l r => Host.dotGeneral dot_S4096x4096_S4096x2048_S4096x2048_1_0_0_1_n_n none l r) main_v9 main_v12
  let main_cst : FVec F S_ .f32 := constant S_ .f32 0x4B7FFFFF#32
  let main_v14 : FVec F S4096x2048 .f32 := broadcastInDim S4096x2048 ![] bcast_S_S4096x2048 main_cst
  let main_v15 : IVec S4096x2048 1 := cmpf .ole main_v13 main_v14
  let main_v16 : IVec S4096x2048 1 := andi main_v6 main_v15
  main_v16
-- ==== On_exact_totals.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : IVec S4096x4096 32 := absi main_v0
  let main_v2 : FVec F S4096x4096 .f32 := sitofp .f32 main_v1
  let main_v3 : IVec S4096x2048 32 := (extsi 32 · natLt_8_32) main_arg1
  let main_v4 : IVec S4096x2048 32 := absi main_v3
  let main_v5 : FVec F S4096x2048 .f32 := sitofp .f32 main_v4
  let main_v6 : FVec F S4096x2048 .f32 := (fun l r => Host.dotGeneral dot_S4096x4096_S4096x2048_S4096x2048_1_0_0_1_n_n none l r) main_v2 main_v5
  let main_cst : FVec F S_ .f32 := constant S_ .f32 0x4B7FFFFF#32
  let main_v7 : FVec F S4096x2048 .f32 := broadcastInDim S4096x2048 ![] bcast_S_S4096x2048 main_cst
  let main_v8 : IVec S4096x2048 1 := cmpf .ole main_v6 main_v7
  main_v8
-- ==== Pre_exact_totals_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : IVec S4096x4096 32 := absi main_v0
  let main_v2 : FVec F S4096x4096 .f32 := sitofp .f32 main_v1
  let main_v3 : IVec S4096x2048 32 := (extsi 32 · natLt_8_32) main_arg1
  let main_v4 : IVec S4096x2048 32 := absi main_v3
  let main_v5 : FVec F S4096x2048 .f32 := sitofp .f32 main_v4
  let main_v6 : FVec F S4096x2048 .f32 := (fun l r => Host.dotGeneral dot_S4096x4096_S4096x2048_S4096x2048_1_0_0_1_n_n none l r) main_v2 main_v5
  let main_cst : FVec F S_ .f32 := constant S_ .f32 0x4B7FFFFF#32
  let main_v7 : FVec F S4096x2048 .f32 := broadcastInDim S4096x2048 ![] bcast_S_S4096x2048 main_cst
  let main_v8 : IVec S4096x2048 1 := cmpf .ole main_v6 main_v7
  main_v8
-- ==== Pre_exact_totals_SyncedIdeal.lean ====
abbrev S128x4096 : Shape := ⟨2, ![128, 4096]⟩
abbrev S4096x2048 : Shape := ⟨2, ![4096, 2048]⟩
abbrev S1 : Shape := ⟨1, ![1]⟩
abbrev S128x2048 : Shape := ⟨2, ![128, 2048]⟩
abbrev S_ : Shape := ⟨0, ![]⟩

class Facts : Prop where
  natLt_8_32 : 8 < 32
  bcast_S_S128x2048 : S_.BroadcastsInDim S128x2048 (![] : Fin 0 → Fin S128x2048.rank)
  dot_S128x4096_S4096x2048_S128x2048_1_0_0_1_n_n_wf : DotDims.WF S128x4096 S4096x2048 S128x2048 [1] [0] [0] [1] [] []

variable [Facts]

def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def fn {F : FTy → Type} [FloatOps F] (main_arg0 : IVec S128x4096 8) (main_arg1 : IVec S4096x2048 8) (main_arg2 : FVec F S1 .f32) (main_arg3 : FVec F S1 .f32) : IVec S128x2048 1 :=
  let main_v0 : IVec S128x4096 32 := (extsi 32 · natLt_8_32) main_arg0
  let main_v1 : IVec S128x4096 32 := absi main_v0
  let main_v2 : FVec F S128x4096 .f32 := sitofp .f32 main_v1
  let main_v3 : IVec S4096x2048 32 := (extsi 32 · natLt_8_32) main_arg1
  let main_v4 : IVec S4096x2048 32 := absi main_v3
  let main_v5 : FVec F S4096x2048 .f32 := sitofp .f32 main_v4
  let main_v6 : FVec F S128x2048 .f32 := (fun l r => Host.dotGeneral dot_S128x4096_S4096x2048_S128x2048_1_0_0_1_n_n none l r) main_v2 main_v5
  let main_cst : FVec F S_ .f32 := constant S_ .f32 0x4B7FFFFF#32
  let main_v7 : FVec F S128x2048 .f32 := broadcastInDim S128x2048 ![] bcast_S_S128x2048 main_cst
  let main_v8 : IVec S128x2048 1 := cmpf .ole main_v6 main_v7
  main_v8
-- ==== Kernel.lean ====
abbrev S128x4096 : Shape := ⟨2, ![128, 4096]⟩
abbrev S4096x2048 : Shape := ⟨2, ![4096, 2048]⟩
abbrev S1 : Shape := ⟨1, ![1]⟩
abbrev S4096x64 : Shape := ⟨2, ![4096, 64]⟩
abbrev S32x128x64 : Shape := ⟨3, ![32, 128, 64]⟩
abbrev S32 : Shape := ⟨1, ![32]⟩
abbrev S128x2048 : Shape := ⟨2, ![128, 2048]⟩
abbrev S128x64 : Shape := ⟨2, ![128, 64]⟩
abbrev S1x128x64 : Shape := ⟨3, ![1, 128, 64]⟩
abbrev S_ : Shape := ⟨0, ![]⟩

abbrev nBuf : Space → Nat
  | .hbm => 5
  | .vmem => 4
  | .smem => 2
  | _ => 0

abbrev bufTy : (tb : Table) → Fin (tcTables nBuf tb) → BufTy
  | .hbm, ⟨0, _⟩ => ⟨S128x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S128x4096, .i8⟩
  | .local _ .vmem, ⟨1, _⟩ => ⟨S4096x2048, .i8⟩
  | .local _ .vmem, ⟨2, _⟩ => ⟨S4096x64, .f32⟩
  | .local _ .vmem, ⟨3, _⟩ => ⟨S32x128x64, .f32⟩
  | .local _ .smem, ⟨0, _⟩ => ⟨S1, .f32⟩
  | .local _ .smem, ⟨1, _⟩ => ⟨S1, .f32⟩
  | _, _ => ⟨S128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 32
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : Index := Scalar.indexCast v2
  let c0_70 : Index := 0#32
  let c0_71 : Index := 0#32
  ![v142.toNat, 0, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v145 : BitVec 32 := Scalar.muli v2 c128_i32
  let v146 : Index := Scalar.indexCast v145
  let c0_72 : Index := 0#32
  ![v146.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_75 : BitVec 32 := 128#32
  let v150 : BitVec 32 := Scalar.muli v2 c128_i32_75
  let c0_i32_79 : BitVec 32 := 0#32
  ![v150.toNat, 0]
def k0_off4 (d0 : Dev nD) (c1_i32_73 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v148 : BitVec 32 := Scalar.addi v2 c1_i32_73
  let c32_i32_74 : BitVec 32 := 32#32
  let v149 : BitVec 32 := Scalar.remsi v148 c32_i32_74
  let c0_i32_80 : BitVec 32 := 0#32
  let c0_i32_81 : BitVec 32 := 0#32
  ![v149.toNat, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_73 : BitVec 32 := 1#32
  let v148 : BitVec 32 := Scalar.addi v2 c1_i32_73
  let c32_i32_74 : BitVec 32 := 32#32
  let v149 : BitVec 32 := Scalar.remsi v148 c32_i32_74
  let c1_i32_78 : BitVec 32 := 1#32
  let v151 : BitVec 32 := Scalar.muli v149 c1_i32_78
  let v152 : BitVec 32 := Scalar.addi c0_i32 v151
  v152.toNat
def k0_dev2 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v160 : BitVec 32 := Scalar.addi v2 c2_i32
  let c32_i32_82 : BitVec 32 := 32#32
  let v161 : BitVec 32 := Scalar.remsi v160 c32_i32_82
  let c1_i32_86 : BitVec 32 := 1#32
  let v163 : BitVec 32 := Scalar.muli v161 c1_i32_86
  let v164 : BitVec 32 := Scalar.addi c0_i32_87 v163
  v164.toNat
def k0_dev3 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v172 : BitVec 32 := Scalar.addi v2 c3_i32
  let c32_i32_91 : BitVec 32 := 32#32
  let v173 : BitVec 32 := Scalar.remsi v172 c32_i32_91
  let c1_i32_95 : BitVec 32 := 1#32
  let v175 : BitVec 32 := Scalar.muli v173 c1_i32_95
  let v176 : BitVec 32 := Scalar.addi c0_i32_96 v175
  v176.toNat
def k0_dev4 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v184 : BitVec 32 := Scalar.addi v2 c4_i32
  let c32_i32_100 : BitVec 32 := 32#32
  let v185 : BitVec 32 := Scalar.remsi v184 c32_i32_100
  let c1_i32_104 : BitVec 32 := 1#32
  let v187 : BitVec 32 := Scalar.muli v185 c1_i32_104
  let v188 : BitVec 32 := Scalar.addi c0_i32_105 v187
  v188.toNat
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v196 : BitVec 32 := Scalar.addi v2 c5_i32
  let c32_i32_109 : BitVec 32 := 32#32
  let v197 : BitVec 32 := Scalar.remsi v196 c32_i32_109
  let c1_i32_113 : BitVec 32 := 1#32
  let v199 : BitVec 32 := Scalar.muli v197 c1_i32_113
  let v200 : BitVec 32 := Scalar.addi c0_i32_114 v199
  v200.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v208 : BitVec 32 := Scalar.addi v2 c6_i32
  let c32_i32_118 : BitVec 32 := 32#32
  let v209 : BitVec 32 := Scalar.remsi v208 c32_i32_118
  let c1_i32_122 : BitVec 32 := 1#32
  let v211 : BitVec 32 := Scalar.muli v209 c1_i32_122
  let v212 : BitVec 32 := Scalar.addi c0_i32_123 v211
  v212.toNat
def k0_dev7 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v220 : BitVec 32 := Scalar.addi v2 c7_i32
  let c32_i32_127 : BitVec 32 := 32#32
  let v221 : BitVec 32 := Scalar.remsi v220 c32_i32_127
  let c1_i32_131 : BitVec 32 := 1#32
  let v223 : BitVec 32 := Scalar.muli v221 c1_i32_131
  let v224 : BitVec 32 := Scalar.addi c0_i32_132 v223
  v224.toNat
def k0_dev8 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v232 : BitVec 32 := Scalar.addi v2 c8_i32
  let c32_i32_136 : BitVec 32 := 32#32
  let v233 : BitVec 32 := Scalar.remsi v232 c32_i32_136
  let c1_i32_140 : BitVec 32 := 1#32
  let v235 : BitVec 32 := Scalar.muli v233 c1_i32_140
  let v236 : BitVec 32 := Scalar.addi c0_i32_141 v235
  v236.toNat
def k0_dev9 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v244 : BitVec 32 := Scalar.addi v2 c9_i32
  let c32_i32_145 : BitVec 32 := 32#32
  let v245 : BitVec 32 := Scalar.remsi v244 c32_i32_145
  let c1_i32_149 : BitVec 32 := 1#32
  let v247 : BitVec 32 := Scalar.muli v245 c1_i32_149
  let v248 : BitVec 32 := Scalar.addi c0_i32_150 v247
  v248.toNat
def k0_dev10 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v256 : BitVec 32 := Scalar.addi v2 c10_i32
  let c32_i32_154 : BitVec 32 := 32#32
  let v257 : BitVec 32 := Scalar.remsi v256 c32_i32_154
  let c1_i32_158 : BitVec 32 := 1#32
  let v259 : BitVec 32 := Scalar.muli v257 c1_i32_158
  let v260 : BitVec 32 := Scalar.addi c0_i32_159 v259
  v260.toNat
def k0_dev11 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v268 : BitVec 32 := Scalar.addi v2 c11_i32
  let c32_i32_163 : BitVec 32 := 32#32
  let v269 : BitVec 32 := Scalar.remsi v268 c32_i32_163
  let c1_i32_167 : BitVec 32 := 1#32
  let v271 : BitVec 32 := Scalar.muli v269 c1_i32_167
  let v272 : BitVec 32 := Scalar.addi c0_i32_168 v271
  v272.toNat
def k0_dev12 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v280 : BitVec 32 := Scalar.addi v2 c12_i32
  let c32_i32_172 : BitVec 32 := 32#32
  let v281 : BitVec 32 := Scalar.remsi v280 c32_i32_172
  let c1_i32_176 : BitVec 32 := 1#32
  let v283 : BitVec 32 := Scalar.muli v281 c1_i32_176
  let v284 : BitVec 32 := Scalar.addi c0_i32_177 v283
  v284.toNat
def k0_dev13 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v292 : BitVec 32 := Scalar.addi v2 c13_i32
  let c32_i32_181 : BitVec 32 := 32#32
  let v293 : BitVec 32 := Scalar.remsi v292 c32_i32_181
  let c1_i32_185 : BitVec 32 := 1#32
  let v295 : BitVec 32 := Scalar.muli v293 c1_i32_185
  let v296 : BitVec 32 := Scalar.addi c0_i32_186 v295
  v296.toNat
def k0_dev14 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v304 : BitVec 32 := Scalar.addi v2 c14_i32
  let c32_i32_190 : BitVec 32 := 32#32
  let v305 : BitVec 32 := Scalar.remsi v304 c32_i32_190
  let c1_i32_194 : BitVec 32 := 1#32
  let v307 : BitVec 32 := Scalar.muli v305 c1_i32_194
  let v308 : BitVec 32 := Scalar.addi c0_i32_195 v307
  v308.toNat
def k0_dev15 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v316 : BitVec 32 := Scalar.addi v2 c15_i32
  let c32_i32_199 : BitVec 32 := 32#32
  let v317 : BitVec 32 := Scalar.remsi v316 c32_i32_199
  let c1_i32_203 : BitVec 32 := 1#32
  let v319 : BitVec 32 := Scalar.muli v317 c1_i32_203
  let v320 : BitVec 32 := Scalar.addi c0_i32_204 v319
  v320.toNat
def k0_dev16 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v328 : BitVec 32 := Scalar.addi v2 c16_i32
  let c32_i32_208 : BitVec 32 := 32#32
  let v329 : BitVec 32 := Scalar.remsi v328 c32_i32_208
  let c1_i32_212 : BitVec 32 := 1#32
  let v331 : BitVec 32 := Scalar.muli v329 c1_i32_212
  let v332 : BitVec 32 := Scalar.addi c0_i32_213 v331
  v332.toNat
def k0_dev17 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v340 : BitVec 32 := Scalar.addi v2 c17_i32
  let c32_i32_217 : BitVec 32 := 32#32
  let v341 : BitVec 32 := Scalar.remsi v340 c32_i32_217
  let c1_i32_221 : BitVec 32 := 1#32
  let v343 : BitVec 32 := Scalar.muli v341 c1_i32_221
  let v344 : BitVec 32 := Scalar.addi c0_i32_222 v343
  v344.toNat
def k0_dev18 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v352 : BitVec 32 := Scalar.addi v2 c18_i32
  let c32_i32_226 : BitVec 32 := 32#32
  let v353 : BitVec 32 := Scalar.remsi v352 c32_i32_226
  let c1_i32_230 : BitVec 32 := 1#32
  let v355 : BitVec 32 := Scalar.muli v353 c1_i32_230
  let v356 : BitVec 32 := Scalar.addi c0_i32_231 v355
  v356.toNat
def k0_dev19 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v364 : BitVec 32 := Scalar.addi v2 c19_i32
  let c32_i32_235 : BitVec 32 := 32#32
  let v365 : BitVec 32 := Scalar.remsi v364 c32_i32_235
  let c1_i32_239 : BitVec 32 := 1#32
  let v367 : BitVec 32 := Scalar.muli v365 c1_i32_239
  let v368 : BitVec 32 := Scalar.addi c0_i32_240 v367
  v368.toNat
def k0_dev20 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v376 : BitVec 32 := Scalar.addi v2 c20_i32
  let c32_i32_244 : BitVec 32 := 32#32
  let v377 : BitVec 32 := Scalar.remsi v376 c32_i32_244
  let c1_i32_248 : BitVec 32 := 1#32
  let v379 : BitVec 32 := Scalar.muli v377 c1_i32_248
  let v380 : BitVec 32 := Scalar.addi c0_i32_249 v379
  v380.toNat
def k0_dev21 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v388 : BitVec 32 := Scalar.addi v2 c21_i32
  let c32_i32_253 : BitVec 32 := 32#32
  let v389 : BitVec 32 := Scalar.remsi v388 c32_i32_253
  let c1_i32_257 : BitVec 32 := 1#32
  let v391 : BitVec 32 := Scalar.muli v389 c1_i32_257
  let v392 : BitVec 32 := Scalar.addi c0_i32_258 v391
  v392.toNat
def k0_dev22 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v400 : BitVec 32 := Scalar.addi v2 c22_i32
  let c32_i32_262 : BitVec 32 := 32#32
  let v401 : BitVec 32 := Scalar.remsi v400 c32_i32_262
  let c1_i32_266 : BitVec 32 := 1#32
  let v403 : BitVec 32 := Scalar.muli v401 c1_i32_266
  let v404 : BitVec 32 := Scalar.addi c0_i32_267 v403
  v404.toNat
def k0_dev23 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v412 : BitVec 32 := Scalar.addi v2 c23_i32
  let c32_i32_271 : BitVec 32 := 32#32
  let v413 : BitVec 32 := Scalar.remsi v412 c32_i32_271
  let c1_i32_275 : BitVec 32 := 1#32
  let v415 : BitVec 32 := Scalar.muli v413 c1_i32_275
  let v416 : BitVec 32 := Scalar.addi c0_i32_276 v415
  v416.toNat
def k0_dev24 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v424 : BitVec 32 := Scalar.addi v2 c24_i32
  let c32_i32_280 : BitVec 32 := 32#32
  let v425 : BitVec 32 := Scalar.remsi v424 c32_i32_280
  let c1_i32_284 : BitVec 32 := 1#32
  let v427 : BitVec 32 := Scalar.muli v425 c1_i32_284
  let v428 : BitVec 32 := Scalar.addi c0_i32_285 v427
  v428.toNat
def k0_dev25 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v436 : BitVec 32 := Scalar.addi v2 c25_i32
  let c32_i32_289 : BitVec 32 := 32#32
  let v437 : BitVec 32 := Scalar.remsi v436 c32_i32_289
  let c1_i32_293 : BitVec 32 := 1#32
  let v439 : BitVec 32 := Scalar.muli v437 c1_i32_293
  let v440 : BitVec 32 := Scalar.addi c0_i32_294 v439
  v440.toNat
def k0_dev26 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v448 : BitVec 32 := Scalar.addi v2 c26_i32
  let c32_i32_298 : BitVec 32 := 32#32
  let v449 : BitVec 32 := Scalar.remsi v448 c32_i32_298
  let c1_i32_302 : BitVec 32 := 1#32
  let v451 : BitVec 32 := Scalar.muli v449 c1_i32_302
  let v452 : BitVec 32 := Scalar.addi c0_i32_303 v451
  v452.toNat
def k0_dev27 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v460 : BitVec 32 := Scalar.addi v2 c27_i32
  let c32_i32_307 : BitVec 32 := 32#32
  let v461 : BitVec 32 := Scalar.remsi v460 c32_i32_307
  let c1_i32_311 : BitVec 32 := 1#32
  let v463 : BitVec 32 := Scalar.muli v461 c1_i32_311
  let v464 : BitVec 32 := Scalar.addi c0_i32_312 v463
  v464.toNat
def k0_dev28 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v472 : BitVec 32 := Scalar.addi v2 c28_i32
  let c32_i32_316 : BitVec 32 := 32#32
  let v473 : BitVec 32 := Scalar.remsi v472 c32_i32_316
  let c1_i32_320 : BitVec 32 := 1#32
  let v475 : BitVec 32 := Scalar.muli v473 c1_i32_320
  let v476 : BitVec 32 := Scalar.addi c0_i32_321 v475
  v476.toNat
def k0_dev29 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v484 : BitVec 32 := Scalar.addi v2 c29_i32
  let c32_i32_325 : BitVec 32 := 32#32
  let v485 : BitVec 32 := Scalar.remsi v484 c32_i32_325
  let c1_i32_329 : BitVec 32 := 1#32
  let v487 : BitVec 32 := Scalar.muli v485 c1_i32_329
  let v488 : BitVec 32 := Scalar.addi c0_i32_330 v487
  v488.toNat
def k0_dev30 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v496 : BitVec 32 := Scalar.addi v2 c30_i32
  let c32_i32_334 : BitVec 32 := 32#32
  let v497 : BitVec 32 := Scalar.remsi v496 c32_i32_334
  let c1_i32_338 : BitVec 32 := 1#32
  let v499 : BitVec 32 := Scalar.muli v497 c1_i32_338
  let v500 : BitVec 32 := Scalar.addi c0_i32_339 v499
  v500.toNat
def k0_dev31 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v508 : BitVec 32 := Scalar.addi v2 c31_i32
  let c32_i32_343 : BitVec 32 := 32#32
  let v509 : BitVec 32 := Scalar.remsi v508 c32_i32_343
  let c1_i32_347 : BitVec 32 := 1#32
  let v511 : BitVec 32 := Scalar.muli v509 c1_i32_347
  let v512 : BitVec 32 := Scalar.addi c0_i32_348 v511
  v512.toNat
abbrev stage0_0 : Fin 1 → Memref sig .tc .vmem S128x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Synced.lean ====
abbrev S128x4096 : Shape := ⟨2, ![128, 4096]⟩
abbrev S4096x2048 : Shape := ⟨2, ![4096, 2048]⟩
abbrev S1 : Shape := ⟨1, ![1]⟩
abbrev S4096x64 : Shape := ⟨2, ![4096, 64]⟩
abbrev S32x128x64 : Shape := ⟨3, ![32, 128, 64]⟩
abbrev S32 : Shape := ⟨1, ![32]⟩
abbrev S128x2048 : Shape := ⟨2, ![128, 2048]⟩
abbrev S128x64 : Shape := ⟨2, ![128, 64]⟩
abbrev S1x128x64 : Shape := ⟨3, ![1, 128, 64]⟩
abbrev S_ : Shape := ⟨0, ![]⟩

abbrev nBuf : Space → Nat
  | .hbm => 5
  | .vmem => 4
  | .smem => 2
  | _ => 0

abbrev bufTy : (tb : Table) → Fin (tcTables nBuf tb) → BufTy
  | .hbm, ⟨0, _⟩ => ⟨S128x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S128x4096, .i8⟩
  | .local _ .vmem, ⟨1, _⟩ => ⟨S4096x2048, .i8⟩
  | .local _ .vmem, ⟨2, _⟩ => ⟨S4096x64, .f32⟩
  | .local _ .vmem, ⟨3, _⟩ => ⟨S32x128x64, .f32⟩
  | .local _ .smem, ⟨0, _⟩ => ⟨S1, .f32⟩
  | .local _ .smem, ⟨1, _⟩ => ⟨S1, .f32⟩
  | _, _ => ⟨S128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : Index := Scalar.indexCast v2
  let c0_70 : Index := 0#32
  let c0_71 : Index := 0#32
  ![v142.toNat, 0, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v145 : BitVec 32 := Scalar.muli v2 c128_i32
  let v146 : Index := Scalar.indexCast v145
  let c0_72 : Index := 0#32
  ![v146.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_73 : BitVec 32 := 1#32
  let v149 : BitVec 32 := Scalar.addi v2 c1_i32_73
  let c32_i32_74 : BitVec 32 := 32#32
  let v150 : BitVec 32 := Scalar.remsi v149 c32_i32_74
  let c1_i32_76 : BitVec 32 := 1#32
  let v151 : BitVec 32 := Scalar.muli v150 c1_i32_76
  let v152 : BitVec 32 := Scalar.addi c0_i32 v151
  v152.toNat
def k0_dev2 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v153 : BitVec 32 := Scalar.addi v2 c2_i32
  let c32_i32_77 : BitVec 32 := 32#32
  let v154 : BitVec 32 := Scalar.remsi v153 c32_i32_77
  let c1_i32_79 : BitVec 32 := 1#32
  let v155 : BitVec 32 := Scalar.muli v154 c1_i32_79
  let v156 : BitVec 32 := Scalar.addi c0_i32_80 v155
  v156.toNat
def k0_dev3 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v157 : BitVec 32 := Scalar.addi v2 c3_i32
  let c32_i32_81 : BitVec 32 := 32#32
  let v158 : BitVec 32 := Scalar.remsi v157 c32_i32_81
  let c1_i32_83 : BitVec 32 := 1#32
  let v159 : BitVec 32 := Scalar.muli v158 c1_i32_83
  let v160 : BitVec 32 := Scalar.addi c0_i32_84 v159
  v160.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v161 : BitVec 32 := Scalar.addi v2 c4_i32
  let c32_i32_85 : BitVec 32 := 32#32
  let v162 : BitVec 32 := Scalar.remsi v161 c32_i32_85
  let c1_i32_87 : BitVec 32 := 1#32
  let v163 : BitVec 32 := Scalar.muli v162 c1_i32_87
  let v164 : BitVec 32 := Scalar.addi c0_i32_88 v163
  v164.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v165 : BitVec 32 := Scalar.addi v2 c5_i32
  let c32_i32_89 : BitVec 32 := 32#32
  let v166 : BitVec 32 := Scalar.remsi v165 c32_i32_89
  let c1_i32_91 : BitVec 32 := 1#32
  let v167 : BitVec 32 := Scalar.muli v166 c1_i32_91
  let v168 : BitVec 32 := Scalar.addi c0_i32_92 v167
  v168.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v169 : BitVec 32 := Scalar.addi v2 c6_i32
  let c32_i32_93 : BitVec 32 := 32#32
  let v170 : BitVec 32 := Scalar.remsi v169 c32_i32_93
  let c1_i32_95 : BitVec 32 := 1#32
  let v171 : BitVec 32 := Scalar.muli v170 c1_i32_95
  let v172 : BitVec 32 := Scalar.addi c0_i32_96 v171
  v172.toNat
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v173 : BitVec 32 := Scalar.addi v2 c7_i32
  let c32_i32_97 : BitVec 32 := 32#32
  let v174 : BitVec 32 := Scalar.remsi v173 c32_i32_97
  let c1_i32_99 : BitVec 32 := 1#32
  let v175 : BitVec 32 := Scalar.muli v174 c1_i32_99
  let v176 : BitVec 32 := Scalar.addi c0_i32_100 v175
  v176.toNat
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v177 : BitVec 32 := Scalar.addi v2 c8_i32
  let c32_i32_101 : BitVec 32 := 32#32
  let v178 : BitVec 32 := Scalar.remsi v177 c32_i32_101
  let c1_i32_103 : BitVec 32 := 1#32
  let v179 : BitVec 32 := Scalar.muli v178 c1_i32_103
  let v180 : BitVec 32 := Scalar.addi c0_i32_104 v179
  v180.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v181 : BitVec 32 := Scalar.addi v2 c9_i32
  let c32_i32_105 : BitVec 32 := 32#32
  let v182 : BitVec 32 := Scalar.remsi v181 c32_i32_105
  let c1_i32_107 : BitVec 32 := 1#32
  let v183 : BitVec 32 := Scalar.muli v182 c1_i32_107
  let v184 : BitVec 32 := Scalar.addi c0_i32_108 v183
  v184.toNat
def k0_dev10 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v185 : BitVec 32 := Scalar.addi v2 c10_i32
  let c32_i32_109 : BitVec 32 := 32#32
  let v186 : BitVec 32 := Scalar.remsi v185 c32_i32_109
  let c1_i32_111 : BitVec 32 := 1#32
  let v187 : BitVec 32 := Scalar.muli v186 c1_i32_111
  let v188 : BitVec 32 := Scalar.addi c0_i32_112 v187
  v188.toNat
def k0_dev11 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v189 : BitVec 32 := Scalar.addi v2 c11_i32
  let c32_i32_113 : BitVec 32 := 32#32
  let v190 : BitVec 32 := Scalar.remsi v189 c32_i32_113
  let c1_i32_115 : BitVec 32 := 1#32
  let v191 : BitVec 32 := Scalar.muli v190 c1_i32_115
  let v192 : BitVec 32 := Scalar.addi c0_i32_116 v191
  v192.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v193 : BitVec 32 := Scalar.addi v2 c12_i32
  let c32_i32_117 : BitVec 32 := 32#32
  let v194 : BitVec 32 := Scalar.remsi v193 c32_i32_117
  let c1_i32_119 : BitVec 32 := 1#32
  let v195 : BitVec 32 := Scalar.muli v194 c1_i32_119
  let v196 : BitVec 32 := Scalar.addi c0_i32_120 v195
  v196.toNat
def k0_dev13 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v197 : BitVec 32 := Scalar.addi v2 c13_i32
  let c32_i32_121 : BitVec 32 := 32#32
  let v198 : BitVec 32 := Scalar.remsi v197 c32_i32_121
  let c1_i32_123 : BitVec 32 := 1#32
  let v199 : BitVec 32 := Scalar.muli v198 c1_i32_123
  let v200 : BitVec 32 := Scalar.addi c0_i32_124 v199
  v200.toNat
def k0_dev14 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v201 : BitVec 32 := Scalar.addi v2 c14_i32
  let c32_i32_125 : BitVec 32 := 32#32
  let v202 : BitVec 32 := Scalar.remsi v201 c32_i32_125
  let c1_i32_127 : BitVec 32 := 1#32
  let v203 : BitVec 32 := Scalar.muli v202 c1_i32_127
  let v204 : BitVec 32 := Scalar.addi c0_i32_128 v203
  v204.toNat
def k0_dev15 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v205 : BitVec 32 := Scalar.addi v2 c15_i32
  let c32_i32_129 : BitVec 32 := 32#32
  let v206 : BitVec 32 := Scalar.remsi v205 c32_i32_129
  let c1_i32_131 : BitVec 32 := 1#32
  let v207 : BitVec 32 := Scalar.muli v206 c1_i32_131
  let v208 : BitVec 32 := Scalar.addi c0_i32_132 v207
  v208.toNat
def k0_dev16 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v209 : BitVec 32 := Scalar.addi v2 c16_i32
  let c32_i32_133 : BitVec 32 := 32#32
  let v210 : BitVec 32 := Scalar.remsi v209 c32_i32_133
  let c1_i32_135 : BitVec 32 := 1#32
  let v211 : BitVec 32 := Scalar.muli v210 c1_i32_135
  let v212 : BitVec 32 := Scalar.addi c0_i32_136 v211
  v212.toNat
def k0_dev17 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v213 : BitVec 32 := Scalar.addi v2 c17_i32
  let c32_i32_137 : BitVec 32 := 32#32
  let v214 : BitVec 32 := Scalar.remsi v213 c32_i32_137
  let c1_i32_139 : BitVec 32 := 1#32
  let v215 : BitVec 32 := Scalar.muli v214 c1_i32_139
  let v216 : BitVec 32 := Scalar.addi c0_i32_140 v215
  v216.toNat
def k0_dev18 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v217 : BitVec 32 := Scalar.addi v2 c18_i32
  let c32_i32_141 : BitVec 32 := 32#32
  let v218 : BitVec 32 := Scalar.remsi v217 c32_i32_141
  let c1_i32_143 : BitVec 32 := 1#32
  let v219 : BitVec 32 := Scalar.muli v218 c1_i32_143
  let v220 : BitVec 32 := Scalar.addi c0_i32_144 v219
  v220.toNat
def k0_dev19 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v221 : BitVec 32 := Scalar.addi v2 c19_i32
  let c32_i32_145 : BitVec 32 := 32#32
  let v222 : BitVec 32 := Scalar.remsi v221 c32_i32_145
  let c1_i32_147 : BitVec 32 := 1#32
  let v223 : BitVec 32 := Scalar.muli v222 c1_i32_147
  let v224 : BitVec 32 := Scalar.addi c0_i32_148 v223
  v224.toNat
def k0_dev20 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v225 : BitVec 32 := Scalar.addi v2 c20_i32
  let c32_i32_149 : BitVec 32 := 32#32
  let v226 : BitVec 32 := Scalar.remsi v225 c32_i32_149
  let c1_i32_151 : BitVec 32 := 1#32
  let v227 : BitVec 32 := Scalar.muli v226 c1_i32_151
  let v228 : BitVec 32 := Scalar.addi c0_i32_152 v227
  v228.toNat
def k0_dev21 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v229 : BitVec 32 := Scalar.addi v2 c21_i32
  let c32_i32_153 : BitVec 32 := 32#32
  let v230 : BitVec 32 := Scalar.remsi v229 c32_i32_153
  let c1_i32_155 : BitVec 32 := 1#32
  let v231 : BitVec 32 := Scalar.muli v230 c1_i32_155
  let v232 : BitVec 32 := Scalar.addi c0_i32_156 v231
  v232.toNat
def k0_dev22 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v233 : BitVec 32 := Scalar.addi v2 c22_i32
  let c32_i32_157 : BitVec 32 := 32#32
  let v234 : BitVec 32 := Scalar.remsi v233 c32_i32_157
  let c1_i32_159 : BitVec 32 := 1#32
  let v235 : BitVec 32 := Scalar.muli v234 c1_i32_159
  let v236 : BitVec 32 := Scalar.addi c0_i32_160 v235
  v236.toNat
def k0_dev23 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v237 : BitVec 32 := Scalar.addi v2 c23_i32
  let c32_i32_161 : BitVec 32 := 32#32
  let v238 : BitVec 32 := Scalar.remsi v237 c32_i32_161
  let c1_i32_163 : BitVec 32 := 1#32
  let v239 : BitVec 32 := Scalar.muli v238 c1_i32_163
  let v240 : BitVec 32 := Scalar.addi c0_i32_164 v239
  v240.toNat
def k0_dev24 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v241 : BitVec 32 := Scalar.addi v2 c24_i32
  let c32_i32_165 : BitVec 32 := 32#32
  let v242 : BitVec 32 := Scalar.remsi v241 c32_i32_165
  let c1_i32_167 : BitVec 32 := 1#32
  let v243 : BitVec 32 := Scalar.muli v242 c1_i32_167
  let v244 : BitVec 32 := Scalar.addi c0_i32_168 v243
  v244.toNat
def k0_dev25 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v245 : BitVec 32 := Scalar.addi v2 c25_i32
  let c32_i32_169 : BitVec 32 := 32#32
  let v246 : BitVec 32 := Scalar.remsi v245 c32_i32_169
  let c1_i32_171 : BitVec 32 := 1#32
  let v247 : BitVec 32 := Scalar.muli v246 c1_i32_171
  let v248 : BitVec 32 := Scalar.addi c0_i32_172 v247
  v248.toNat
def k0_dev26 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v249 : BitVec 32 := Scalar.addi v2 c26_i32
  let c32_i32_173 : BitVec 32 := 32#32
  let v250 : BitVec 32 := Scalar.remsi v249 c32_i32_173
  let c1_i32_175 : BitVec 32 := 1#32
  let v251 : BitVec 32 := Scalar.muli v250 c1_i32_175
  let v252 : BitVec 32 := Scalar.addi c0_i32_176 v251
  v252.toNat
def k0_dev27 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v253 : BitVec 32 := Scalar.addi v2 c27_i32
  let c32_i32_177 : BitVec 32 := 32#32
  let v254 : BitVec 32 := Scalar.remsi v253 c32_i32_177
  let c1_i32_179 : BitVec 32 := 1#32
  let v255 : BitVec 32 := Scalar.muli v254 c1_i32_179
  let v256 : BitVec 32 := Scalar.addi c0_i32_180 v255
  v256.toNat
def k0_dev28 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v257 : BitVec 32 := Scalar.addi v2 c28_i32
  let c32_i32_181 : BitVec 32 := 32#32
  let v258 : BitVec 32 := Scalar.remsi v257 c32_i32_181
  let c1_i32_183 : BitVec 32 := 1#32
  let v259 : BitVec 32 := Scalar.muli v258 c1_i32_183
  let v260 : BitVec 32 := Scalar.addi c0_i32_184 v259
  v260.toNat
def k0_dev29 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v261 : BitVec 32 := Scalar.addi v2 c29_i32
  let c32_i32_185 : BitVec 32 := 32#32
  let v262 : BitVec 32 := Scalar.remsi v261 c32_i32_185
  let c1_i32_187 : BitVec 32 := 1#32
  let v263 : BitVec 32 := Scalar.muli v262 c1_i32_187
  let v264 : BitVec 32 := Scalar.addi c0_i32_188 v263
  v264.toNat
def k0_dev30 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v265 : BitVec 32 := Scalar.addi v2 c30_i32
  let c32_i32_189 : BitVec 32 := 32#32
  let v266 : BitVec 32 := Scalar.remsi v265 c32_i32_189
  let c1_i32_191 : BitVec 32 := 1#32
  let v267 : BitVec 32 := Scalar.muli v266 c1_i32_191
  let v268 : BitVec 32 := Scalar.addi c0_i32_192 v267
  v268.toNat
def k0_dev31 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v269 : BitVec 32 := Scalar.addi v2 c31_i32
  let c32_i32_193 : BitVec 32 := 32#32
  let v270 : BitVec 32 := Scalar.remsi v269 c32_i32_193
  let c1_i32_195 : BitVec 32 := 1#32
  let v271 : BitVec 32 := Scalar.muli v270 c1_i32_195
  let v272 : BitVec 32 := Scalar.addi c0_i32_196 v271
  v272.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_200 : BitVec 32 := 128#32
  let v275 : BitVec 32 := Scalar.muli v2 c128_i32_200
  let c0_i32_205 : BitVec 32 := 0#32
  ![v275.toNat, 0]
def k0_off4 (d0 : Dev nD) (c1_i32_198 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v273 : BitVec 32 := Scalar.addi v2 c1_i32_198
  let c32_i32_199 : BitVec 32 := 32#32
  let v274 : BitVec 32 := Scalar.remsi v273 c32_i32_199
  let c0_i32_206 : BitVec 32 := 0#32
  let c0_i32_207 : BitVec 32 := 0#32
  ![v274.toNat, 0, 0]
def k0_dev32 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_198 : BitVec 32 := 1#32
  let v273 : BitVec 32 := Scalar.addi v2 c1_i32_198
  let c32_i32_199 : BitVec 32 := 32#32
  let v274 : BitVec 32 := Scalar.remsi v273 c32_i32_199
  let c1_i32_203 : BitVec 32 := 1#32
  let v276 : BitVec 32 := Scalar.muli v274 c1_i32_203
  let v277 : BitVec 32 := Scalar.addi c0_i32_204 v276
  v277.toNat
def k0_dev33 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_208 : BitVec 32 := 2#32
  let v285 : BitVec 32 := Scalar.addi v2 c2_i32_208
  let c32_i32_209 : BitVec 32 := 32#32
  let v286 : BitVec 32 := Scalar.remsi v285 c32_i32_209
  let c1_i32_213 : BitVec 32 := 1#32
  let v288 : BitVec 32 := Scalar.muli v286 c1_i32_213
  let v289 : BitVec 32 := Scalar.addi c0_i32_214 v288
  v289.toNat
def k0_dev34 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_218 : BitVec 32 := 3#32
  let v297 : BitVec 32 := Scalar.addi v2 c3_i32_218
  let c32_i32_219 : BitVec 32 := 32#32
  let v298 : BitVec 32 := Scalar.remsi v297 c32_i32_219
  let c1_i32_223 : BitVec 32 := 1#32
  let v300 : BitVec 32 := Scalar.muli v298 c1_i32_223
  let v301 : BitVec 32 := Scalar.addi c0_i32_224 v300
  v301.toNat
def k0_dev35 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_228 : BitVec 32 := 4#32
  let v309 : BitVec 32 := Scalar.addi v2 c4_i32_228
  let c32_i32_229 : BitVec 32 := 32#32
  let v310 : BitVec 32 := Scalar.remsi v309 c32_i32_229
  let c1_i32_233 : BitVec 32 := 1#32
  let v312 : BitVec 32 := Scalar.muli v310 c1_i32_233
  let v313 : BitVec 32 := Scalar.addi c0_i32_234 v312
  v313.toNat
def k0_dev36 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_238 : BitVec 32 := 5#32
  let v321 : BitVec 32 := Scalar.addi v2 c5_i32_238
  let c32_i32_239 : BitVec 32 := 32#32
  let v322 : BitVec 32 := Scalar.remsi v321 c32_i32_239
  let c1_i32_243 : BitVec 32 := 1#32
  let v324 : BitVec 32 := Scalar.muli v322 c1_i32_243
  let v325 : BitVec 32 := Scalar.addi c0_i32_244 v324
  v325.toNat
def k0_dev37 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_248 : BitVec 32 := 6#32
  let v333 : BitVec 32 := Scalar.addi v2 c6_i32_248
  let c32_i32_249 : BitVec 32 := 32#32
  let v334 : BitVec 32 := Scalar.remsi v333 c32_i32_249
  let c1_i32_253 : BitVec 32 := 1#32
  let v336 : BitVec 32 := Scalar.muli v334 c1_i32_253
  let v337 : BitVec 32 := Scalar.addi c0_i32_254 v336
  v337.toNat
def k0_dev38 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_258 : BitVec 32 := 7#32
  let v345 : BitVec 32 := Scalar.addi v2 c7_i32_258
  let c32_i32_259 : BitVec 32 := 32#32
  let v346 : BitVec 32 := Scalar.remsi v345 c32_i32_259
  let c1_i32_263 : BitVec 32 := 1#32
  let v348 : BitVec 32 := Scalar.muli v346 c1_i32_263
  let v349 : BitVec 32 := Scalar.addi c0_i32_264 v348
  v349.toNat
def k0_dev39 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_268 : BitVec 32 := 8#32
  let v357 : BitVec 32 := Scalar.addi v2 c8_i32_268
  let c32_i32_269 : BitVec 32 := 32#32
  let v358 : BitVec 32 := Scalar.remsi v357 c32_i32_269
  let c1_i32_273 : BitVec 32 := 1#32
  let v360 : BitVec 32 := Scalar.muli v358 c1_i32_273
  let v361 : BitVec 32 := Scalar.addi c0_i32_274 v360
  v361.toNat
def k0_dev40 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_278 : BitVec 32 := 9#32
  let v369 : BitVec 32 := Scalar.addi v2 c9_i32_278
  let c32_i32_279 : BitVec 32 := 32#32
  let v370 : BitVec 32 := Scalar.remsi v369 c32_i32_279
  let c1_i32_283 : BitVec 32 := 1#32
  let v372 : BitVec 32 := Scalar.muli v370 c1_i32_283
  let v373 : BitVec 32 := Scalar.addi c0_i32_284 v372
  v373.toNat
def k0_dev41 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_288 : BitVec 32 := 10#32
  let v381 : BitVec 32 := Scalar.addi v2 c10_i32_288
  let c32_i32_289 : BitVec 32 := 32#32
  let v382 : BitVec 32 := Scalar.remsi v381 c32_i32_289
  let c1_i32_293 : BitVec 32 := 1#32
  let v384 : BitVec 32 := Scalar.muli v382 c1_i32_293
  let v385 : BitVec 32 := Scalar.addi c0_i32_294 v384
  v385.toNat
def k0_dev42 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_298 : BitVec 32 := 11#32
  let v393 : BitVec 32 := Scalar.addi v2 c11_i32_298
  let c32_i32_299 : BitVec 32 := 32#32
  let v394 : BitVec 32 := Scalar.remsi v393 c32_i32_299
  let c1_i32_303 : BitVec 32 := 1#32
  let v396 : BitVec 32 := Scalar.muli v394 c1_i32_303
  let v397 : BitVec 32 := Scalar.addi c0_i32_304 v396
  v397.toNat
def k0_dev43 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_308 : BitVec 32 := 12#32
  let v405 : BitVec 32 := Scalar.addi v2 c12_i32_308
  let c32_i32_309 : BitVec 32 := 32#32
  let v406 : BitVec 32 := Scalar.remsi v405 c32_i32_309
  let c1_i32_313 : BitVec 32 := 1#32
  let v408 : BitVec 32 := Scalar.muli v406 c1_i32_313
  let v409 : BitVec 32 := Scalar.addi c0_i32_314 v408
  v409.toNat
def k0_dev44 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_318 : BitVec 32 := 13#32
  let v417 : BitVec 32 := Scalar.addi v2 c13_i32_318
  let c32_i32_319 : BitVec 32 := 32#32
  let v418 : BitVec 32 := Scalar.remsi v417 c32_i32_319
  let c1_i32_323 : BitVec 32 := 1#32
  let v420 : BitVec 32 := Scalar.muli v418 c1_i32_323
  let v421 : BitVec 32 := Scalar.addi c0_i32_324 v420
  v421.toNat
def k0_dev45 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_328 : BitVec 32 := 14#32
  let v429 : BitVec 32 := Scalar.addi v2 c14_i32_328
  let c32_i32_329 : BitVec 32 := 32#32
  let v430 : BitVec 32 := Scalar.remsi v429 c32_i32_329
  let c1_i32_333 : BitVec 32 := 1#32
  let v432 : BitVec 32 := Scalar.muli v430 c1_i32_333
  let v433 : BitVec 32 := Scalar.addi c0_i32_334 v432
  v433.toNat
def k0_dev46 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_338 : BitVec 32 := 15#32
  let v441 : BitVec 32 := Scalar.addi v2 c15_i32_338
  let c32_i32_339 : BitVec 32 := 32#32
  let v442 : BitVec 32 := Scalar.remsi v441 c32_i32_339
  let c1_i32_343 : BitVec 32 := 1#32
  let v444 : BitVec 32 := Scalar.muli v442 c1_i32_343
  let v445 : BitVec 32 := Scalar.addi c0_i32_344 v444
  v445.toNat
def k0_dev47 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_348 : BitVec 32 := 16#32
  let v453 : BitVec 32 := Scalar.addi v2 c16_i32_348
  let c32_i32_349 : BitVec 32 := 32#32
  let v454 : BitVec 32 := Scalar.remsi v453 c32_i32_349
  let c1_i32_353 : BitVec 32 := 1#32
  let v456 : BitVec 32 := Scalar.muli v454 c1_i32_353
  let v457 : BitVec 32 := Scalar.addi c0_i32_354 v456
  v457.toNat
def k0_dev48 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_358 : BitVec 32 := 17#32
  let v465 : BitVec 32 := Scalar.addi v2 c17_i32_358
  let c32_i32_359 : BitVec 32 := 32#32
  let v466 : BitVec 32 := Scalar.remsi v465 c32_i32_359
  let c1_i32_363 : BitVec 32 := 1#32
  let v468 : BitVec 32 := Scalar.muli v466 c1_i32_363
  let v469 : BitVec 32 := Scalar.addi c0_i32_364 v468
  v469.toNat
def k0_dev49 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_368 : BitVec 32 := 18#32
  let v477 : BitVec 32 := Scalar.addi v2 c18_i32_368
  let c32_i32_369 : BitVec 32 := 32#32
  let v478 : BitVec 32 := Scalar.remsi v477 c32_i32_369
  let c1_i32_373 : BitVec 32 := 1#32
  let v480 : BitVec 32 := Scalar.muli v478 c1_i32_373
  let v481 : BitVec 32 := Scalar.addi c0_i32_374 v480
  v481.toNat
def k0_dev50 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_378 : BitVec 32 := 19#32
  let v489 : BitVec 32 := Scalar.addi v2 c19_i32_378
  let c32_i32_379 : BitVec 32 := 32#32
  let v490 : BitVec 32 := Scalar.remsi v489 c32_i32_379
  let c1_i32_383 : BitVec 32 := 1#32
  let v492 : BitVec 32 := Scalar.muli v490 c1_i32_383
  let v493 : BitVec 32 := Scalar.addi c0_i32_384 v492
  v493.toNat
def k0_dev51 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_388 : BitVec 32 := 20#32
  let v501 : BitVec 32 := Scalar.addi v2 c20_i32_388
  let c32_i32_389 : BitVec 32 := 32#32
  let v502 : BitVec 32 := Scalar.remsi v501 c32_i32_389
  let c1_i32_393 : BitVec 32 := 1#32
  let v504 : BitVec 32 := Scalar.muli v502 c1_i32_393
  let v505 : BitVec 32 := Scalar.addi c0_i32_394 v504
  v505.toNat
def k0_dev52 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_398 : BitVec 32 := 21#32
  let v513 : BitVec 32 := Scalar.addi v2 c21_i32_398
  let c32_i32_399 : BitVec 32 := 32#32
  let v514 : BitVec 32 := Scalar.remsi v513 c32_i32_399
  let c1_i32_403 : BitVec 32 := 1#32
  let v516 : BitVec 32 := Scalar.muli v514 c1_i32_403
  let v517 : BitVec 32 := Scalar.addi c0_i32_404 v516
  v517.toNat
def k0_dev53 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_408 : BitVec 32 := 22#32
  let v525 : BitVec 32 := Scalar.addi v2 c22_i32_408
  let c32_i32_409 : BitVec 32 := 32#32
  let v526 : BitVec 32 := Scalar.remsi v525 c32_i32_409
  let c1_i32_413 : BitVec 32 := 1#32
  let v528 : BitVec 32 := Scalar.muli v526 c1_i32_413
  let v529 : BitVec 32 := Scalar.addi c0_i32_414 v528
  v529.toNat
def k0_dev54 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_418 : BitVec 32 := 23#32
  let v537 : BitVec 32 := Scalar.addi v2 c23_i32_418
  let c32_i32_419 : BitVec 32 := 32#32
  let v538 : BitVec 32 := Scalar.remsi v537 c32_i32_419
  let c1_i32_423 : BitVec 32 := 1#32
  let v540 : BitVec 32 := Scalar.muli v538 c1_i32_423
  let v541 : BitVec 32 := Scalar.addi c0_i32_424 v540
  v541.toNat
def k0_dev55 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_428 : BitVec 32 := 24#32
  let v549 : BitVec 32 := Scalar.addi v2 c24_i32_428
  let c32_i32_429 : BitVec 32 := 32#32
  let v550 : BitVec 32 := Scalar.remsi v549 c32_i32_429
  let c1_i32_433 : BitVec 32 := 1#32
  let v552 : BitVec 32 := Scalar.muli v550 c1_i32_433
  let v553 : BitVec 32 := Scalar.addi c0_i32_434 v552
  v553.toNat
def k0_dev56 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_438 : BitVec 32 := 25#32
  let v561 : BitVec 32 := Scalar.addi v2 c25_i32_438
  let c32_i32_439 : BitVec 32 := 32#32
  let v562 : BitVec 32 := Scalar.remsi v561 c32_i32_439
  let c1_i32_443 : BitVec 32 := 1#32
  let v564 : BitVec 32 := Scalar.muli v562 c1_i32_443
  let v565 : BitVec 32 := Scalar.addi c0_i32_444 v564
  v565.toNat
def k0_dev57 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_448 : BitVec 32 := 26#32
  let v573 : BitVec 32 := Scalar.addi v2 c26_i32_448
  let c32_i32_449 : BitVec 32 := 32#32
  let v574 : BitVec 32 := Scalar.remsi v573 c32_i32_449
  let c1_i32_453 : BitVec 32 := 1#32
  let v576 : BitVec 32 := Scalar.muli v574 c1_i32_453
  let v577 : BitVec 32 := Scalar.addi c0_i32_454 v576
  v577.toNat
def k0_dev58 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_458 : BitVec 32 := 27#32
  let v585 : BitVec 32 := Scalar.addi v2 c27_i32_458
  let c32_i32_459 : BitVec 32 := 32#32
  let v586 : BitVec 32 := Scalar.remsi v585 c32_i32_459
  let c1_i32_463 : BitVec 32 := 1#32
  let v588 : BitVec 32 := Scalar.muli v586 c1_i32_463
  let v589 : BitVec 32 := Scalar.addi c0_i32_464 v588
  v589.toNat
def k0_dev59 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_468 : BitVec 32 := 28#32
  let v597 : BitVec 32 := Scalar.addi v2 c28_i32_468
  let c32_i32_469 : BitVec 32 := 32#32
  let v598 : BitVec 32 := Scalar.remsi v597 c32_i32_469
  let c1_i32_473 : BitVec 32 := 1#32
  let v600 : BitVec 32 := Scalar.muli v598 c1_i32_473
  let v601 : BitVec 32 := Scalar.addi c0_i32_474 v600
  v601.toNat
def k0_dev60 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_478 : BitVec 32 := 29#32
  let v609 : BitVec 32 := Scalar.addi v2 c29_i32_478
  let c32_i32_479 : BitVec 32 := 32#32
  let v610 : BitVec 32 := Scalar.remsi v609 c32_i32_479
  let c1_i32_483 : BitVec 32 := 1#32
  let v612 : BitVec 32 := Scalar.muli v610 c1_i32_483
  let v613 : BitVec 32 := Scalar.addi c0_i32_484 v612
  v613.toNat
def k0_dev61 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_488 : BitVec 32 := 30#32
  let v621 : BitVec 32 := Scalar.addi v2 c30_i32_488
  let c32_i32_489 : BitVec 32 := 32#32
  let v622 : BitVec 32 := Scalar.remsi v621 c32_i32_489
  let c1_i32_493 : BitVec 32 := 1#32
  let v624 : BitVec 32 := Scalar.muli v622 c1_i32_493
  let v625 : BitVec 32 := Scalar.addi c0_i32_494 v624
  v625.toNat
def k0_dev62 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_498 : BitVec 32 := 31#32
  let v633 : BitVec 32 := Scalar.addi v2 c31_i32_498
  let c32_i32_499 : BitVec 32 := 32#32
  let v634 : BitVec 32 := Scalar.remsi v633 c32_i32_499
  let c1_i32_503 : BitVec 32 := 1#32
  let v636 : BitVec 32 := Scalar.muli v634 c1_i32_503
  let v637 : BitVec 32 := Scalar.addi c0_i32_504 v636
  v637.toNat
abbrev stage0_0 : Fin 1 → Memref sig .tc .vmem S128x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Transfers.lean ====
/- A proof rule, over the machine's own steps, for a mesh program whose transfers are each started once.

   The separation logic of the library hands a thread the whole of a scoped buffer when its kernel is entered, so it has
   no rule for a copy that may land in a peer's scoped buffer before that peer has entered its kernel. The rule here asks
   for no such ownership. It keeps one invariant of the machine's state, which every step preserves: for each
   transfer how far it has got and what it has paid, for each counter what was paid less what was consumed, and for
   each element that is tracked that it holds the one value it is meant to end with. -/
module

public import Idealize.ShloMosaic.Machine
public import Mathlib.Algebra.Order.BigOperators.Group.Finset

@[expose] public section

noncomputable section

namespace Cert.Transfers

open Idealize.ShloMosaic Idealize.SL.Sem
open scoped Classical

variable {nD : Nat} {τ : Topo} {sig : RefSig} {Val : EltTy → Type} {Λ : Labels}

/-! ## A run from an invariant and a measure -/

/-- An invariant that every step keeps, that leaves no state stuck, and under which either a first number falls or it
    stands and a second one falls, makes every execution end in a state the invariant describes. -/
theorem meshRun_of_inv {defs : Defs nD τ sig Val Λ} {Q : MemSt nD τ sig Val → Prop} (I : ℕ → RunSt nD τ sig Val Λ → Prop)
    (μ : RunSt nD τ sig Val Λ → ℕ)
    (hstep : ∀ N s a s', I N s → MeshStep defs a s s' → (∃ N', N' < N ∧ I N' s') ∨ (I N s' ∧ μ s' < μ s))
    (hprog : ∀ N s, I N s → ¬ Final s → ∃ a s', MeshStep defs a s s')
    (hpost : ∀ N s, I N s → Final s → Q s.mem) {N : ℕ} {s₀ : RunSt nD τ sig Val Λ} (h0 : I N s₀) : MeshRun defs Q s₀ := by
  have hreach : ∀ s, Reaches defs s₀ s → ∃ N, I N s := by
    intro s hr
    unfold Reaches at hr
    induction hr with
    | refl => exact ⟨N, h0⟩
    | tail _ hst ih =>
      obtain ⟨N, hN⟩ := ih
      obtain ⟨_, a, hs⟩ := hst
      rcases hstep N _ a _ hN hs with ⟨N', _, h'⟩ | ⟨h', _⟩
      · exact ⟨N', h'⟩
      · exact ⟨N, h'⟩
  refine ⟨fun s hr hf => ?_, fun s hr hf => ?_, fun ρ _ => ?_⟩
  · obtain ⟨N, hN⟩ := hreach s hr
    exact hpost N s hN hf
  · obtain ⟨N, hN⟩ := hreach s hr
    exact hprog N s hN hf
  · have key : ∀ N k n, I N (ρ.st n) → μ (ρ.st n) = k → False := by
      intro N
      induction N using Nat.strong_induction_on with
      | _ N ihN =>
        intro k
        induction k using Nat.strong_induction_on with
        | _ k ihk =>
          intro n hI hk
          rcases hstep N _ _ _ hI (ρ.step n).2 with ⟨N', hlt, h'⟩ | ⟨h', hlt⟩
          · exact ihN N' hlt _ (n + 1) h' rfl
          · exact ihk _ (hk ▸ hlt) (n + 1) h' rfl
    exact key N _ 0 (by rw [ρ.head]; exact h0) rfl

/-! ## What a program's transfers are -/

variable (nD τ sig) in
/-- One element of one buffer of the mesh. -/
abbrev Elem : Type := (ℓ : Loc nD τ sig) × Idx ℓ

variable (τ sig) in
/-- One element of one buffer of a device. -/
abbrev LElem : Type := (b : DevRef τ sig) × b.ty.Idx

/-- A device's element as an element of the mesh. -/
abbrev LElem.at (e : LElem τ sig) (c : Dev nD) : Elem nD τ sig := ⟨(c, e.1), e.2⟩

/-- An element of the mesh as an element of its device. -/
abbrev Elem.loc (e : Elem nD τ sig) : LElem τ sig := ⟨e.1.2, e.2⟩

/-- Whether the element is in a buffer that a kernel's entry and exit on the TensorCore overwrite. -/
def Scoped (e : LElem τ sig) : Prop := e.1 ∈ scopedRefs sig (Proc.tc : Proc τ)

variable (nD τ sig Val) in
/-- The transfers of a program, each started once by the TensorCore of its `owner` and awaited once, at its completion
    cell, by that of its `waiter`; the elements `tr` that the proof follows, with the one value `tgt` that each is
    to hold; and the cell, if any, of a barrier at which every device signals every other once. -/
structure Plan where
  ι : Type
  owner : ι → Dev nD
  waiter : ι → Dev nD
  /-- the completion cell, on `waiter` -/
  semD : ι → SemLoc sig
  /-- the source cell, if any, on `owner` -/
  semS : ι → Option (SemLoc sig)
  /-- what the transfer pays each cell -/
  cr : ι → ℕ
  /-- the elements that must hold their values while the transfer reads -/
  srcSet : ι → Set (Elem nD τ sig)
  /-- the elements it writes -/
  dstSet : ι → Set (Elem nD τ sig)
  tr : Set (Elem nD τ sig)
  tgt : (ℓ : Loc nD τ sig) → Buf Val ℓ
  bar : Option (SemLoc sig)
  /-- what holds its value at the start, and what is to hold it at the end -/
  init : Dev nD → Set (LElem τ sig)
  goal : Dev nD → Set (LElem τ sig)
  semD_inj : ∀ i j, waiter i = waiter j → semD i = semD j → i = j
  semS_inj : ∀ i j g, owner i = owner j → semS i = some g → semS j = some g → i = j
  semD_ne_semS : ∀ i j, waiter i = owner j → semS j ≠ some (semD i)
  bar_ne_semD : ∀ i, bar ≠ some (semD i)
  bar_ne_semS : ∀ i g, semS i = some g → bar ≠ some g
  cr_pos : ∀ i, 0 < cr i
  src_dev : ∀ i e, e ∈ srcSet i → e.1.1 = owner i
  dst_dev : ∀ i e, e ∈ dstSet i → e.1.1 = waiter i
  src_tr : ∀ i e, e ∈ srcSet i → e ∈ tr
  semS_none : ∀ i, semS i = none → waiter i = owner i
  init_tr : ∀ c e, e ∈ init c → e.at c ∈ tr
  init_unscoped : ∀ c e, e ∈ init c → ¬ Scoped e

namespace Plan

variable (P : Plan nD τ sig Val)

/-- The completion cell of a transfer, on the mesh. -/
abbrev cellD (i : P.ι) : GSem nD τ sig := ((P.waiter i).tc, P.semD i)

/-- The element holds its value. -/
def Good (m : MemSt nD τ sig Val) (e : Elem nD τ sig) : Prop := m.mem e.1 e.2 = P.tgt e.1 e.2

/-- The pending transfer `d` is the plan's transfer `i`: it pays `i`'s cells `i`'s amount, writes `i`'s elements and, as
    long as `i`'s source elements hold their values, writes on each tracked element its value. -/
structure Impl (i : P.ι) (d : Dma nD τ sig Val) : Prop where
  dst : d.dstSem = P.cellD i
  src : d.srcSem = (P.semS i).map fun g => ((P.owner i).tc, g)
  credit : d.credit = P.cr i
  dst_mem : ∀ x, (⟨d.dst, d.dstView.emb x⟩ : Elem nD τ sig) ∈ P.dstSet i
  dst_cov : ∀ e ∈ P.dstSet i, ∃ x, e = ⟨d.dst, d.dstView.emb x⟩
  carry : ∀ x, (⟨d.dst, d.dstView.emb x⟩ : Elem nD τ sig) ∈ P.tr → ∀ f : Buf Val d.src,
    (∀ y, (⟨d.src, y⟩ : Elem nD τ sig) ∈ P.srcSet i → f y = P.tgt d.src y) →
    cast (congrArg Val d.dstView.elt_eq.symm) (d.readSrc f x) = P.tgt d.dst (d.dstView.emb x)

/-- What a device's TensorCore has done: the elements it knows to hold their values, whether it is before (0), in (1) or
    after (2) its kernel, the transfers it has started and the awaited ones (at their completion, and at their source,
    cells), the devices it has signalled, and whether it has passed the barrier. -/
@[ext] structure Local where
  known : Set (LElem τ sig)
  stage : ℕ
  issued : Set P.ι
  wd : Set P.ι
  ws : Set P.ι
  sent : Set (Dev nD)
  passed : Prop

namespace Local
variable {P} (L : P.Local)

/-- Before anything has been done. -/
@[reducible] def start (c : Dev nD) : P.Local := ⟨P.init c, 0, ∅, ∅, ∅, ∅, False⟩
/-- After the elements `K` were found to hold their values, -/
@[reducible] def learn (K : Set (LElem τ sig)) : P.Local := { L with known := L.known ∪ K }
/-- the kernel was entered, -/
@[reducible] def enter : P.Local := { L with known := {e | e ∈ L.known ∧ ¬ Scoped e}, stage := 1 }
/-- left, -/
@[reducible] def leave : P.Local := { L with known := {e | e ∈ L.known ∧ ¬ Scoped e}, stage := 2 }
/-- a transfer was started, -/
@[reducible] def issue (i : P.ι) : P.Local := { L with issued := insert i L.issued }
/-- its completion awaited, after which what it wrote is known, -/
@[reducible] def waitD (i : P.ι) : P.Local :=
  { L with wd := insert i L.wd, known := L.known ∪ {e | e.at (P.waiter i) ∈ P.dstSet i ∧ e.at (P.waiter i) ∈ P.tr} }
/-- its source cell awaited, -/
@[reducible] def waitS (i : P.ι) : P.Local := { L with ws := insert i L.ws }
/-- a device signalled, -/
@[reducible] def signal (c : Dev nD) : P.Local := { L with sent := insert c L.sent }
/-- the barrier passed. -/
@[reducible] def pass : P.Local := { L with passed := True }

/-- Every device but this one has been signalled, if there is a barrier. -/
def AllSent (c : Dev nD) : Prop := P.bar ≠ none → ∀ c', c' ≠ c → c' ∈ L.sent
/-- Every transfer awaited on another device has been started. -/
def AllOut (c : Dev nD) : Prop := ∀ j, P.owner j = c → P.waiter j ≠ c → j ∈ L.issued

/-- Everything has been done that the device is to do. -/
structure Complete (c : Dev nD) : Prop where
  sent : L.AllSent c
  passed : P.bar ≠ none → L.passed
  issued : ∀ j, P.owner j = c → j ∈ L.issued
  wd : ∀ j, P.waiter j = c → j ∈ L.wd
  ws : ∀ j, P.owner j = c → P.semS j ≠ none → j ∈ L.ws

/-- And what is to hold its value at the end does. -/
structure Done (c : Dev nD) : Prop extends L.Complete c where
  goal : P.goal c ⊆ L.known

end Local

/-! ## The rules -/

variable (defs : Defs nD τ sig Val Λ) (c : Dev nD)

/-- The program runs on device `c`'s TensorCore in at most `n` steps from what has been done, `L`, to an answer and
    what has then been done of which `Q` holds, the transfers being the plan's. -/
inductive WP {α : Type} (Q : α → P.Local → Prop) : ℕ → P.Local → Prog (TpuEff nD τ sig Val Λ (Proc.tc : Proc τ)) α → Prop
  | ret (n : ℕ) (L : P.Local) (a : α) (h : Q a L) : WP Q n L (.ret a)
  | load {n : ℕ} {L : P.Local} {cs : CoreSpace} {s : Shape} {e : EltTy} (mr : Memref sig (Proc.tc : Proc τ).kind cs s e) (r : LoadRect s)
      (h : mr.view.LoadsAt r) (k : (r.shape.Idx → Val e) → Prog (TpuEff nD τ sig Val Λ (Proc.tc : Proc τ)) α)
      (hk : ∀ f : Buf Val (mr.view.loc (c.tc : Thread nD τ)),
        (∀ y, (⟨_, y⟩ : LElem τ sig) ∈ L.known → f y = P.tgt (mr.view.loc (c.tc : Thread nD τ)) y) →
        WP Q n L (k (mr.view.readAt Val r f))) :
      WP Q (n + 1) L (.op (.load mr r h) k)
  | store {n : ℕ} {L : P.Local} {cs : CoreSpace} {s : Shape} {e : EltTy} (mr : Memref sig (Proc.tc : Proc τ).kind cs s e) (r : Rect s)
      (w : r.shape.Idx → Val e) (M : Finset r.shape.Idx) (h : (mr.access r).Stores M) (hm : M = Finset.univ ∨ ∀ a, r.stride a = 1)
      (k : PUnit → Prog (TpuEff nD τ sig Val Λ (Proc.tc : Proc τ)) α)
      (K : Set (Idx ((mr.access r).loc (c.tc : Thread nD τ))))
      (hK : ∀ y ∈ K, (⟨_, y⟩ : Elem nD τ sig) ∈ P.tr)
      (hw : ∀ (f : Buf Val ((mr.access r).loc (c.tc : Thread nD τ))) (y : Idx ((mr.access r).loc (c.tc : Thread nD τ))),
        (⟨_, y⟩ : Elem nD τ sig) ∈ P.tr → (y ∈ K ∨ f y = P.tgt _ y) →
        (mr.access r).write Val f w M y = P.tgt ((mr.access r).loc (c.tc : Thread nD τ)) y)
      (hk : WP Q n (L.learn ((fun y => (⟨_, y⟩ : LElem τ sig)) '' K)) (k ⟨⟩)) :
      WP Q (n + 1) L (.op (.store mr r w M h hm) k)
  | deviceId {n : ℕ} {L : P.Local} (k : Dev nD → Prog (TpuEff nD τ sig Val Λ (Proc.tc : Proc τ)) α) (hk : WP Q n L (k c)) :
      WP Q (n + 1) L (.op .deviceId k)
  | assume {n : ℕ} {L : P.Local} (p : Prop) (dec : Decidable p) (k : PLift p → Prog (TpuEff nD τ sig Val Λ (Proc.tc : Proc τ)) α)
      (h : p) (hk : WP Q n L (k ⟨h⟩)) : WP Q (n + 1) L (.op (.assume p dec) k)
  | call {n : ℕ} {L : P.Local} (ℓ : Λ.Label) (a : Λ.Args ℓ) (k : Λ.Result ℓ → Prog (TpuEff nD τ sig Val Λ (Proc.tc : Proc τ)) α)
      (hk : WP Q n L (defs .tc ℓ a >>= k)) : WP Q (n + 1) L (.op (.call ℓ a) k)
  | customCall {n : ℕ} {L : P.Local} (ℓ : Λ.Label) (a : Λ.Args ℓ) (k : Λ.Result ℓ → Prog (TpuEff nD τ sig Val Λ (Proc.tc : Proc τ)) α)
      (h0 : L.stage = 0) (hi : L.issued = ∅)
      (hk : WP Q n L.enter (defs .tc ℓ a >>= fun r => .op .kernelExit fun _ => k r)) : WP Q (n + 1) L (.op (.customCall ℓ a) k)
  | kernelExit {n : ℕ} {L : P.Local} (k : PUnit → Prog (TpuEff nD τ sig Val Λ (Proc.tc : Proc τ)) α)
      (h1 : L.stage = 1) (hc : L.Complete c) (hk : WP Q n L.leave (k ⟨⟩)) : WP Q (n + 1) L (.op .kernelExit k)
  | enqueue {n : ℕ} {L : P.Local} {sp sp' : Space} {s₀ : Shape} {e₀ : EltTy} {s : Shape} {e : EltTy}
      (src : Memref sig (Proc.tc : Proc τ).kind sp s₀ e₀) (tgt : DmaTarget nD τ sig (Proc.tc : Proc τ) sp' s e) (via : ReadAs Val s₀ e₀ s e)
      (sem : SemLoc sig) (hsrc : src.view.WordExact) (hdst : tgt.view.WordExact) (hsem : tgt.Typed sp sem)
      (k : PUnit → Prog (TpuEff nD τ sig Val Λ (Proc.tc : Proc τ)) α) (i : P.ι)
      (hr : tgt.routed (c.tc : Thread nD τ) = true) (ho : P.owner i = c) (hi : i ∉ L.issued) (h1 : L.stage = 1)
      (himpl : ∀ b₀ st, P.Impl i (Dma.enqueued (c.tc : Thread nD τ) src.view tgt via sem b₀ st))
      (hs : ∀ e ∈ P.srcSet i, e.loc ∈ L.known)
      (hd : P.waiter i = c ∨ (∀ e ∈ P.dstSet i, e ∉ P.tr) ∨ (P.bar ≠ none ∧ L.passed))
      (hk : WP Q n (L.issue i) (k ⟨⟩)) :
      WP Q (n + 1) L (.op (.enqueueDmaAs src tgt via sem hsrc hdst hsem) k)
  | waitD {n : ℕ} {L : P.Local} {κ : Kind} (sem : DmaSem sig) (b : Ref sig κ) (s : Shape) (e : EltTy) (hh : (Proc.tc : Proc τ) = .tc ∨ b.HasMemref s e)
      (k : PUnit → Prog (TpuEff nD τ sig Val Λ (Proc.tc : Proc τ)) α) (i : P.ι)
      (hw : P.waiter i = c) (hsem : P.semD i = .dma sem) (hcr : b.dmaCredit s e = P.cr i) (hi : i ∉ L.wd) (h1 : L.stage = 1)
      (ho : if P.owner i = c then i ∈ L.issued else L.AllSent c ∧ L.AllOut c)
      (hk : WP Q n (L.waitD i) (k ⟨⟩)) :
      WP Q (n + 1) L (.op (.waitDma sem b s e hh) k)
  | waitS {n : ℕ} {L : P.Local} {κ : Kind} (sem : DmaSem sig) (b : Ref sig κ) (s : Shape) (e : EltTy) (hh : (Proc.tc : Proc τ) = .tc ∨ b.HasMemref s e)
      (k : PUnit → Prog (TpuEff nD τ sig Val Λ (Proc.tc : Proc τ)) α) (i : P.ι)
      (hw : P.owner i = c) (hsem : P.semS i = some (.dma sem)) (hcr : b.dmaCredit s e = P.cr i) (hi : i ∉ L.ws) (ho : i ∈ L.issued)
      (hk : WP Q n (L.waitS i) (k ⟨⟩)) :
      WP Q (n + 1) L (.op (.waitDma sem b s e hh) k)
  | signal {n : ℕ} {L : P.Local} (c' : Dev nD) (sem : Sem sig) (k : PUnit → Prog (TpuEff nD τ sig Val Λ (Proc.tc : Proc τ)) α)
      (hb : P.bar = some (.reg sem)) (hne : c' ≠ c) (hs : c' ∉ L.sent) (h1 : L.stage = 1)
      (hk : WP Q n (L.signal c') (k ⟨⟩)) :
      WP Q (n + 1) L (.op (.semSignal (c'.tc : Thread nD τ) sem 1) k)
  | semWait {n : ℕ} {L : P.Local} (sem : Sem sig) (v : Int) (k : PUnit → Prog (TpuEff nD τ sig Val Λ (Proc.tc : Proc τ)) α)
      (hb : P.bar = some (.reg sem)) (hv : v = (nD : Int) - 1) (hp : ¬ L.passed) (hs : L.AllSent c)
      (hk : WP Q n L.pass (k ⟨⟩)) :
      WP Q (n + 1) L (.op (.semWait sem v) k)

variable {P defs c}

/-- More steps may be allowed. -/
theorem WP.mono {α : Type} {Q : α → P.Local → Prop} {n m : ℕ} {L : P.Local} {p : Prog (TpuEff nD τ sig Val Λ (Proc.tc : Proc τ)) α}
    (h : P.WP defs c Q n L p) (hm : n ≤ m) : P.WP defs c Q m L p := by
  induction h generalizing m with
  | ret n L a h => exact .ret m L a h
  | load mr r h k _ ih => obtain _ | m := m; · omega
                          exact .load mr r h k fun f hf => ih f hf (by omega)
  | store mr r w M h hm' k K hK hw _ ih => obtain _ | m := m; · omega
                                           exact .store mr r w M h hm' k K hK hw (ih (by omega))
  | deviceId k _ ih => obtain _ | m := m; · omega
                       exact .deviceId k (ih (by omega))
  | assume p dec k h _ ih => obtain _ | m := m; · omega
                             exact .assume p dec k h (ih (by omega))
  | call ℓ a k _ ih => obtain _ | m := m; · omega
                       exact .call ℓ a k (ih (by omega))
  | customCall ℓ a k h0 hi _ ih => obtain _ | m := m; · omega
                                   exact .customCall ℓ a k h0 hi (ih (by omega))
  | kernelExit k h1 hc _ ih => obtain _ | m := m; · omega
                               exact .kernelExit k h1 hc (ih (by omega))
  | enqueue src tgt via sem hsrc hdst hsem k i hr ho hi h1 himpl hs hd _ ih =>
    obtain _ | m := m; · omega
    exact .enqueue src tgt via sem hsrc hdst hsem k i hr ho hi h1 himpl hs hd (ih (by omega))
  | waitD sem b s e hh k i hw hsem hcr hi h1 ho _ ih =>
    obtain _ | m := m; · omega
    exact .waitD sem b s e hh k i hw hsem hcr hi h1 ho (ih (by omega))
  | waitS sem b s e hh k i hw hsem hcr hi ho _ ih =>
    obtain _ | m := m; · omega
    exact .waitS sem b s e hh k i hw hsem hcr hi ho (ih (by omega))
  | signal c' sem k hb hne hs h1 _ ih => obtain _ | m := m; · omega
                                         exact .signal c' sem k hb hne hs h1 (ih (by omega))
  | semWait sem v k hb hv hp hs _ ih => obtain _ | m := m; · omega
                                        exact .semWait sem v k hb hv hp hs (ih (by omega))

/-- A program followed by another. -/
theorem WP.bind {α β : Type} {R : α → P.Local → Prop} {Q : β → P.Local → Prop} {n m : ℕ} {L : P.Local}
    {p : Prog (TpuEff nD τ sig Val Λ (Proc.tc : Proc τ)) α} {k : α → Prog (TpuEff nD τ sig Val Λ (Proc.tc : Proc τ)) β}
    (h : P.WP defs c R n L p) (hk : ∀ a L, R a L → P.WP defs c Q m L (k a)) : P.WP defs c Q (n + m) L (p >>= k) := by
  induction h with
  | ret n L a h => exact (hk a L h).mono (by omega)
  | load mr r h k' _ ih => rw [Nat.add_right_comm]; exact .load mr r h _ fun f hf => ih f hf
  | store mr r w M h hm' k' K hK hw _ ih => rw [Nat.add_right_comm]; exact .store mr r w M h hm' _ K hK hw ih
  | deviceId k' _ ih => rw [Nat.add_right_comm]; exact .deviceId _ ih
  | assume p dec k' h _ ih => rw [Nat.add_right_comm]; exact .assume p dec _ h ih
  | call ℓ a k' _ ih => rw [Nat.add_right_comm]; exact .call ℓ a _ (by rw [Prog.bind_assoc] at ih; exact ih)
  | customCall ℓ a k' h0 hi _ ih =>
    rw [Nat.add_right_comm]
    exact .customCall ℓ a _ h0 hi (by rw [Prog.bind_assoc] at ih; exact ih)
  | kernelExit k' h1 hc _ ih => rw [Nat.add_right_comm]; exact .kernelExit _ h1 hc ih
  | enqueue src tgt via sem hsrc hdst hsem k' i hr ho hi h1 himpl hs hd _ ih =>
    rw [Nat.add_right_comm]; exact .enqueue src tgt via sem hsrc hdst hsem _ i hr ho hi h1 himpl hs hd ih
  | waitD sem b s e hh k' i hw hsem hcr hi h1 ho _ ih => rw [Nat.add_right_comm]; exact .waitD sem b s e hh _ i hw hsem hcr hi h1 ho ih
  | waitS sem b s e hh k' i hw hsem hcr hi ho _ ih => rw [Nat.add_right_comm]; exact .waitS sem b s e hh _ i hw hsem hcr hi ho ih
  | signal c' sem k' hb hne hs h1 _ ih => rw [Nat.add_right_comm]; exact .signal c' sem _ hb hne hs h1 ih
  | semWait sem v k' hb hv hp hs _ ih => rw [Nat.add_right_comm]; exact .semWait sem v _ hb hv hp hs ih

/-! ## The invariant -/

variable (P)

/-- What all devices have done, read off each one's `Local`. -/
@[ext] structure Ghost where
  known : Set (Elem nD τ sig)
  stage : Dev nD → ℕ
  issued : P.ι → Prop
  wd : P.ι → Prop
  ws : P.ι → Prop
  sent : Dev nD → Dev nD → Prop
  passed : Dev nD → Prop

/-- What all devices have done, gathered. -/
def gather (L : Dev nD → P.Local) : P.Ghost where
  known := {e | e.loc ∈ (L e.1.1).known}
  stage c := (L c).stage
  issued i := i ∈ (L (P.owner i)).issued
  wd i := i ∈ (L (P.waiter i)).wd
  ws i := i ∈ (L (P.owner i)).ws
  sent c c' := c' ∈ (L c).sent
  passed c := (L c).passed

/-- The element is in no scoped buffer, or its device is in its kernel: nothing will overwrite it but the transfers and the
    stores, as long as the kernel is not left. -/
def Live (G : P.Ghost) (e : Elem nD τ sig) : Prop := Scoped e.loc → G.stage e.1.1 = 1

/-- The pending transfer `d` is transfer `i`, and has got as far as it says. -/
structure Flies (G : P.Ghost) (dp sp : P.ι → ℕ) (m : MemSt nD τ sig Val) (i : P.ι) (d : Dma nD τ sig Val) : Prop where
  impl : P.Impl i d
  issued : G.issued i
  dp : dp i = d.dstPaid
  sp : P.semS i ≠ none → sp i = d.srcPaid
  dle : d.dstPaid ≤ P.cr i
  sle : d.srcPaid ≤ P.cr i
  dfull : d.dstPaid = P.cr i → d.written = Finset.univ
  sfull : P.semS i ≠ none → d.srcPaid = P.cr i → d.read = Finset.univ
  wr : d.written ⊆ d.read
  buf : ∀ x ∈ d.read, (⟨d.dst, d.dstView.emb x⟩ : Elem nD τ sig) ∈ P.tr →
    cast (congrArg Val d.dstView.elt_eq.symm) (d.buf x) = P.tgt d.dst (d.dstView.emb x)
  src : d.read ≠ Finset.univ → ∀ e ∈ P.srcSet i, P.Good m e
  dst : ∀ x ∈ d.written, (⟨d.dst, d.dstView.emb x⟩ : Elem nD τ sig) ∈ P.tr →
    P.Live G ⟨d.dst, d.dstView.emb x⟩ → P.Good m ⟨d.dst, d.dstView.emb x⟩

/-- The transfer has been made and paid in full. -/
structure Landed (G : P.Ghost) (dp sp : P.ι → ℕ) (m : MemSt nD τ sig Val) (i : P.ι) : Prop where
  dp : dp i = P.cr i
  sp : P.semS i ≠ none → sp i = P.cr i
  dst : ∀ e ∈ P.dstSet i, e ∈ P.tr → P.Live G e → P.Good m e

/-- The devices that have signalled `c`. -/
def signallers (G : P.Ghost) (c : Dev nD) : Finset (Dev nD) := Finset.univ.filter fun c' => G.sent c' c

/-- The signals in flight to the cell `g`. -/
def inFlight (s : Phys nD τ sig Val) (g : GSem nD τ sig) : ℕ := s.sigs.countP fun sg => sg.cell = g

/-- What every reachable state is like, given what has been done and what each transfer has paid its completion cell (`dp`)
    and its source cell (`sp`). -/
structure Inv (G : P.Ghost) (dp sp : P.ι → ℕ) (s : Phys nD τ sig Val) : Prop where
  streams : s.streams = []
  ops : ∀ t, s.ops t = none
  fly : ∀ d ∈ s.dmas, ∃ i, P.Flies G dp sp s.mem i d
  nodup : (s.dmas.map fun d => d.dstSem).Nodup
  started : ∀ i, G.issued i → (∃ d ∈ s.dmas, d.dstSem = P.cellD i) ∨ P.Landed G dp sp s.mem i
  todo : ∀ i, ¬ G.issued i → dp i = 0 ∧ sp i = 0
  semD : ∀ i, s.mem.sem (P.cellD i) = (dp i : Int) - if G.wd i then (P.cr i : Int) else 0
  semS : ∀ i g, P.semS i = some g → s.mem.sem ((P.owner i).tc, g) = (sp i : Int) - if G.ws i then (P.cr i : Int) else 0
  wd : ∀ i, G.wd i → dp i = P.cr i
  ws : ∀ i, G.ws i → P.semS i ≠ none → sp i = P.cr i
  sigs : ∀ sg ∈ s.sigs, sg.amount = 1 ∧ ∃ c g, P.bar = some g ∧ sg.cell = ((c : Dev nD).tc, g)
  bar : ∀ c g, P.bar = some g → s.mem.sem ((c : Dev nD).tc, g) + (inFlight s ((c : Dev nD).tc, g) : Int)
    + (if G.passed c then (nD : Int) - 1 else 0) = ((P.signallers G c).card : Int)
  barnn : ∀ c g, P.bar = some g → 0 ≤ s.mem.sem ((c : Dev nD).tc, g)
  rest : ∀ g, (∀ i, g ≠ P.cellD i) → (∀ i h, P.semS i = some h → g ≠ ((P.owner i).tc, h)) →
    (∀ c h, P.bar = some h → g ≠ ((c : Dev nD).tc, h)) → s.mem.sem g = 0
  known : ∀ e ∈ G.known, e ∈ P.tr ∧ P.Good s.mem e
  dst_stage : ∀ i e, G.issued i → e ∈ P.dstSet i → e ∈ P.tr → Scoped e.loc → G.stage e.1.1 ≠ 0
  own_stage : ∀ i, G.issued i → G.stage (P.owner i) ≠ 0
  noself : ∀ c, ¬ G.sent c c
  passed : ∀ c, P.bar ≠ none → G.passed c → ∀ c', c' ≠ c → G.sent c' c
  sent_stage : ∀ c c', G.sent c c' → G.stage c ≠ 0

variable {P}

theorem cellD_inj {i j : P.ι} (h : P.cellD i = P.cellD j) : i = j :=
  P.semD_inj i j (congrArg (fun g => g.1.1) h) (congrArg Prod.snd h)

theorem cellD_ne_cellS {i j : P.ι} {g : SemLoc sig} (hg : P.semS j = some g) : P.cellD i ≠ ((P.owner j).tc, g) := by
  intro h
  have h2 : P.semD i = g := congrArg Prod.snd h
  exact P.semD_ne_semS i j (congrArg (fun g => g.1.1) h) (h2 ▸ hg)

theorem cellS_inj {i j : P.ι} {g h : SemLoc sig} (hg : P.semS i = some g) (hh : P.semS j = some h)
    (e : (((P.owner i).tc, g) : GSem nD τ sig) = ((P.owner j).tc, h)) : i = j := by
  have h1 : P.owner i = P.owner j := congrArg (fun g => g.1.1) e
  have h2 : g = h := congrArg Prod.snd e
  subst h2
  exact P.semS_inj i j g h1 hg hh

theorem cellD_ne_bar {i : P.ι} {c : Dev nD} {g : SemLoc sig} (hg : P.bar = some g) : P.cellD i ≠ (c.tc, g) := by
  intro h
  have h2 : P.semD i = g := congrArg Prod.snd h
  exact P.bar_ne_semD i (h2 ▸ hg)

theorem cellS_ne_bar {i : P.ι} {c : Dev nD} {g h : SemLoc sig} (hg : P.semS i = some g) (hh : P.bar = some h) :
    (((P.owner i).tc, g) : GSem nD τ sig) ≠ (c.tc, h) := by
  intro e
  have h2 : g = h := congrArg Prod.snd e
  exact P.bar_ne_semS i g hg (h2 ▸ hh)

/-! ### Lists of pending transfers -/

theorem mem_set {α β : Type} {f : α → β} {l : List α} {k : ℕ} {d d₁ d' : α} (hk : l[k]? = some d) (hn : (l.map f).Nodup)
    (h : d' ∈ l.set k d₁) : d' = d₁ ∨ (d' ∈ l ∧ f d' ≠ f d) := by
  induction l generalizing k with
  | nil => simp at hk
  | cons a l ih =>
    rw [List.map_cons, List.nodup_cons] at hn
    cases k with
    | zero =>
      rw [List.getElem?_cons_zero] at hk
      cases hk
      rw [List.set_cons_zero, List.mem_cons] at h
      rcases h with h | h
      · exact .inl h
      · exact .inr ⟨List.mem_cons_of_mem _ h, fun e => hn.1 (e ▸ List.mem_map_of_mem h)⟩
    | succ k =>
      rw [List.getElem?_cons_succ] at hk
      rw [List.set_cons_succ, List.mem_cons] at h
      rcases h with h | h
      · subst h
        exact .inr ⟨List.mem_cons_self, fun e => hn.1 (e ▸ List.mem_map_of_mem (List.mem_of_getElem? hk))⟩
      · rcases ih hk hn.2 h with h | ⟨h, h'⟩
        · exact .inl h
        · exact .inr ⟨List.mem_cons_of_mem _ h, h'⟩

theorem mem_eraseIdx {α β : Type} {f : α → β} {l : List α} {k : ℕ} {d d' : α} (hk : l[k]? = some d) (hn : (l.map f).Nodup)
    (h : d' ∈ l.eraseIdx k) : d' ∈ l ∧ f d' ≠ f d := by
  induction l generalizing k with
  | nil => simp at hk
  | cons a l ih =>
    rw [List.map_cons, List.nodup_cons] at hn
    cases k with
    | zero =>
      rw [List.getElem?_cons_zero] at hk
      cases hk
      rw [List.eraseIdx_cons_zero] at h
      exact ⟨List.mem_cons_of_mem _ h, fun e => hn.1 (e ▸ List.mem_map_of_mem h)⟩
    | succ k =>
      rw [List.getElem?_cons_succ] at hk
      rw [List.eraseIdx_cons_succ, List.mem_cons] at h
      rcases h with h | h
      · subst h
        exact ⟨List.mem_cons_self, fun e => hn.1 (e ▸ List.mem_map_of_mem (List.mem_of_getElem? hk))⟩
      · exact ⟨List.mem_cons_of_mem _ (ih hk hn.2 h).1, (ih hk hn.2 h).2⟩

theorem map_set_eq {α β : Type} {f : α → β} {l : List α} {k : ℕ} {d d₁ : α} (hk : l[k]? = some d) (h : f d₁ = f d) :
    (l.set k d₁).map f = l.map f := by
  induction l generalizing k with
  | nil => rfl
  | cons a l ih =>
    cases k with
    | zero =>
      rw [List.getElem?_cons_zero] at hk
      cases hk
      rw [List.set_cons_zero, List.map_cons, List.map_cons, h]
    | succ k =>
      rw [List.getElem?_cons_succ] at hk
      rw [List.set_cons_succ, List.map_cons, List.map_cons, ih hk]

theorem sum_set {α : Type} (f : α → ℕ) {l : List α} {k : ℕ} {d : α} (d₁ : α) (hk : l[k]? = some d) :
    ((l.set k d₁).map f).sum + f d = (l.map f).sum + f d₁ := by
  induction l generalizing k with
  | nil => simp at hk
  | cons a l ih =>
    cases k with
    | zero =>
      rw [List.getElem?_cons_zero] at hk
      cases hk
      simp only [List.set_cons_zero, List.map_cons, List.sum_cons]; omega
    | succ k =>
      rw [List.getElem?_cons_succ] at hk
      have := ih hk
      simp only [List.set_cons_succ, List.map_cons, List.sum_cons]; omega

theorem sum_eraseIdx {α : Type} (f : α → ℕ) {l : List α} {k : ℕ} {d : α} (hk : l[k]? = some d) :
    ((l.eraseIdx k).map f).sum + f d = (l.map f).sum := by
  induction l generalizing k with
  | nil => simp at hk
  | cons a l ih =>
    cases k with
    | zero =>
      rw [List.getElem?_cons_zero] at hk
      cases hk
      simp only [List.eraseIdx_cons_zero, List.map_cons, List.sum_cons]; omega
    | succ k =>
      rw [List.getElem?_cons_succ] at hk
      have := ih hk
      simp only [List.eraseIdx_cons_succ, List.map_cons, List.sum_cons]; omega

theorem touch_none {ops : Thread nD τ → Option (PendingOp τ sig Val)} (h : ∀ t, ops t = none) (d : Dev nD) (b : DevRef τ sig)
    {X : Type} (M : Finset X) (t : Thread nD τ) : Phys.touch ops d b M t = none := by
  unfold Phys.touch; rw [h]; rfl

theorem touchSem_none {ops : Thread nD τ → Option (PendingOp τ sig Val)} (h : ∀ t, ops t = none) (g : GSem nD τ sig)
    (t : Thread nD τ) : Phys.touchSem ops g t = none := by
  unfold Phys.touchSem; rw [h]; rfl

/-! ### The steps keep it -/

section Keep
variable {G : P.Ghost} {dp sp : P.ι → ℕ} {s : Phys nD τ sig Val}

theorem Flies.good {m m' : MemSt nD τ sig Val} {i : P.ι} {d : Dma nD τ sig Val} (h : P.Flies G dp sp m i d)
    (hg : ∀ e ∈ P.tr, P.Good m e → P.Good m' e) : P.Flies G dp sp m' i d :=
  { h with
    src := fun hr e he => hg e (P.src_tr i e he) (h.src hr e he)
    dst := fun x hx ht hl => hg _ ht (h.dst x hx ht hl) }

theorem Landed.good {m m' : MemSt nD τ sig Val} {i : P.ι} (h : P.Landed G dp sp m i)
    (hg : ∀ e ∈ P.tr, P.Good m e → P.Good m' e) : P.Landed G dp sp m' i :=
  { h with dst := fun e he ht hl => hg _ ht (h.dst e he ht hl) }

/-- A write that keeps every tracked element that holds its value keeps the invariant. -/
theorem Inv.write (h : P.Inv G dp sp s) {m' : MemSt nD τ sig Val} {ops' : Thread nD τ → Option (PendingOp τ sig Val)}
    (ho : ∀ t, ops' t = none) (hs : m'.sem = s.mem.sem) (hg : ∀ e ∈ P.tr, P.Good s.mem e → P.Good m' e) :
    P.Inv G dp sp { s with mem := m', ops := ops' } :=
  { h with
    ops := ho
    fly := fun d hd => (h.fly d hd).imp fun i hi => hi.good hg
    started := fun i hi => (h.started i hi).imp_right fun hl => hl.good hg
    semD := fun i => by show m'.sem _ = _; rw [hs]; exact h.semD i
    semS := fun i => by show ∀ _ _, m'.sem _ = _; rw [hs]; exact h.semS i
    bar := fun c => by show ∀ _ _, m'.sem _ + _ + _ = _; rw [hs]; exact h.bar c
    barnn := fun c => by show ∀ _ _, 0 ≤ m'.sem _; rw [hs]; exact h.barnn c
    rest := fun g => by show _ → _ → _ → m'.sem g = 0; rw [hs]; exact h.rest g
    known := fun e he => ⟨(h.known e he).1, hg e (h.known e he).1 (h.known e he).2⟩ }

/-- Elements that hold their values may be noted. -/
theorem Inv.learn (h : P.Inv G dp sp s) (K : Set (Elem nD τ sig)) (hK : ∀ e ∈ K, e ∈ P.tr ∧ P.Good s.mem e) :
    P.Inv { G with known := G.known ∪ K } dp sp s :=
  { h with
    fly := fun d hd => (h.fly d hd).imp fun i hi => { hi with }
    started := fun i hi => (h.started i hi).imp_right fun hl => { hl with }
    known := fun e he => he.elim (h.known e) (hK e) }

/-- A transfer that has paid its completion cell in full has written every element: they hold their values. -/
theorem Inv.landed (h : P.Inv G dp sp s) {i : P.ι} (hi : dp i = P.cr i) {e : Elem nD τ sig} (he : e ∈ P.dstSet i) (ht : e ∈ P.tr)
    (hl : P.Live G e) : P.Good s.mem e := by
  have his : G.issued i := by
    by_contra hn
    have := (h.todo i hn).1
    have := P.cr_pos i
    omega
  rcases h.started i his with ⟨d, hd, hc⟩ | hld
  · obtain ⟨j, hj⟩ := h.fly d hd
    have hji : j = i := cellD_inj (hj.impl.dst.symm.trans hc)
    subst hji
    obtain ⟨x, rfl⟩ := hj.impl.dst_cov e he
    exact hj.dst x (by rw [hj.dfull (by rw [← hj.dp]; exact hi)]; exact Finset.mem_univ x) ht hl
  · exact hld.dst e he ht hl

/-- What a transfer pays never exceeds its amount. -/
theorem Inv.dle (h : P.Inv G dp sp s) (i : P.ι) : dp i ≤ P.cr i := by
  by_cases his : G.issued i
  · rcases h.started i his with ⟨d, hd, hc⟩ | hld
    · obtain ⟨j, hj⟩ := h.fly d hd
      have hji : j = i := cellD_inj (hj.impl.dst.symm.trans hc)
      subst hji
      rw [hj.dp]; exact hj.dle
    · exact hld.dp.le
  · rw [(h.todo i his).1]; exact Nat.zero_le _

theorem Inv.sle (h : P.Inv G dp sp s) (i : P.ι) (hs : P.semS i ≠ none) : sp i ≤ P.cr i := by
  by_cases his : G.issued i
  · rcases h.started i his with ⟨d, hd, hc⟩ | hld
    · obtain ⟨j, hj⟩ := h.fly d hd
      have hji : j = i := cellD_inj (hj.impl.dst.symm.trans hc)
      subst hji
      rw [hj.sp hs]; exact hj.sle
    · exact (hld.sp hs).le
  · rw [(h.todo i his).2]; exact Nat.zero_le _

/-- A region boundary on `c`, at its kernel's entry (`v = 1`) or exit (`v = 2`). -/
theorem Inv.forget (h : P.Inv G dp sp s) (c : Dev nD) (ω : Valuation τ sig Val) (v : ℕ) (hv0 : v ≠ 0)
    (hv : v = 1 → ∀ i e, G.issued i → e ∈ P.dstSet i → e ∈ P.tr → Scoped e.loc → e.1.1 ≠ c)
    (hsrc : ∀ i d, d ∈ s.dmas → P.Flies G dp sp s.mem i d → P.owner i = c → d.read = Finset.univ) :
    P.Inv { G with known := {e | e ∈ G.known ∧ (e.1.1 = c → ¬ Scoped e.loc)}, stage := Function.update G.stage c v } dp sp
      (s.forget (c.tc : Thread nD τ) ω) := by
  have hg : ∀ e : Elem nD τ sig, ¬ (e.1.1 = c ∧ Scoped e.loc) → P.Good s.mem e → P.Good (s.forget (c.tc : Thread nD τ) ω).mem e := by
    intro e hn hg
    unfold Good
    unfold Phys.forget
    rw [MemSt.writeBufs_mem_of_not hn]
    exact hg
  have hlive : ∀ (kn : Set (Elem nD τ sig)) (i : P.ι) (e : Elem nD τ sig), G.issued i → e ∈ P.dstSet i → e ∈ P.tr →
      P.Live { G with known := kn, stage := Function.update G.stage c v } e → P.Live G e ∧ ¬ (e.1.1 = c ∧ Scoped e.loc) := by
    intro kn i e hi he ht hl
    have hn : ¬ (e.1.1 = c ∧ Scoped e.loc) := by
      rintro ⟨hc, hs⟩
      have h1 := hl hs
      change Function.update G.stage c v e.1.1 = 1 at h1
      rw [hc, Function.update_self] at h1
      exact hv h1 i e hi he ht hs hc
    refine ⟨fun hs => ?_, hn⟩
    have h1 := hl hs
    change Function.update G.stage c v e.1.1 = 1 at h1
    rwa [Function.update_of_ne (fun hc => hn ⟨hc, hs⟩)] at h1
  have hstage : ∀ c', G.stage c' ≠ 0 → Function.update G.stage c v c' ≠ 0 := by
    intro c' hc'
    by_cases hcc : c' = c
    · rw [hcc, Function.update_self]; exact hv0
    · rw [Function.update_of_ne hcc]; exact hc'
  refine { h with
    fly := fun d hd => ?_, started := fun i hi => ?_, known := fun e he => ?_, dst_stage := ?_, own_stage := ?_, sent_stage := ?_ }
  · obtain ⟨i, hi⟩ := h.fly d hd
    refine ⟨i, { hi with src := fun hr e he => ?_, dst := fun x hx ht hl => ?_ }⟩
    · refine hg e (fun hc => ?_) (hi.src hr e he)
      exact hr (hsrc i d hd hi ((P.src_dev i e he).symm.trans hc.1))
    · obtain ⟨h1, h2⟩ := hlive _ i _ hi.issued (hi.impl.dst_mem x) ht hl
      exact hg _ h2 (hi.dst x hx ht h1)
  · refine (h.started i hi).imp_right fun hld => { hld with dst := fun e he ht hl => ?_ }
    obtain ⟨h1, h2⟩ := hlive _ i _ hi he ht hl
    exact hg _ h2 (hld.dst e he ht h1)
  · exact ⟨(h.known e he.1).1, hg e (fun hc => he.2 hc.1 hc.2) (h.known e he.1).2⟩
  · exact fun i e hi he ht hs => hstage _ (h.dst_stage i e hi he ht hs)
  · exact fun i hi => hstage _ (h.own_stage i hi)
  · exact fun c₁ c₂ hc => hstage _ (h.sent_stage c₁ c₂ hc)

/-- The start of a transfer. -/
theorem Inv.enqueue (h : P.Inv G dp sp s) (i : P.ι) (d : ℕ → Dma nD τ sig Val) (hi : ¬ G.issued i) (hst : G.stage (P.owner i) ≠ 0)
    (himpl : ∀ n, P.Impl i (d n)) (hr : ∀ n, (d n).read = ∅) (hw : ∀ n, (d n).written = ∅) (hsp : ∀ n, (d n).srcPaid = 0)
    (hdp : ∀ n, (d n).dstPaid = 0) (hs : ∀ e ∈ P.srcSet i, P.Good s.mem e)
    (hd : ∀ e ∈ P.dstSet i, e ∈ P.tr → Scoped e.loc → G.stage e.1.1 ≠ 0) :
    P.Inv { G with issued := fun j => j = i ∨ G.issued j } dp sp (s.enqueue d) := by
  refine { h with
    fly := fun d' hd' => ?_, nodup := ?_, started := fun j hj => ?_, todo := fun j hj => h.todo j fun hj' => hj (.inr hj'),
    dst_stage := fun j e hj he ht hsc => ?_, own_stage := fun j hj => ?_ }
  · rcases List.mem_cons.mp hd' with rfl | hd'
    · refine ⟨i, himpl _, .inl rfl, ?_, fun _ => ?_, ?_, ?_, fun hf => ?_, fun _ hf => ?_, ?_, fun x hx => ?_, fun _ => hs, fun x hx => ?_⟩
      · rw [hdp]; exact (h.todo i hi).1
      · rw [hsp]; exact (h.todo i hi).2
      · rw [hdp]; exact Nat.zero_le _
      · rw [hsp]; exact Nat.zero_le _
      · rw [hdp] at hf; have := P.cr_pos i; omega
      · rw [hsp] at hf; have := P.cr_pos i; omega
      · rw [hw]; exact Finset.empty_subset _
      · rw [hr] at hx; exact absurd hx (Finset.notMem_empty x)
      · rw [hw] at hx; exact absurd hx (Finset.notMem_empty x)
    · obtain ⟨j, hj⟩ := h.fly d' hd'
      exact ⟨j, { hj with issued := .inr hj.issued }⟩
  · show (List.map (fun d => d.dstSem) (d s.issued :: s.dmas)).Nodup
    rw [List.map_cons, List.nodup_cons]
    refine ⟨fun hm => ?_, h.nodup⟩
    obtain ⟨d', hd', he⟩ := List.mem_map.mp hm
    obtain ⟨j, hj⟩ := h.fly d' hd'
    have hji : j = i := cellD_inj ((hj.impl.dst.symm.trans he).trans (himpl _).dst)
    exact hi (hji ▸ hj.issued)
  · rcases hj with rfl | hj
    · exact .inl ⟨d s.issued, List.mem_cons_self, (himpl _).dst⟩
    · rcases h.started j hj with ⟨d', hd', he⟩ | hl
      · exact .inl ⟨d', List.mem_cons_of_mem _ hd', he⟩
      · exact .inr { hl with }
  · rcases hj with rfl | hj
    · exact hd e he ht hsc
    · exact h.dst_stage j e hj he ht hsc
  · rcases hj with rfl | hj
    · exact hst
    · exact h.own_stage j hj

/-- A transfer's completion awaited. -/
theorem Inv.waitD (h : P.Inv G dp sp s) (i : P.ι) (hi : ¬ G.wd i) (hst : G.stage (P.waiter i) = 1)
    (hle : (P.cr i : Int) ≤ s.mem.sem (P.cellD i)) :
    P.Inv { G with wd := fun j => j = i ∨ G.wd j, known := G.known ∪ {e | e ∈ P.dstSet i ∧ e ∈ P.tr} } dp sp
      (s.subSem (P.cellD i) (P.cr i)) := by
  have hdp : dp i = P.cr i := by
    have h1 := h.semD i
    rw [if_neg hi] at h1
    have h2 := h.dle i
    omega
  have hne : ∀ g, g ≠ P.cellD i → (s.subSem (P.cellD i) (P.cr i)).mem.sem g = s.mem.sem g := fun g hg => subSem_sem_ne hg
  refine { h with
    fly := fun d hd => ?_, started := fun j hj => ?_, semD := fun j => ?_, semS := fun j g hg => ?_, wd := fun j hj => ?_,
    bar := fun c g hg => ?_, barnn := fun c g hg => ?_, rest := fun g hD hS hB => ?_, known := fun e he => ?_ }
  · exact (h.fly d hd).imp fun j hj => { hj with }
  · exact (h.started j hj).imp_right fun hl => { hl with }
  · by_cases hj : j = i
    · subst hj
      show (s.mem.subSem _ _).sem _ = _
      rw [subSem_sem_self, if_pos (.inl rfl), h.semD j, if_neg hi]
      omega
    · rw [hne _ (fun he => hj (cellD_inj he)), h.semD j]
      by_cases hw : G.wd j
      · rw [if_pos hw, if_pos (.inr hw)]
      · rw [if_neg hw, if_neg (fun hh => hh.elim hj hw)]
  · rw [hne _ (fun he => cellD_ne_cellS hg he.symm)]; exact h.semS j g hg
  · rcases hj with rfl | hj
    · exact hdp
    · exact h.wd j hj
  · rw [hne _ (fun he => cellD_ne_bar hg he.symm)]; exact h.bar c g hg
  · rw [hne _ (fun he => cellD_ne_bar hg he.symm)]; exact h.barnn c g hg
  · rw [hne _ (hD i)]; exact h.rest g hD hS hB
  · rcases he with he | ⟨he, ht⟩
    · exact h.known e he
    · exact ⟨ht, h.landed hdp he ht fun _ => by rw [P.dst_dev i e he]; exact hst⟩

/-- A transfer's source cell awaited. -/
theorem Inv.waitS (h : P.Inv G dp sp s) (i : P.ι) {g₀ : SemLoc sig} (hg₀ : P.semS i = some g₀) (hi : ¬ G.ws i)
    (hle : (P.cr i : Int) ≤ s.mem.sem ((P.owner i).tc, g₀)) :
    P.Inv { G with ws := fun j => j = i ∨ G.ws j } dp sp (s.subSem ((P.owner i).tc, g₀) (P.cr i)) := by
  have hs0 : P.semS i ≠ none := by rw [hg₀]; exact Option.some_ne_none _
  have hsp : sp i = P.cr i := by
    have h1 := h.semS i g₀ hg₀
    rw [if_neg hi] at h1
    have h2 := h.sle i hs0
    omega
  have hne : ∀ g, g ≠ ((P.owner i).tc, g₀) → (s.subSem ((P.owner i).tc, g₀) (P.cr i)).mem.sem g = s.mem.sem g := fun g hg => subSem_sem_ne hg
  refine { h with
    fly := fun d hd => ?_, started := fun j hj => ?_, semD := fun j => ?_, semS := fun j g hg => ?_, ws := fun j hj => ?_,
    bar := fun c g hg => ?_, barnn := fun c g hg => ?_, rest := fun g hD hS hB => ?_ }
  · exact (h.fly d hd).imp fun j hj => { hj with }
  · exact (h.started j hj).imp_right fun hl => { hl with }
  · rw [hne _ (cellD_ne_cellS hg₀)]; exact h.semD j
  · by_cases hj : j = i
    · subst hj
      obtain rfl : g = g₀ := Option.some.inj (hg.symm.trans hg₀)
      show (s.mem.subSem _ _).sem _ = _
      rw [subSem_sem_self, if_pos (.inl rfl), h.semS j g hg, if_neg hi]
      omega
    · rw [hne _ (fun he => hj (cellS_inj hg hg₀ he)), h.semS j g hg]
      by_cases hw : G.ws j
      · rw [if_pos hw, if_pos (.inr hw)]
      · rw [if_neg hw, if_neg (fun hh => hh.elim hj hw)]
  · rcases hj with rfl | hj
    · exact fun _ => hsp
    · exact h.ws j hj
  · rw [hne _ (fun he => cellS_ne_bar hg₀ hg he.symm)]; exact h.bar c g hg
  · rw [hne _ (fun he => cellS_ne_bar hg₀ hg he.symm)]; exact h.barnn c g hg
  · rw [hne _ (hS i g₀ hg₀)]; exact h.rest g hD hS hB

theorem signallers_subset (h : P.Inv G dp sp s) (c : Dev nD) : P.signallers G c ⊆ Finset.univ.erase c := by
  intro c' hc'
  have : G.sent c' c := (Finset.mem_filter.mp hc').2
  exact Finset.mem_erase.mpr ⟨fun he => h.noself c (by rw [he] at this; exact this), Finset.mem_univ _⟩

theorem card_erase_dev (c : Dev nD) : ((Finset.univ.erase c).card : Int) = (nD : Int) - 1 := by
  have h1 : (Finset.univ : Finset (Dev nD)).card = nD := Finset.card_fin nD
  have h2 := Finset.card_erase_of_mem (Finset.mem_univ c)
  have h3 : 0 < (Finset.univ : Finset (Dev nD)).card := Finset.card_pos.mpr ⟨c, Finset.mem_univ c⟩
  omega

/-- A device signalled. -/
theorem Inv.signal (h : P.Inv G dp sp s) (c c' : Dev nD) {g₀ : SemLoc sig} (hg₀ : P.bar = some g₀) (hne : c' ≠ c)
    (hs : ¬ G.sent c c') (hst : G.stage c ≠ 0) :
    P.Inv { G with sent := fun a b => (a = c ∧ b = c') ∨ G.sent a b } dp sp (s.signal ((c'.tc : Thread nD τ), g₀) 1) := by
  refine { h with
    fly := fun d hd => ?_, started := fun j hj => ?_, sigs := fun sg hsg => ?_, bar := fun a g hg => ?_, noself := fun a => ?_,
    passed := fun a hb ha b hb' => .inr (h.passed a hb ha b hb'), sent_stage := fun a b hab => ?_ }
  · exact (h.fly d hd).imp fun j hj => { hj with }
  · exact (h.started j hj).imp_right fun hl => { hl with }
  · rcases List.mem_cons.mp hsg with rfl | hsg
    · exact ⟨rfl, c', g₀, hg₀, rfl⟩
    · exact h.sigs sg hsg
  · obtain rfl : g = g₀ := Option.some.inj (hg.symm.trans hg₀)
    have hb := h.bar a g hg
    by_cases ha : a = c'
    · subst ha
      have h1 : P.signallers { G with sent := fun x b => (x = c ∧ b = a) ∨ G.sent x b } a = insert c (P.signallers G a) := by
        ext x
        simp only [signallers, Finset.mem_filter, Finset.mem_univ, true_and, Finset.mem_insert, and_true]
      have h2 : c ∉ P.signallers G a := fun hc => hs (Finset.mem_filter.mp hc).2
      have h3 : inFlight (s.signal ((a.tc : Thread nD τ), g) 1) (a.tc, g) = inFlight s (a.tc, g) + 1 := by
        unfold inFlight Phys.signal
        rw [List.countP_cons_of_pos (by simp)]
      rw [h1, Finset.card_insert_of_notMem h2, h3]
      show s.mem.sem _ + _ + _ = _
      push_cast
      change s.mem.sem _ + _ + (if G.passed a then _ else _) = _
      omega
    · have h1 : P.signallers { G with sent := fun x b => (x = c ∧ b = c') ∨ G.sent x b } a = P.signallers G a := by
        ext x
        simp only [signallers, Finset.mem_filter, Finset.mem_univ, true_and, ha, and_false, false_or]
      have h3 : inFlight (s.signal ((c'.tc : Thread nD τ), g) 1) (a.tc, g) = inFlight s (a.tc, g) := by
        unfold inFlight Phys.signal
        rw [List.countP_cons_of_neg]
        simp only [decide_eq_true_eq]
        exact fun he => ha (congrArg (fun g => g.1.1) he).symm
      rw [h1, h3]
      exact hb
  · rintro (⟨rfl, hh⟩ | hh)
    · exact hne hh.symm
    · exact h.noself a hh
  · rcases hab with ⟨rfl, _⟩ | hab
    · exact hst
    · exact h.sent_stage a b hab

/-- The barrier passed. -/
theorem Inv.semWait (h : P.Inv G dp sp s) (c : Dev nD) {g₀ : SemLoc sig} (hg₀ : P.bar = some g₀) (hp : ¬ G.passed c)
    (hle : (nD : Int) - 1 ≤ s.mem.sem ((c.tc : Thread nD τ), g₀)) :
    P.Inv { G with passed := fun a => a = c ∨ G.passed a } dp sp (s.subSem ((c.tc : Thread nD τ), g₀) ((nD : Int) - 1)) := by
  have hne : ∀ g, g ≠ ((c.tc : Thread nD τ), g₀) → (s.subSem ((c.tc : Thread nD τ), g₀) ((nD : Int) - 1)).mem.sem g = s.mem.sem g := fun g hg => subSem_sem_ne hg
  refine { h with
    fly := fun d hd => ?_, started := fun j hj => ?_, semD := fun j => ?_, semS := fun j g hg => ?_,
    bar := fun a g hg => ?_, barnn := fun a g hg => ?_, rest := fun g hD hS hB => ?_, passed := fun a hb ha b hba => ?_ }
  · exact (h.fly d hd).imp fun j hj => { hj with }
  · exact (h.started j hj).imp_right fun hl => { hl with }
  · rw [hne _ (cellD_ne_bar hg₀)]; exact h.semD j
  · rw [hne _ (cellS_ne_bar hg hg₀)]; exact h.semS j g hg
  · obtain rfl : g = g₀ := Option.some.inj (hg.symm.trans hg₀)
    have hb := h.bar a g hg
    by_cases ha : a = c
    · subst ha
      show (s.mem.subSem _ _).sem _ + _ + _ = _
      rw [subSem_sem_self, if_pos (.inl rfl)]
      rw [if_neg hp] at hb
      change s.mem.sem _ - _ + (inFlight s _ : Int) + _ = ((P.signallers G a).card : Int)
      omega
    · rw [hne _ (fun he => ha (congrArg (fun g => g.1.1) he))]
      by_cases hpa : G.passed a
      · rw [if_pos hpa] at hb; rw [if_pos (Or.inr hpa)]; exact hb
      · rw [if_neg hpa] at hb; rw [if_neg (fun hh : a = c ∨ G.passed a => hh.elim ha hpa)]; exact hb
  · by_cases ha : a = c
    · subst ha
      obtain rfl : g = g₀ := Option.some.inj (hg.symm.trans hg₀)
      show 0 ≤ (s.mem.subSem _ _).sem _
      rw [subSem_sem_self]; omega
    · rw [hne _ (fun he => ha (congrArg (fun g => g.1.1) he))]; exact h.barnn a g hg
  · rw [hne _ (hB c g₀ hg₀)]; exact h.rest g hD hS hB
  · rcases ha with rfl | ha
    · have hc := h.bar a g₀ hg₀
      rw [if_neg hp] at hc
      have h1 := signallers_subset h a
      have h2 := card_erase_dev a
      have h3 := Finset.card_le_card h1
      have h4 : P.signallers G a = Finset.univ.erase a := Finset.eq_of_subset_of_card_le h1 (by omega)
      have h5 : b ∈ P.signallers G a := by rw [h4]; exact Finset.mem_erase.mpr ⟨hba, Finset.mem_univ _⟩
      exact (Finset.mem_filter.mp h5).2
    · exact h.passed a hb ha b hba

/-- A signal delivered. -/
theorem Inv.deliver (h : P.Inv G dp sp s) {k : ℕ} {sg : Signal nD τ sig} (hk : s.sigs[k]? = some sg) :
    P.Inv G dp sp (s.deliver k sg) := by
  obtain ⟨ha, c, g₀, hg₀, hcell⟩ := h.sigs sg (List.mem_of_getElem? hk)
  have hne : ∀ g, g ≠ ((c.tc : Thread nD τ), g₀) → (s.deliver k sg).mem.sem g = s.mem.sem g := by
    intro g hg
    show (s.mem.addSem sg.cell sg.amount).sem g = _
    rw [hcell]; exact addSem_sem_ne hg
  have hself : (s.deliver k sg).mem.sem ((c.tc : Thread nD τ), g₀) = s.mem.sem ((c.tc : Thread nD τ), g₀) + 1 := by
    show (s.mem.addSem sg.cell sg.amount).sem _ = _
    rw [hcell, ha]; exact addSem_sem_self
  have hcount : ∀ g, inFlight (s.deliver k sg) g + (if sg.cell = g then 1 else 0) = inFlight s g := by
    intro g
    have := sum_eraseIdx (fun sg : Signal nD τ sig => if sg.cell = g then 1 else 0) hk
    have hsum : ∀ l : List (Signal nD τ sig), l.countP (fun sg => sg.cell = g) = (l.map fun sg => if sg.cell = g then 1 else 0).sum := by
      intro l
      induction l with
      | nil => rfl
      | cons a l ih =>
        rw [List.map_cons, List.sum_cons, ← ih]
        by_cases hag : a.cell = g
        · rw [List.countP_cons_of_pos (by simpa using hag), if_pos hag]; omega
        · rw [List.countP_cons_of_neg (by simpa using hag), if_neg hag]; omega
    unfold inFlight
    rw [hsum, hsum]
    exact this
  refine { h with
    ops := touchSem_none h.ops _, fly := fun d hd => ?_, started := fun j hj => ?_, semD := fun j => ?_, semS := fun j g hg => ?_,
    sigs := fun sg' hsg' => h.sigs sg' (List.mem_of_mem_eraseIdx hsg'),
    bar := fun a g hg => ?_, barnn := fun a g hg => ?_, rest := fun g hD hS hB => ?_, known := fun e he => h.known e he }
  · exact (h.fly d hd).imp fun j hj => { hj with }
  · exact (h.started j hj).imp_right fun hl => { hl with }
  · rw [hne _ (cellD_ne_bar hg₀)]; exact h.semD j
  · rw [hne _ (cellS_ne_bar hg hg₀)]; exact h.semS j g hg
  · obtain rfl : g = g₀ := Option.some.inj (hg.symm.trans hg₀)
    have hb := h.bar a g hg
    have hc := hcount (a.tc, g)
    by_cases hac : a = c
    · subst hac
      rw [if_pos hcell] at hc
      rw [hself]
      omega
    · rw [hne _ (fun he => hac (congrArg (fun g => g.1.1) he))]
      rw [if_neg (fun he => hac (congrArg (fun g => g.1.1) (he.symm.trans hcell)))] at hc
      rw [Nat.add_zero] at hc
      rw [hc]; exact hb
  · by_cases hac : a = c
    · subst hac
      obtain rfl : g = g₀ := Option.some.inj (hg.symm.trans hg₀)
      rw [hself]; have := h.barnn a g hg; omega
    · rw [hne _ (fun he => hac (congrArg (fun g => g.1.1) he))]; exact h.barnn a g hg
  · rw [hne _ (hB c g₀ hg₀)]; exact h.rest g hD hS hB

/-- A step of the engine on the pending transfer at position `k`. -/
theorem Inv.progress (h : P.Inv G dp sp s) {k : ℕ} {d : Dma nD τ sig Val} (hk : s.dmas[k]? = some d) {i : P.ι}
    (d₁ : Dma nD τ sig Val) (hd₁ : d₁.dstSem = d.dstSem) (hdi : d.dstSem = P.cellD i) (m' : MemSt nD τ sig Val)
    (ops' : Thread nD τ → Option (PendingOp τ sig Val)) (dp' sp' : P.ι → ℕ)
    (ho : ∀ t, ops' t = none) (hg : ∀ e ∈ P.tr, P.Good s.mem e → P.Good m' e)
    (hdp : ∀ j, j ≠ i → dp' j = dp j) (hsp : ∀ j, j ≠ i → sp' j = sp j) (hdi' : dp i ≤ dp' i) (hsi' : P.semS i ≠ none → sp i ≤ sp' i)
    (hf : P.Flies G dp' sp' m' i d₁)
    (hD : m'.sem (P.cellD i) = s.mem.sem (P.cellD i) + ((dp' i : Int) - dp i))
    (hS : ∀ g, P.semS i = some g → m'.sem ((P.owner i).tc, g) = s.mem.sem ((P.owner i).tc, g) + ((sp' i : Int) - sp i))
    (hO : ∀ g, g ≠ P.cellD i → (∀ h, P.semS i = some h → g ≠ ((P.owner i).tc, h)) → m'.sem g = s.mem.sem g) :
    P.Inv G dp' sp' { s with mem := m', dmas := s.dmas.set k d₁, ops := ops' } := by
  have hother : ∀ j d', d' ∈ s.dmas → d'.dstSem ≠ d.dstSem → P.Flies G dp sp s.mem j d' → P.Flies G dp' sp' m' j d' := by
    intro j d' hd' hne hj
    have hji : j ≠ i := by
      rintro rfl
      exact hne (hj.impl.dst.trans hdi.symm)
    exact { hj.good hg with dp := (hdp j hji).trans hj.dp, sp := fun hs => (hsp j hji).trans (hj.sp hs) }
  refine { h with
    ops := ho, fly := fun d' hd' => ?_, nodup := ?_, started := fun j hj => ?_, todo := fun j hj => ?_, semD := fun j => ?_,
    semS := fun j g hgj => ?_, wd := fun j hj => ?_, ws := fun j hj hs => ?_, bar := fun a g hgb => ?_, barnn := fun a g hgb => ?_,
    rest := fun g hgD hgS hgB => ?_, known := fun e he => ⟨(h.known e he).1, hg e (h.known e he).1 (h.known e he).2⟩ }
  · rcases mem_set (f := fun d : Dma nD τ sig Val => d.dstSem) hk h.nodup hd' with rfl | ⟨hd', hne⟩
    · exact ⟨i, hf⟩
    · obtain ⟨j, hj⟩ := h.fly d' hd'
      exact ⟨j, hother j d' hd' hne hj⟩
  · show ((s.dmas.set k d₁).map fun d => d.dstSem).Nodup
    rw [map_set_eq hk hd₁]; exact h.nodup
  · by_cases hji : j = i
    · subst hji
      exact .inl ⟨d₁, List.mem_set (by
        have := List.getElem?_eq_some_iff.mp hk
        exact this.1) d₁, hd₁.trans hdi⟩
    · rcases h.started j hj with ⟨d', hd', he⟩ | hl
      · refine .inl ?_
        have : P.cellD j ∈ (s.dmas.set k d₁).map fun d => d.dstSem := by
          rw [map_set_eq hk hd₁]; exact List.mem_map.mpr ⟨d', hd', he⟩
        obtain ⟨d'', hd'', he''⟩ := List.mem_map.mp this
        exact ⟨d'', hd'', he''⟩
      · exact .inr { hl.good hg with dp := (hdp j hji).trans hl.dp, sp := fun hs => (hsp j hji).trans (hl.sp hs) }
  · have hji : j ≠ i := by rintro rfl; exact hj hf.issued
    rw [hdp j hji, hsp j hji]; exact h.todo j hj
  · show m'.sem _ = _
    by_cases hji : j = i
    · subst hji; rw [hD, h.semD j]; omega
    · rw [hO _ (fun he => hji (cellD_inj he)) (fun g hgi => cellD_ne_cellS hgi), hdp j hji]; exact h.semD j
  · show m'.sem _ = _
    by_cases hji : j = i
    · subst hji; rw [hS g hgj, h.semS j g hgj]; omega
    · rw [hO _ (fun he => cellD_ne_cellS hgj he.symm) (fun g' hgi he => hji (cellS_inj hgj hgi he)), hsp j hji]; exact h.semS j g hgj
  · by_cases hji : j = i
    · subst hji
      have h1 := h.wd j hj
      have h2 := hf.dle
      have h3 := hf.dp
      omega
    · rw [hdp j hji]; exact h.wd j hj
  · by_cases hji : j = i
    · subst hji
      have h1 := h.ws j hj hs
      have h2 := hf.sle
      have h3 := hf.sp hs
      have h4 := hsi' hs
      omega
    · rw [hsp j hji]; exact h.ws j hj hs
  · show m'.sem _ + _ + _ = _
    rw [hO _ (fun he => cellD_ne_bar hgb he.symm) (fun g' hgi he => cellS_ne_bar hgi hgb he.symm)]; exact h.bar a g hgb
  · show 0 ≤ m'.sem _
    rw [hO _ (fun he => cellD_ne_bar hgb he.symm) (fun g' hgi he => cellS_ne_bar hgi hgb he.symm)]; exact h.barnn a g hgb
  · show m'.sem g = 0
    rw [hO _ (hgD i) (hgS i)]; exact h.rest g hgD hgS hgB

theorem srcFor_eq (h : P.Inv G dp sp s) (d : Dma nD τ sig Val) (alt : Buf Val d.src) : s.srcFor d alt = s.mem.mem d.src := by
  unfold Phys.srcFor
  rw [if_neg]
  unfold Phys.opWrites
  simp [h.ops]

/-- The engine reads a chunk. -/
theorem Inv.dmaRead (h : P.Inv G dp sp s) {k : ℕ} {d : Dma nD τ sig Val} (hk : s.dmas[k]? = some d) (M : Finset d.shape.Idx)
    (alt : Buf Val d.src) (hM : d.Reads M) : P.Inv G dp sp (s.dmaRead k d M alt) := by
  obtain ⟨i, hi⟩ := h.fly d (List.mem_of_getElem? hk)
  have hru : d.read ≠ Finset.univ := by
    intro hr
    obtain ⟨x, hx⟩ := hM.2
    have := hM.1 hx
    rw [Dma.toRead, hr] at this
    simp at this
  have hsrc := hi.src hru
  refine h.progress hk (d.afterRead M (s.srcFor d alt)) rfl hi.impl.dst s.mem s.ops dp sp h.ops (fun _ _ hg => hg) (fun _ _ => rfl) (fun _ _ => rfl)
    le_rfl (fun _ => le_rfl) ?_ (by omega) (fun _ _ => by omega) (fun _ _ _ => rfl)
  refine ⟨⟨hi.impl.dst, hi.impl.src, hi.impl.credit, hi.impl.dst_mem, hi.impl.dst_cov, hi.impl.carry⟩, hi.issued, hi.dp, hi.sp, hi.dle,
    hi.sle, hi.dfull, fun hs hf => ?_, ?_, fun x hx ht => ?_, fun _ => hsrc, hi.dst⟩
  · exact absurd (hi.sfull hs hf) hru
  · exact fun x hx => Finset.mem_union_left _ (hi.wr hx)
  · by_cases hxM : x ∈ M
    · show cast _ ((d.afterRead M (s.srcFor d alt)).buf x) = _
      rw [Dma.afterRead_buf_of_mem _ _ hxM, srcFor_eq h]
      exact hi.impl.carry x ht _ fun y hy => hsrc _ hy
    · show cast _ ((d.afterRead M (s.srcFor d alt)).buf x) = _
      rw [Dma.afterRead_buf_of_not_mem _ _ hxM]
      exact hi.buf x ((Finset.mem_union.mp hx).resolve_right hxM) ht

/-- The engine writes a chunk. -/
theorem Inv.dmaWrite (h : P.Inv G dp sp s) {k : ℕ} {d : Dma nD τ sig Val} (hk : s.dmas[k]? = some d) (M : Finset d.shape.Idx)
    (hM : d.Writes M) : P.Inv G dp sp (s.dmaWrite k d M) := by
  obtain ⟨i, hi⟩ := h.fly d (List.mem_of_getElem? hk)
  have hMr : ∀ x ∈ M, x ∈ d.read := fun x hx => (Finset.mem_sdiff.mp (hM.1 hx)).1
  have hnew : ∀ x ∈ M, (⟨d.dst, d.dstView.emb x⟩ : Elem nD τ sig) ∈ P.tr →
      P.Good (s.mem.writeView d.dstCore d.dstView d.buf M) ⟨d.dst, d.dstView.emb x⟩ := by
    intro x hx ht
    unfold Good
    rw [MemSt.dmaWrite_mem_emb _ _ _ hx]
    exact hi.buf x (hMr x hx) ht
  have hg : ∀ e ∈ P.tr, P.Good s.mem e → P.Good (s.mem.writeView d.dstCore d.dstView d.buf M) e := by
    rintro ⟨ℓ, y⟩ ht hgd
    by_cases hℓ : ℓ = d.dst
    · subst hℓ
      by_cases hy : ∃ x ∈ M, d.dstView.emb x = y
      · obtain ⟨x, hx, rfl⟩ := hy
        exact hnew x hx ht
      · unfold Good
        rw [MemSt.dmaWrite_mem_of_not_mem]
        · exact hgd
        · intro hm
          apply hy
          simpa [View.setOn] using hm
    · unfold Good
      rw [MemSt.dmaWrite_mem_ne _ _ _ hℓ]
      exact hgd
  refine h.progress hk (d.afterWrite M) rfl hi.impl.dst _ _ dp sp (touch_none h.ops _ _ _) hg (fun _ _ => rfl) (fun _ _ => rfl)
    le_rfl (fun _ => le_rfl) ?_ (by simp) (fun _ _ => by simp) (fun _ _ _ => rfl)
  refine ⟨⟨hi.impl.dst, hi.impl.src, hi.impl.credit, hi.impl.dst_mem, hi.impl.dst_cov, hi.impl.carry⟩, hi.issued, hi.dp, hi.sp, hi.dle,
    hi.sle, fun hf => ?_, hi.sfull, fun x hx => ?_, hi.buf, fun hr e he => hg e (P.src_tr i e he) (hi.src hr e he), fun x hx ht hl => ?_⟩
  · show d.written ∪ M = Finset.univ
    rw [hi.dfull hf]; exact Finset.union_eq_left.mpr (Finset.subset_univ _)
  · exact (Finset.mem_union.mp hx).elim (fun hx => hi.wr hx) (hMr x)
  · exact (Finset.mem_union.mp hx).elim (fun hx => hg _ ht (hi.dst x hx ht hl)) (fun hx => hnew x hx ht)

/-- The engine pays an instalment to the completion cell. -/
theorem Inv.dmaPayDst (h : P.Inv G dp sp s) {k : ℕ} {d : Dma nD τ sig Val} (hk : s.dmas[k]? = some d) (n : ℕ) (hn : d.PaysDst n) :
    ∃ dp', P.Inv G dp' sp (s.dmaPayDst k d n) := by
  obtain ⟨i, hi⟩ := h.fly d (List.mem_of_getElem? hk)
  have hcr := hi.impl.credit
  refine ⟨Function.update dp i (dp i + n), ?_⟩
  refine h.progress hk (d.paidDst n) rfl hi.impl.dst _ _ _ sp (touchSem_none h.ops _) (fun _ _ hg => hg) (fun j hj => Function.update_of_ne hj _ _)
    (fun _ _ => rfl) (by rw [Function.update_self]; omega) (fun _ => le_rfl) ?_ ?_ (fun g hg => ?_) (fun g hg _ => ?_)
  · refine ⟨⟨hi.impl.dst, hi.impl.src, hi.impl.credit, hi.impl.dst_mem, hi.impl.dst_cov, hi.impl.carry⟩, hi.issued, ?_, hi.sp, ?_,
      hi.sle, fun hf => ?_, hi.sfull, hi.wr, hi.buf, hi.src, hi.dst⟩
    · rw [Function.update_self, hi.dp]; rfl
    · rw [← hcr]; exact hn.2.1
    · exact hn.2.2 (by rw [hcr]; exact hf)
  · rw [hi.impl.dst, addSem_sem_self, Function.update_self]; push_cast; omega
  · rw [hi.impl.dst, addSem_sem_ne (fun he => cellD_ne_cellS hg he.symm)]; omega
  · rw [hi.impl.dst, addSem_sem_ne hg]

/-- The engine pays an instalment to the source cell. -/
theorem Inv.dmaPaySrc (h : P.Inv G dp sp s) {k : ℕ} {d : Dma nD τ sig Val} (hk : s.dmas[k]? = some d) (n : ℕ) (hn : d.PaysSrc n) :
    ∃ sp', P.Inv G dp sp' (s.dmaPaySrc k d n) := by
  obtain ⟨i, hi⟩ := h.fly d (List.mem_of_getElem? hk)
  have hcr := hi.impl.credit
  obtain ⟨g₀, hg₀⟩ : ∃ g, P.semS i = some g := by
    have h1 := hn.1
    rw [hi.impl.src, Option.isSome_map] at h1
    exact Option.isSome_iff_exists.mp h1
  have hs0 : P.semS i ≠ none := by rw [hg₀]; exact Option.some_ne_none _
  have hsrc : d.srcSem = some ((P.owner i).tc, g₀) := by rw [hi.impl.src, hg₀]; rfl
  have hcredit : s.mem.creditSrc d n = s.mem.addSem ((P.owner i).tc, g₀) n := by
    unfold MemSt.creditSrc; rw [hsrc]
  refine ⟨Function.update sp i (sp i + n), ?_⟩
  refine h.progress hk (d.paidSrc n) rfl hi.impl.dst (s.mem.creditSrc d n) _ dp _ ?_ ?_ (fun _ _ => rfl) (fun j hj => Function.update_of_ne hj _ _)
    le_rfl (fun _ => by rw [Function.update_self]; omega) ?_ ?_ (fun g hg => ?_) (fun g hg hg' => ?_)
  · rw [hsrc]; exact touchSem_none h.ops _
  · rw [hcredit]; exact fun _ _ hg => hg
  · refine ⟨⟨hi.impl.dst, hi.impl.src, hi.impl.credit, hi.impl.dst_mem, hi.impl.dst_cov, hi.impl.carry⟩, hi.issued, hi.dp, fun hs => ?_, hi.dle,
      ?_, hi.dfull, fun hs hf => ?_, hi.wr, hi.buf, ?_, ?_⟩
    · rw [Function.update_self, hi.sp hs]; rfl
    · rw [← hcr]; exact hn.2.2.1
    · exact hn.2.2.2 (by rw [hcr]; exact hf)
    · rw [hcredit]; exact hi.src
    · rw [hcredit]; exact hi.dst
  · rw [hcredit, addSem_sem_ne (cellD_ne_cellS hg₀)]; omega
  · obtain rfl : g = g₀ := Option.some.inj (hg.symm.trans hg₀)
    rw [hcredit, addSem_sem_self, Function.update_self]; push_cast; omega
  · rw [hcredit, addSem_sem_ne (hg' g₀ hg₀)]

/-- The engine drops a transfer made and paid in full. -/
theorem Inv.dmaRetire (h : P.Inv G dp sp s) {k : ℕ} {d : Dma nD τ sig Val} (hk : s.dmas[k]? = some d) (hr : d.Retires) :
    P.Inv G dp sp (s.dmaRetire k) := by
  obtain ⟨i, hi⟩ := h.fly d (List.mem_of_getElem? hk)
  refine { h with fly := fun d' hd' => ?_, nodup := ?_, started := fun j hj => ?_ }
  · exact h.fly d' (List.mem_of_mem_eraseIdx hd')
  · exact h.nodup.sublist ((List.eraseIdx_sublist s.dmas k).map _)
  · by_cases hji : j = i
    · subst hji
      refine .inr ⟨?_, fun hs => ?_, fun e he ht hl => ?_⟩
      · rw [hi.dp, hr.2.1, hi.impl.credit]
      · rw [hi.sp hs]
        rcases hr.2.2 with hn | hp
        · rw [hi.impl.src, Option.map_eq_none_iff] at hn; exact absurd hn hs
        · rw [hp, hi.impl.credit]
      · obtain ⟨x, rfl⟩ := hi.impl.dst_cov e he
        exact hi.dst x (by rw [hr.1]; exact Finset.mem_univ x) ht hl
    · rcases h.started j hj with ⟨d', hd', he⟩ | hl
      · refine .inl ⟨d', ?_, he⟩
        obtain ⟨k', hk', hkd⟩ := List.mem_iff_getElem.mp hd'
        rw [Phys.dmaRetire]
        refine List.mem_eraseIdx_iff_getElem?.mpr ⟨k', ?_, ?_⟩
        · rintro rfl
          have : d' = d := by rw [List.getElem?_eq_getElem hk', hkd] at hk; exact Option.some.inj hk
          subst this
          exact hji (cellD_inj (he.symm.trans hi.impl.dst))
        · rw [List.getElem?_eq_getElem hk', hkd]
      · exact .inr hl

/-! ### The engine's measure -/

/-- How much the engine has left to do on a pending transfer. -/
def left (d : Dma nD τ sig Val) : ℕ :=
  d.toRead.card + d.toWrite.card + (d.credit - d.srcPaid) + (d.credit - d.dstPaid) + 1

/-- How much the engine and the deliveries have left to do. -/
def measure (s : Phys nD τ sig Val) : ℕ := (s.dmas.map left).sum + s.sigs.length

theorem measure_set {s : Phys nD τ sig Val} {k : ℕ} {d d₁ : Dma nD τ sig Val} (hk : s.dmas[k]? = some d) (hlt : left d₁ < left d)
    {m' : MemSt nD τ sig Val} {ops' : Thread nD τ → Option (PendingOp τ sig Val)} :
    measure { s with mem := m', dmas := s.dmas.set k d₁, ops := ops' } < measure s := by
  have := sum_set left d₁ hk
  unfold measure
  show ((s.dmas.set k d₁).map left).sum + s.sigs.length < _
  omega

theorem left_afterRead (d : Dma nD τ sig Val) (M : Finset d.shape.Idx) (f : Buf Val d.src) (hM : d.Reads M) : left (d.afterRead M f) < left d := by
  have : (Finset.univ \ (d.read ∪ M)).card < (Finset.univ \ d.read).card := by
    refine Finset.card_lt_card ⟨Finset.sdiff_subset_sdiff (Finset.Subset.refl _) Finset.subset_union_left, fun hs => ?_⟩
    obtain ⟨x, hx⟩ := hM.2
    exact (Finset.mem_sdiff.mp (hs (hM.1 hx))).2 (Finset.mem_union_right _ hx)
  unfold left
  show (Finset.univ \ (d.read ∪ M)).card + (Finset.univ \ d.written).card + (d.credit - d.srcPaid) + (d.credit - d.dstPaid) + 1
    < (Finset.univ \ d.read).card + (Finset.univ \ d.written).card + (d.credit - d.srcPaid) + (d.credit - d.dstPaid) + 1
  omega

theorem left_afterWrite (d : Dma nD τ sig Val) (M : Finset d.shape.Idx) (hM : d.Writes M) : left (d.afterWrite M) < left d := by
  have : (Finset.univ \ (d.written ∪ M)).card < (Finset.univ \ d.written).card := by
    refine Finset.card_lt_card ⟨Finset.sdiff_subset_sdiff (Finset.Subset.refl _) Finset.subset_union_left, fun hs => ?_⟩
    obtain ⟨x, hx⟩ := hM.2
    exact (Finset.mem_sdiff.mp (hs (Finset.mem_sdiff.mpr ⟨Finset.mem_univ x, (Finset.mem_sdiff.mp (hM.1 hx)).2⟩))).2 (Finset.mem_union_right _ hx)
  unfold left
  show (Finset.univ \ d.read).card + (Finset.univ \ (d.written ∪ M)).card + (d.credit - d.srcPaid) + (d.credit - d.dstPaid) + 1
    < (Finset.univ \ d.read).card + (Finset.univ \ d.written).card + (d.credit - d.srcPaid) + (d.credit - d.dstPaid) + 1
  omega

theorem left_paidSrc (d : Dma nD τ sig Val) (n : ℕ) (hn : d.PaysSrc n) : left (d.paidSrc n) < left d := by
  have h1 := hn.2.1
  have h2 := hn.2.2.1
  unfold left
  show (Finset.univ \ d.read).card + (Finset.univ \ d.written).card + (d.credit - (d.srcPaid + n)) + (d.credit - d.dstPaid) + 1
    < (Finset.univ \ d.read).card + (Finset.univ \ d.written).card + (d.credit - d.srcPaid) + (d.credit - d.dstPaid) + 1
  omega

theorem left_paidDst (d : Dma nD τ sig Val) (n : ℕ) (hn : d.PaysDst n) : left (d.paidDst n) < left d := by
  have h1 := hn.1
  have h2 := hn.2.1
  unfold left
  show (Finset.univ \ d.read).card + (Finset.univ \ d.written).card + (d.credit - d.srcPaid) + (d.credit - (d.dstPaid + n)) + 1
    < (Finset.univ \ d.read).card + (Finset.univ \ d.written).card + (d.credit - d.srcPaid) + (d.credit - d.dstPaid) + 1
  omega

theorem measure_retire {s : Phys nD τ sig Val} {k : ℕ} {d : Dma nD τ sig Val} (hk : s.dmas[k]? = some d) :
    measure (s.dmaRetire k) < measure s := by
  have := sum_eraseIdx left hk
  have h1 : 0 < left d := Nat.succ_pos _
  unfold measure
  show ((s.dmas.eraseIdx k).map left).sum + s.sigs.length < _
  omega

theorem measure_deliver {s : Phys nD τ sig Val} {k : ℕ} {sg : Signal nD τ sig} (hk : s.sigs[k]? = some sg) :
    measure (s.deliver k sg) < measure s := by
  have := (List.getElem?_eq_some_iff.mp hk).1
  have h1 := List.length_eraseIdx_of_lt this
  unfold measure
  show (s.dmas.map left).sum + (s.sigs.eraseIdx k).length < _
  omega

end Keep

/-! ## The running state -/

section Gather
variable (L : Dev nD → P.Local) (c : Dev nD)

theorem gather_learn (K : Set (LElem τ sig)) : P.gather (Function.update L c ((L c).learn K)) =
    { P.gather L with known := (P.gather L).known ∪ {e | e.1.1 = c ∧ e.loc ∈ K} } := by
  ext e <;> simp only [gather, Set.mem_setOf_eq, Set.mem_union]
  case known => by_cases h : e.1.1 = c
                · rw [h, Function.update_self]; simp
                · rw [Function.update_of_ne h]; simp [h]
  case stage => by_cases h : e = c
                · rw [h, Function.update_self]
                · rw [Function.update_of_ne h]
  case issued => by_cases h : P.owner e = c
                 · rw [h, Function.update_self]
                 · rw [Function.update_of_ne h]
  case wd => by_cases h : P.waiter e = c
             · rw [h, Function.update_self]
             · rw [Function.update_of_ne h]
  case ws => by_cases h : P.owner e = c
             · rw [h, Function.update_self]
             · rw [Function.update_of_ne h]
  case sent => by_cases h : e = c
               · rw [h, Function.update_self]
               · rw [Function.update_of_ne h]
  case passed => by_cases h : e = c
                 · rw [h, Function.update_self]
                 · rw [Function.update_of_ne h]

theorem gather_enter : P.gather (Function.update L c (L c).enter) =
    { P.gather L with
      known := {e | e ∈ (P.gather L).known ∧ (e.1.1 = c → ¬ Scoped e.loc)}
      stage := Function.update (P.gather L).stage c 1 } := by
  ext e <;> simp only [gather, Set.mem_setOf_eq, Set.mem_union]
  case known => by_cases h : e.1.1 = c
                · rw [h, Function.update_self]; simp [gather, h]
                · rw [Function.update_of_ne h]; simp [h, gather]
  case stage => by_cases h : e = c
                · rw [h, Function.update_self, Function.update_self]
                · rw [Function.update_of_ne h, Function.update_of_ne h]
  case issued => by_cases h : P.owner e = c
                 · rw [h, Function.update_self]
                 · rw [Function.update_of_ne h]
  case wd => by_cases h : P.waiter e = c
             · rw [h, Function.update_self]
             · rw [Function.update_of_ne h]
  case ws => by_cases h : P.owner e = c
             · rw [h, Function.update_self]
             · rw [Function.update_of_ne h]
  case sent => by_cases h : e = c
               · rw [h, Function.update_self]
               · rw [Function.update_of_ne h]
  case passed => by_cases h : e = c
                 · rw [h, Function.update_self]
                 · rw [Function.update_of_ne h]

theorem gather_leave : P.gather (Function.update L c (L c).leave) =
    { P.gather L with
      known := {e | e ∈ (P.gather L).known ∧ (e.1.1 = c → ¬ Scoped e.loc)}
      stage := Function.update (P.gather L).stage c 2 } := by
  ext e <;> simp only [gather, Set.mem_setOf_eq, Set.mem_union]
  case known => by_cases h : e.1.1 = c
                · rw [h, Function.update_self]; simp [gather, h]
                · rw [Function.update_of_ne h]; simp [h, gather]
  case stage => by_cases h : e = c
                · rw [h, Function.update_self, Function.update_self]
                · rw [Function.update_of_ne h, Function.update_of_ne h]
  case issued => by_cases h : P.owner e = c
                 · rw [h, Function.update_self]
                 · rw [Function.update_of_ne h]
  case wd => by_cases h : P.waiter e = c
             · rw [h, Function.update_self]
             · rw [Function.update_of_ne h]
  case ws => by_cases h : P.owner e = c
             · rw [h, Function.update_self]
             · rw [Function.update_of_ne h]
  case sent => by_cases h : e = c
               · rw [h, Function.update_self]
               · rw [Function.update_of_ne h]
  case passed => by_cases h : e = c
                 · rw [h, Function.update_self]
                 · rw [Function.update_of_ne h]

theorem gather_issue {i : P.ι} (ho : P.owner i = c) : P.gather (Function.update L c ((L c).issue i)) =
    { P.gather L with issued := fun j => j = i ∨ (P.gather L).issued j } := by
  ext e <;> simp only [gather, Set.mem_setOf_eq, Set.mem_union]
  case known => by_cases h : e.1.1 = c
                · rw [h, Function.update_self]
                · rw [Function.update_of_ne h]
  case stage => by_cases h : e = c
                · rw [h, Function.update_self]
                · rw [Function.update_of_ne h]
  case issued => by_cases h : P.owner e = c
                 · rw [h, Function.update_self]; simp [gather, h]
                 · rw [Function.update_of_ne h]; exact ⟨.inr, fun hh => hh.elim (fun he => absurd (he ▸ ho) h) id⟩
  case wd => by_cases h : P.waiter e = c
             · rw [h, Function.update_self]
             · rw [Function.update_of_ne h]
  case ws => by_cases h : P.owner e = c
             · rw [h, Function.update_self]
             · rw [Function.update_of_ne h]
  case sent => by_cases h : e = c
               · rw [h, Function.update_self]
               · rw [Function.update_of_ne h]
  case passed => by_cases h : e = c
                 · rw [h, Function.update_self]
                 · rw [Function.update_of_ne h]

theorem gather_waitD {i : P.ι} (ho : P.waiter i = c) : P.gather (Function.update L c ((L c).waitD i)) =
    { P.gather L with
      wd := fun j => j = i ∨ (P.gather L).wd j
      known := (P.gather L).known ∪ {e | e ∈ P.dstSet i ∧ e ∈ P.tr} } := by
  ext e <;> simp only [gather, Set.mem_setOf_eq, Set.mem_union]
  case known => by_cases h : e.1.1 = c
                · rw [h, Function.update_self]; rw [Set.mem_union, Set.mem_setOf_eq, ho, ← h]
                · rw [Function.update_of_ne h]; exact ⟨.inl, fun hh => hh.elim id fun hd => absurd ((P.dst_dev i e hd.1).trans ho) h⟩
  case stage => by_cases h : e = c
                · rw [h, Function.update_self]
                · rw [Function.update_of_ne h]
  case issued => by_cases h : P.owner e = c
                 · rw [h, Function.update_self]
                 · rw [Function.update_of_ne h]
  case wd => by_cases h : P.waiter e = c
             · rw [h, Function.update_self]; simp [gather, h]
             · rw [Function.update_of_ne h]; exact ⟨.inr, fun hh => hh.elim (fun he => absurd (he ▸ ho) h) id⟩
  case ws => by_cases h : P.owner e = c
             · rw [h, Function.update_self]
             · rw [Function.update_of_ne h]
  case sent => by_cases h : e = c
               · rw [h, Function.update_self]
               · rw [Function.update_of_ne h]
  case passed => by_cases h : e = c
                 · rw [h, Function.update_self]
                 · rw [Function.update_of_ne h]

theorem gather_waitS {i : P.ι} (ho : P.owner i = c) : P.gather (Function.update L c ((L c).waitS i)) =
    { P.gather L with ws := fun j => j = i ∨ (P.gather L).ws j } := by
  ext e <;> simp only [gather, Set.mem_setOf_eq, Set.mem_union]
  case known => by_cases h : e.1.1 = c
                · rw [h, Function.update_self]
                · rw [Function.update_of_ne h]
  case stage => by_cases h : e = c
                · rw [h, Function.update_self]
                · rw [Function.update_of_ne h]
  case issued => by_cases h : P.owner e = c
                 · rw [h, Function.update_self]
                 · rw [Function.update_of_ne h]
  case wd => by_cases h : P.waiter e = c
             · rw [h, Function.update_self]
             · rw [Function.update_of_ne h]
  case ws => by_cases h : P.owner e = c
             · rw [h, Function.update_self]; simp [gather, h]
             · rw [Function.update_of_ne h]; exact ⟨.inr, fun hh => hh.elim (fun he => absurd (he ▸ ho) h) id⟩
  case sent => by_cases h : e = c
               · rw [h, Function.update_self]
               · rw [Function.update_of_ne h]
  case passed => by_cases h : e = c
                 · rw [h, Function.update_self]
                 · rw [Function.update_of_ne h]

theorem gather_signal (c' : Dev nD) : P.gather (Function.update L c ((L c).signal c')) =
    { P.gather L with sent := fun a b => (a = c ∧ b = c') ∨ (P.gather L).sent a b } := by
  ext e <;> simp only [gather, Set.mem_setOf_eq, Set.mem_union]
  case known => by_cases h : e.1.1 = c
                · rw [h, Function.update_self]
                · rw [Function.update_of_ne h]
  case stage => by_cases h : e = c
                · rw [h, Function.update_self]
                · rw [Function.update_of_ne h]
  case issued => by_cases h : P.owner e = c
                 · rw [h, Function.update_self]
                 · rw [Function.update_of_ne h]
  case wd => by_cases h : P.waiter e = c
             · rw [h, Function.update_self]
             · rw [Function.update_of_ne h]
  case ws => by_cases h : P.owner e = c
             · rw [h, Function.update_self]
             · rw [Function.update_of_ne h]
  case sent => by_cases h : e = c
               · rw [h, Function.update_self]; simp [gather]
               · rw [Function.update_of_ne h]; simp [gather, h]
  case passed => by_cases h : e = c
                 · rw [h, Function.update_self]
                 · rw [Function.update_of_ne h]

theorem gather_pass : P.gather (Function.update L c (L c).pass) =
    { P.gather L with passed := fun a => a = c ∨ (P.gather L).passed a } := by
  ext e <;> simp only [gather, Set.mem_setOf_eq, Set.mem_union]
  case known => by_cases h : e.1.1 = c
                · rw [h, Function.update_self]
                · rw [Function.update_of_ne h]
  case stage => by_cases h : e = c
                · rw [h, Function.update_self]
                · rw [Function.update_of_ne h]
  case issued => by_cases h : P.owner e = c
                 · rw [h, Function.update_self]
                 · rw [Function.update_of_ne h]
  case wd => by_cases h : P.waiter e = c
             · rw [h, Function.update_self]
             · rw [Function.update_of_ne h]
  case ws => by_cases h : P.owner e = c
             · rw [h, Function.update_self]
             · rw [Function.update_of_ne h]
  case sent => by_cases h : e = c
               · rw [h, Function.update_self]
               · rw [Function.update_of_ne h]
  case passed => by_cases h : e = c
                 · rw [h, Function.update_self]; simp
                 · rw [Function.update_of_ne h]; simp [gather, h]

end Gather

/-- What a step of device `c`'s TensorCore leads to: the invariant, and a program that runs on in fewer steps. -/
def Goes (L : Dev nD → P.Local) (dp sp : P.ι → ℕ) (c : Dev nD) (Q : PUnit → P.Local → Prop) (n : ℕ) (s : RunSt nD τ sig Val Λ)
    (p' : Option (Prog (TpuEff nD τ sig Val Λ (Proc.tc : Proc τ)) PUnit)) (s' : RunSt nD τ sig Val Λ) : Prop :=
  s'.prog = s.prog ∧ ((p' = none ∧ s' = s ∧ Q ⟨⟩ (L c)) ∨
    ∃ q n' L', p' = some q ∧ n' < n ∧ P.WP defs c Q n' L' q ∧ P.Inv (P.gather (Function.update L c L')) dp sp s'.toPhys)

theorem known_good {L : Dev nD → P.Local} {dp sp : P.ι → ℕ} {s : Phys nD τ sig Val} (h : P.Inv (P.gather L) dp sp s) {e : Elem nD τ sig}
    (he : e.loc ∈ (L e.1.1).known) : P.Good s.mem e := (h.known e he).2

/-- At a kernel's exit every scoped cell of the device reads zero. -/
theorem scopedZero_of_complete {L : Dev nD → P.Local} {dp sp : P.ι → ℕ} {s : Phys nD τ sig Val} (h : P.Inv (P.gather L) dp sp s)
    (c : Dev nD) (hc : (L c).Complete c) : ∀ g : GSem nD τ sig, g.1 = (c.tc : Thread nD τ) → s.mem.sem g = 0 := by
  intro g hg
  by_cases hD : ∃ i, g = P.cellD i
  · obtain ⟨i, rfl⟩ := hD
    have hw : P.waiter i = c := congrArg (fun t => t.1) hg
    have hwd : (P.gather L).wd i := by
      show i ∈ (L (P.waiter i)).wd
      rw [hw]; exact hc.wd i hw
    rw [h.semD i, if_pos hwd, h.wd i hwd]; omega
  by_cases hS : ∃ i h, P.semS i = some h ∧ g = ((P.owner i).tc, h)
  · obtain ⟨i, g₀, hi, rfl⟩ := hS
    have hw : P.owner i = c := congrArg (fun t => t.1) hg
    have hs0 : P.semS i ≠ none := by rw [hi]; exact Option.some_ne_none _
    have hws : (P.gather L).ws i := by
      show i ∈ (L (P.owner i)).ws
      rw [hw]; exact hc.ws i hw hs0
    rw [h.semS i g₀ hi, if_pos hws, h.ws i hws hs0]; omega
  by_cases hB : ∃ a h, P.bar = some h ∧ g = ((a : Dev nD).tc, h)
  · obtain ⟨a, g₀, hb, rfl⟩ := hB
    have ha : a = c := congrArg (fun t => t.1) hg
    subst ha
    have hb0 : P.bar ≠ none := by rw [hb]; exact Option.some_ne_none _
    have h1 := h.bar a g₀ hb
    have hp : (P.gather L).passed a := hc.passed hb0
    rw [if_pos hp] at h1
    have h2 := h.barnn a g₀ hb
    have h3 := Finset.card_le_card (signallers_subset h a)
    have h4 := card_erase_dev a
    omega
  · exact h.rest g (fun i hi => hD ⟨i, hi⟩) (fun i h hi hg => hS ⟨i, h, hi, hg⟩) (fun a h hb hg => hB ⟨a, h, hb, hg⟩)

theorem core_step {L : Dev nD → P.Local} {dp sp : P.ι → ℕ} {c : Dev nD} {Q : PUnit → P.Local → Prop} {n : ℕ} {s : RunSt nD τ sig Val Λ}
    (h : P.Inv (P.gather L) dp sp s.toPhys) {p : Prog (TpuEff nD τ sig Val Λ (Proc.tc : Proc τ)) PUnit}
    (hw : P.WP defs c Q n (L c) p) {ω : Valuation τ sig Val}
    {p' : Option (Prog (TpuEff nD τ sig Val Λ (Proc.tc : Proc τ)) PUnit)} {s' : RunSt nD τ sig Val Λ}
    (hst : coreStepInner defs (c.tc : Thread nD τ) s ω p = some (p', s')) : Goes (defs := defs) L dp sp c Q n s p' s' := by
  have hupd : Function.update L c (L c) = L := Function.update_eq_self c L
  generalize hL : L c = Lc at hw
  cases hw with
  | ret n L a h' =>
    have hst' : some (none, s) = some (p', s') := hst
    obtain ⟨rfl, rfl⟩ := Prod.mk.inj (Option.some.inj hst')
    exact ⟨rfl, .inl ⟨rfl, rfl, hL ▸ h'⟩⟩
  | load mr r h' k hk =>
    obtain ⟨rfl, rfl⟩ := Prod.mk.inj (Option.some.inj hst)
    refine ⟨rfl, .inr ⟨_, _, L c, rfl, Nat.lt_succ_self _, ?_, by rw [hupd]; exact h⟩⟩
    rw [hL]
    exact hk _ fun y hy => known_good h (e := ⟨mr.view.loc (c.tc : Thread nD τ), y⟩) (by
      show _ ∈ (L c).known
      rw [hL]; exact hy)
  | store mr r w M h' hm k K hK hwr hk =>
    obtain ⟨rfl, rfl⟩ := Prod.mk.inj (Option.some.inj hst)
    refine ⟨rfl, .inr ⟨_, _, _, rfl, Nat.lt_succ_self _, hk, ?_⟩⟩
    subst hL
    rw [gather_learn]
    have hgood : ∀ y : Idx ((mr.access r).loc (c.tc : Thread nD τ)), (⟨_, y⟩ : Elem nD τ sig) ∈ P.tr →
        (y ∈ K ∨ P.Good s.mem ⟨(mr.access r).loc (c.tc : Thread nD τ), y⟩) →
        P.Good (s.mem.writeView (c.tc : Thread nD τ) (mr.access r) w M) ⟨(mr.access r).loc (c.tc : Thread nD τ), y⟩ := by
      intro y ht hy
      unfold Good
      rw [writeView_mem_self]
      exact hwr _ y ht hy
    have h2 : P.Inv (P.gather L) dp sp { s.toPhys with
        mem := s.mem.writeView (c.tc : Thread nD τ) (mr.access r) w M
        ops := Phys.touch s.ops (c.tc : Thread nD τ).1 ((c.tc : Thread nD τ).2.devRef mr.view.ref) M } := by
      refine h.write (touch_none h.ops _ _ _) rfl ?_
      rintro ⟨ℓ, y⟩ ht hg
      by_cases hℓ : ℓ = (mr.access r).loc (c.tc : Thread nD τ)
      · subst hℓ; exact hgood y ht (.inr hg)
      · unfold Good
        rw [writeView_mem_ne hℓ]; exact hg
    refine h2.learn _ ?_
    · rintro ⟨⟨d, b⟩, y⟩ ⟨hd, y', hy', he⟩
      change d = c at hd
      subst hd
      have he' : (⟨(mr.access r).loc (d.tc : Thread nD τ), y'⟩ : Elem nD τ sig) = ⟨(d, b), y⟩ := by
        have := congrArg (fun e : LElem τ sig => (e.at d : Elem nD τ sig)) he
        exact this
      rw [← he']
      exact ⟨hK y' hy', hgood y' (hK y' hy') (.inl hy')⟩
  | deviceId k hk =>
    obtain ⟨rfl, rfl⟩ := Prod.mk.inj (Option.some.inj hst)
    exact ⟨rfl, .inr ⟨_, _, L c, rfl, Nat.lt_succ_self _, by rw [hL]; exact hk, by rw [hupd]; exact h⟩⟩
  | assume q dec k h' hk =>
    cases dec with
    | isFalse hn => exact absurd h' hn
    | isTrue ht =>
      obtain ⟨rfl, rfl⟩ := Prod.mk.inj (Option.some.inj hst)
      exact ⟨rfl, .inr ⟨_, _, L c, rfl, Nat.lt_succ_self _, by rw [hL]; exact hk, by rw [hupd]; exact h⟩⟩
  | call ℓ a k hk =>
    obtain ⟨rfl, rfl⟩ := Prod.mk.inj (Option.some.inj hst)
    exact ⟨rfl, .inr ⟨_, _, L c, rfl, Nat.lt_succ_self _, by rw [hL]; exact hk, by rw [hupd]; exact h⟩⟩
  | customCall ℓ a k h0 hi hk =>
    obtain ⟨rfl, rfl⟩ := Prod.mk.inj (Option.some.inj hst)
    refine ⟨rfl, .inr ⟨_, _, _, rfl, Nat.lt_succ_self _, hk, ?_⟩⟩
    subst hL
    rw [gather_enter]
    refine h.forget c ω 1 (by omega) (fun _ i e hii he ht hsc hc => ?_) (fun i d hd hf ho => ?_)
    · refine h.dst_stage i e hii he ht hsc ?_
      show (L e.1.1).stage = 0
      rw [hc]; exact h0
    · have := hf.issued
      change i ∈ (L (P.owner i)).issued at this
      rw [ho, hi] at this
      exact absurd this (Set.notMem_empty i)
  | kernelExit k h1 hc hk =>
    subst hL
    have hz : s.toPhys.scopedZero (c.tc : Thread nD τ) = true := by
      unfold Phys.scopedZero
      rw [decide_eq_true_eq]
      intro g hg
      obtain ⟨ha, hb, -⟩ := mem_scopedCells.mp hg
      refine scopedZero_of_complete h c hc g (Prod.ext ha ?_)
      exact Proc.inScope_tc.mp hb
    have hst' : (if s.toPhys.scopedZero (c.tc : Thread nD τ) then some (PUnit.unit, s.toPhys.forget (c.tc : Thread nD τ) ω) else none).map
      (fun r : PUnit × Phys nD τ sig Val => (some (k r.1), s.withPhys r.2)) = some (p', s') := hst
    rw [if_pos hz] at hst'
    obtain ⟨rfl, rfl⟩ := Prod.mk.inj (Option.some.inj hst')
    refine ⟨rfl, .inr ⟨_, _, _, rfl, Nat.lt_succ_self _, hk, ?_⟩⟩
    rw [gather_leave]
    refine h.forget c ω 2 (by omega) (fun he => by omega) (fun i d hd hf ho => ?_)
    by_cases hs0 : P.semS i = none
    · have hwt : P.waiter i = c := (P.semS_none i hs0).trans ho
      have hwd : (P.gather L).wd i := by
        show i ∈ (L (P.waiter i)).wd
        rw [hwt]; exact hc.wd i hwt
      have h3 := hf.dfull (by rw [← hf.dp]; exact h.wd i hwd)
      have h4 := hf.wr
      rw [h3] at h4
      exact Finset.univ_subset_iff.mp h4
    · have hws : (P.gather L).ws i := by
        show i ∈ (L (P.owner i)).ws
        rw [ho]; exact hc.ws i ho hs0
      exact hf.sfull hs0 (by rw [← hf.sp hs0]; exact h.ws i hws hs0)
  | enqueue src tgt via sem hsrc hdst hsem k i hr ho hi h1 himpl hs hd hk =>
    subst hL
    have hst' : (if tgt.routed (c.tc : Thread nD τ) then some (PUnit.unit, s.toPhys.enqueue (Dma.enqueued (c.tc : Thread nD τ) src.view tgt via sem
        (via.apply (src.view.read Val (s.mem.mem (src.view.loc (c.tc : Thread nD τ))))))) else none).map
      (fun r : PUnit × Phys nD τ sig Val => (some (k r.1), s.withPhys r.2)) = some (p', s') := hst
    rw [if_pos hr] at hst'
    obtain ⟨rfl, rfl⟩ := Prod.mk.inj (Option.some.inj hst')
    refine ⟨rfl, .inr ⟨_, _, _, rfl, Nat.lt_succ_self _, hk, ?_⟩⟩
    rw [gather_issue L c ho]
    refine h.enqueue i _ ?_ ?_ (fun n => himpl _ n) (fun _ => rfl) (fun _ => rfl) (fun _ => rfl) (fun _ => rfl) (fun e he => ?_) (fun e he ht hsc => ?_)
    · show ¬ (i ∈ (L (P.owner i)).issued)
      rw [ho]; exact hi
    · show (L (P.owner i)).stage ≠ 0
      rw [ho, h1]; omega
    · refine known_good h ?_
      rw [P.src_dev i e he, ho]; exact hs e he
    · rcases hd with hd | hd | hd
      · show (L e.1.1).stage ≠ 0
        rw [P.dst_dev i e he, hd, h1]; omega
      · exact absurd ht (hd e he)
      · by_cases hc : e.1.1 = c
        · show (L e.1.1).stage ≠ 0
          rw [hc, h1]; omega
        · exact h.sent_stage _ c (h.passed c hd.1 hd.2 e.1.1 hc)
  | waitD sem b sh e hh k i hwt hsem hcr hi h1 ho hk =>
    subst hL
    have hst' : (if (b.dmaCredit sh e : Int) ≤ s.mem.sem ((c.tc : Thread nD τ), .dma sem) then
        some (PUnit.unit, s.toPhys.subSem ((c.tc : Thread nD τ), .dma sem) (b.dmaCredit sh e)) else none).map
      (fun r : PUnit × Phys nD τ sig Val => (some (k r.1), s.withPhys r.2)) = some (p', s') := hst
    have hcell : ((c.tc : Thread nD τ), SemLoc.dma sem) = P.cellD i := by rw [cellD, hwt, hsem]
    by_cases hle : (b.dmaCredit sh e : Int) ≤ s.mem.sem ((c.tc : Thread nD τ), .dma sem)
    · rw [if_pos hle] at hst'
      obtain ⟨rfl, rfl⟩ := Prod.mk.inj (Option.some.inj hst')
      refine ⟨rfl, .inr ⟨_, _, _, rfl, Nat.lt_succ_self _, hk, ?_⟩⟩
      rw [gather_waitD L c hwt]
      show P.Inv _ dp sp (s.toPhys.subSem _ _)
      rw [hcr, hcell]
      refine h.waitD i ?_ ?_ (by rw [hcr, hcell] at hle; exact hle)
      · show ¬ (i ∈ (L (P.waiter i)).wd)
        rw [hwt]; exact hi
      · show (L (P.waiter i)).stage = 1
        rw [hwt]; exact h1
    · rw [if_neg hle] at hst'
      cases hst'
  | waitS sem b sh e hh k i hwt hsem hcr hi ho hk =>
    subst hL
    have hst' : (if (b.dmaCredit sh e : Int) ≤ s.mem.sem ((c.tc : Thread nD τ), .dma sem) then
        some (PUnit.unit, s.toPhys.subSem ((c.tc : Thread nD τ), .dma sem) (b.dmaCredit sh e)) else none).map
      (fun r : PUnit × Phys nD τ sig Val => (some (k r.1), s.withPhys r.2)) = some (p', s') := hst
    by_cases hle : (b.dmaCredit sh e : Int) ≤ s.mem.sem ((c.tc : Thread nD τ), .dma sem)
    · rw [if_pos hle] at hst'
      obtain ⟨rfl, rfl⟩ := Prod.mk.inj (Option.some.inj hst')
      refine ⟨rfl, .inr ⟨_, _, _, rfl, Nat.lt_succ_self _, hk, ?_⟩⟩
      rw [gather_waitS L c hwt]
      have hcell : ((c.tc : Thread nD τ), SemLoc.dma sem) = ((P.owner i).tc, SemLoc.dma sem) := by rw [hwt]
      show P.Inv _ dp sp (s.toPhys.subSem _ _)
      rw [hcr, hcell]
      refine h.waitS i hsem ?_ (by rw [hcr, hcell] at hle; exact hle)
      show ¬ (i ∈ (L (P.owner i)).ws)
      rw [hwt]; exact hi
    · rw [if_neg hle] at hst'
      cases hst'
  | signal c' sem k hb hne hs h1 hk =>
    subst hL
    have hst' : some (some (k ⟨⟩), s.withPhys (if τ.routes (c.tc : Thread nD τ) (c'.tc : Thread nD τ) then
      s.toPhys.signal ((c'.tc : Thread nD τ), .reg sem) 1 else s.toPhys)) = some (p', s') := hst
    rw [if_pos (by simp)] at hst'
    obtain ⟨rfl, rfl⟩ := Prod.mk.inj (Option.some.inj hst')
    refine ⟨rfl, .inr ⟨_, _, _, rfl, Nat.lt_succ_self _, hk, ?_⟩⟩
    rw [gather_signal]
    exact h.signal c c' hb hne hs (by show (L c).stage ≠ 0; omega)
  | semWait sem v k hb hv hp hs hk =>
    subst hL
    subst hv
    have hst' : (if ((nD : Int) - 1) ≤ s.mem.sem ((c.tc : Thread nD τ), .reg sem) then
        some (PUnit.unit, s.toPhys.subSem ((c.tc : Thread nD τ), .reg sem) ((nD : Int) - 1)) else none).map
      (fun r : PUnit × Phys nD τ sig Val => (some (k r.1), s.withPhys r.2)) = some (p', s') := hst
    by_cases hle : ((nD : Int) - 1) ≤ s.mem.sem ((c.tc : Thread nD τ), .reg sem)
    · rw [if_pos hle] at hst'
      obtain ⟨rfl, rfl⟩ := Prod.mk.inj (Option.some.inj hst')
      refine ⟨rfl, .inr ⟨_, _, _, rfl, Nat.lt_succ_self _, hk, ?_⟩⟩
      rw [gather_pass]
      exact h.semWait c hb hp hle
    · rw [if_neg hle] at hst'
      cases hst'

/-- The device's TensorCore has a step. -/
def Ready (defs : Defs nD τ sig Val Λ) (s : RunSt nD τ sig Val Λ) (c : Dev nD) : Prop :=
  ∃ ω r, coreStep defs (c.tc : Thread nD τ) s ω = some r

/-- With no transfer pending and no signal in flight, a TensorCore that has not finished has a step, or is at a wait that only
    other devices' work can end. -/
theorem core_ready {L : Dev nD → P.Local} {dp sp : P.ι → ℕ} {c : Dev nD} {Q : PUnit → P.Local → Prop} {n : ℕ} {s : RunSt nD τ sig Val Λ}
    (h : P.Inv (P.gather L) dp sp s.toPhys) (hd : s.dmas = []) (hsg : s.sigs = [])
    {p : Prog (TpuEff nD τ sig Val Λ (Proc.tc : Proc τ)) PUnit} (hp : s.prog (c.tc : Thread nD τ) = some p)
    (hw : P.WP defs c Q n (L c) p) :
    Ready defs s c ∨ ((L c).AllSent c ∧
      (((L c).AllOut c ∧ ∃ i, P.waiter i = c ∧ P.owner i ≠ c ∧ ((P.gather L).issued i → Ready defs s c)) ∨
        (P.bar ≠ none ∧ ((∀ c', c' ≠ c → (P.gather L).sent c' c) → Ready defs s c)))) := by
  have hready : ∀ r, coreStepInner defs (c.tc : Thread nD τ) s (fun b => s.mem.mem (c, b)) p = some r → Ready defs s c := by
    intro r hr
    refine ⟨fun b => s.mem.mem (c, b), r, ?_⟩
    unfold coreStep
    rw [hp]
    exact hr
  have hland : ∀ i, (P.gather L).issued i → P.Landed (P.gather L) dp sp s.mem i := by
    intro i hi
    rcases h.started i hi with ⟨d, hd', -⟩ | hl
    · rw [hd] at hd'; exact absurd hd' (List.not_mem_nil)
    · exact hl
  generalize hL : L c = Lc at hw
  cases hw with
  | ret n L a h' => exact .inl (hready (none, s) rfl)
  | load mr r h' k hk => exact .inl (hready _ rfl)
  | store mr r w M h' hm k K hK hwr hk => exact .inl (hready _ rfl)
  | deviceId k hk => exact .inl (hready _ rfl)
  | assume q dec k h' hk =>
    cases dec with
    | isFalse hn => exact absurd h' hn
    | isTrue ht => exact .inl (hready _ rfl)
  | call ℓ a k hk => exact .inl (hready _ rfl)
  | customCall ℓ a k h0 hi hk => exact .inl (hready _ rfl)
  | kernelExit k h1 hc hk =>
    subst hL
    have hz : s.toPhys.scopedZero (c.tc : Thread nD τ) = true := by
      unfold Phys.scopedZero
      rw [decide_eq_true_eq]
      intro g hg
      obtain ⟨ha, hb, -⟩ := mem_scopedCells.mp hg
      exact scopedZero_of_complete h c hc g (Prod.ext ha (Proc.inScope_tc.mp hb))
    refine .inl (hready (some (k ⟨⟩), s.withPhys (s.toPhys.forget (c.tc : Thread nD τ) (fun b => s.mem.mem (c, b)))) ?_)
    show (if s.toPhys.scopedZero (c.tc : Thread nD τ) then some (PUnit.unit, s.toPhys.forget (c.tc : Thread nD τ) (fun b => s.mem.mem (c, b))) else none).map
      (fun r : PUnit × Phys nD τ sig Val => (some (k r.1), s.withPhys r.2)) = _
    rw [if_pos hz]; rfl
  | enqueue src tgt via sem hsrc hdst hsem k i hr ho hi h1 himpl hs hd' hk =>
    refine .inl (hready (some (k ⟨⟩), s.withPhys (s.toPhys.enqueue (Dma.enqueued (c.tc : Thread nD τ) src.view tgt via sem
        (via.apply (src.view.read Val (s.mem.mem (src.view.loc (c.tc : Thread nD τ)))))))) ?_)
    show (if tgt.routed (c.tc : Thread nD τ) then some (PUnit.unit, s.toPhys.enqueue (Dma.enqueued (c.tc : Thread nD τ) src.view tgt via sem
        (via.apply (src.view.read Val (s.mem.mem (src.view.loc (c.tc : Thread nD τ))))))) else none).map
      (fun r : PUnit × Phys nD τ sig Val => (some (k r.1), s.withPhys r.2)) = _
    rw [if_pos hr]; rfl
  | waitD sem b sh e hh k i hwt hsem hcr hi h1 ho hk =>
    subst hL
    have hcell : ((c.tc : Thread nD τ), SemLoc.dma sem) = P.cellD i := by rw [cellD, hwt, hsem]
    have hgo : (P.gather L).issued i → Ready defs s c := by
      intro his
      have hwd : ¬ (P.gather L).wd i := by
        show ¬ (i ∈ (L (P.waiter i)).wd)
        rw [hwt]; exact hi
      have h2 := h.semD i
      rw [if_neg hwd, (hland i his).dp, ← hcell, ← hcr] at h2
      refine hready (some (k ⟨⟩), s.withPhys (s.toPhys.subSem ((c.tc : Thread nD τ), .dma sem) (b.dmaCredit sh e))) ?_
      show (if (b.dmaCredit sh e : Int) ≤ s.mem.sem ((c.tc : Thread nD τ), .dma sem) then
        some (PUnit.unit, s.toPhys.subSem ((c.tc : Thread nD τ), .dma sem) (b.dmaCredit sh e)) else none).map
        (fun r : PUnit × Phys nD τ sig Val => (some (k r.1), s.withPhys r.2)) = _
      rw [if_pos (by omega)]; rfl
    by_cases hoc : P.owner i = c
    · rw [if_pos hoc] at ho
      refine .inl (hgo ?_)
      show i ∈ (L (P.owner i)).issued
      rw [hoc]; exact ho
    · rw [if_neg hoc] at ho
      exact .inr ⟨ho.1, .inl ⟨ho.2, i, hwt, hoc, hgo⟩⟩
  | waitS sem b sh e hh k i hwt hsem hcr hi ho hk =>
    subst hL
    have his : (P.gather L).issued i := by
      show i ∈ (L (P.owner i)).issued
      rw [hwt]; exact ho
    have hws : ¬ (P.gather L).ws i := by
      show ¬ (i ∈ (L (P.owner i)).ws)
      rw [hwt]; exact hi
    have h2 := h.semS i _ hsem
    rw [if_neg hws, (hland i his).sp (by rw [hsem]; exact Option.some_ne_none _), hwt, ← hcr] at h2
    refine .inl (hready (some (k ⟨⟩), s.withPhys (s.toPhys.subSem ((c.tc : Thread nD τ), .dma sem) (b.dmaCredit sh e))) ?_)
    show (if (b.dmaCredit sh e : Int) ≤ s.mem.sem ((c.tc : Thread nD τ), .dma sem) then
      some (PUnit.unit, s.toPhys.subSem ((c.tc : Thread nD τ), .dma sem) (b.dmaCredit sh e)) else none).map
      (fun r : PUnit × Phys nD τ sig Val => (some (k r.1), s.withPhys r.2)) = _
    rw [if_pos (by omega)]; rfl
  | signal c' sem k hb hne hs h1 hk => exact .inl (hready _ rfl)
  | semWait sem v k hb hv hp' hs hk =>
    subst hL
    subst hv
    have hb0 : P.bar ≠ none := by rw [hb]; exact Option.some_ne_none _
    refine .inr ⟨hs, .inr ⟨hb0, fun hall => ?_⟩⟩
    have h1 := h.bar c _ hb
    have hnp : ¬ (P.gather L).passed c := hp'
    have h2 : P.signallers (P.gather L) c = Finset.univ.erase c := by
      refine Finset.Subset.antisymm (signallers_subset h c) fun c' hc' => ?_
      exact Finset.mem_filter.mpr ⟨Finset.mem_univ _, hall c' (Finset.ne_of_mem_erase hc')⟩
    have h3 : inFlight s.toPhys ((c.tc : Thread nD τ), .reg sem) = 0 := by
      unfold inFlight; rw [hsg]; rfl
    rw [if_neg hnp, h2, h3, card_erase_dev] at h1
    refine hready (some (k ⟨⟩), s.withPhys (s.toPhys.subSem ((c.tc : Thread nD τ), .reg sem) ((nD : Int) - 1))) ?_
    show (if ((nD : Int) - 1) ≤ s.mem.sem ((c.tc : Thread nD τ), .reg sem) then
      some (PUnit.unit, s.toPhys.subSem ((c.tc : Thread nD τ), .reg sem) ((nD : Int) - 1)) else none).map
      (fun r : PUnit × Phys nD τ sig Val => (some (k r.1), s.withPhys r.2)) = _
    rw [if_pos (by omega)]; rfl

/-! ## The rule -/

variable (P defs)

/-- What every reachable running state is like, `N` bounding the steps its threads have left. -/
def Reached (N : ℕ) (s : RunSt nD τ sig Val Λ) : Prop :=
  ∃ (L : Dev nD → P.Local) (dp sp : P.ι → ℕ) (n : Dev nD → ℕ), P.Inv (P.gather L) dp sp s.toPhys ∧
    (∀ c, (s.prog (c.tc : Thread nD τ) = none ∧ (L c).Done c) ∨
      ∃ p, s.prog (c.tc : Thread nD τ) = some p ∧ P.WP defs c (fun _ L => L.Done c) (n c) (L c) p) ∧
    (∀ t : Thread nD τ, t.2 ≠ .tc → s.prog t = none ∨ s.prog t = some (.ret ⟨⟩)) ∧
    N = (∑ c, n c) + (Finset.univ.filter fun t => s.prog t ≠ none).card

variable {P defs}

theorem alive_lt {s : RunSt nD τ sig Val Λ} {t : Thread nD τ} (h : s.prog t ≠ none) :
    (Finset.univ.filter fun t' => (s.setProg t none).prog t' ≠ none).card < (Finset.univ.filter fun t => s.prog t ≠ none).card := by
  refine Finset.card_lt_card ⟨fun t' ht' => ?_, fun hs => ?_⟩
  · rw [Finset.mem_filter] at ht' ⊢
    refine ⟨ht'.1, fun hn => ht'.2 ?_⟩
    show Function.update s.prog t none t' = none
    by_cases he : t' = t
    · subst he; exact Function.update_self ..
    · rw [Function.update_of_ne he]; exact hn
  · have := (Finset.mem_filter.mp (hs (Finset.mem_filter.mpr ⟨Finset.mem_univ t, h⟩))).2
    exact this (Function.update_self ..)

theorem alive_eq {s : RunSt nD τ sig Val Λ} {t : Thread nD τ} (h : s.prog t ≠ none) {q : Prog (TpuEff nD τ sig Val Λ t.2) PUnit} :
    (Finset.univ.filter fun t' => (s.setProg t (some q)).prog t' ≠ none).card = (Finset.univ.filter fun t => s.prog t ≠ none).card := by
  congr 1
  refine Finset.filter_congr fun t' _ => not_congr ?_
  show Function.update s.prog t (some q) t' = none ↔ _
  by_cases he : t' = t
  · subst he
    rw [Function.update_self]
    exact ⟨fun hh => (Option.some_ne_none _ hh).elim, fun hh => absurd hh h⟩
  · rw [Function.update_of_ne he]

theorem reached_step (N : ℕ) (s : RunSt nD τ sig Val Λ) (a : Agent nD τ) (s' : RunSt nD τ sig Val Λ) (h : P.Reached defs N s)
    (hs : MeshStep defs a s s') :
    (∃ N', N' < N ∧ P.Reached defs N' s') ∨ (P.Reached defs N s' ∧ measure s'.toPhys < measure s.toPhys) := by
  obtain ⟨L, dp, sp, n, hI, hT, hO, rfl⟩ := h
  cases hs with
  | core t ω hst =>
    rename_i p' m'
    left
    unfold coreStep at hst
    by_cases ht : t.2 = .tc
    · obtain ⟨c, pr⟩ := t
      change pr = .tc at ht
      subst ht
      rcases hT c with ⟨hn, -⟩ | ⟨p, hp, hw⟩
      · change (s.prog (c.tc : Thread nD τ)).bind _ = _ at hst
        rw [hn] at hst; cases hst
      change (s.prog (c.tc : Thread nD τ)).bind _ = _ at hst
      rw [hp] at hst
      obtain ⟨hprog, hgo⟩ := core_step hI hw hst
      have halive : s.prog (c.tc : Thread nD τ) ≠ none := by rw [hp]; exact Option.some_ne_none _
      rcases hgo with ⟨rfl, rfl, hQ⟩ | ⟨q, n', L', rfl, hlt, hw', hI'⟩
      · refine ⟨_, Nat.add_lt_add_left (alive_lt halive) _, L, dp, sp, n, hI, fun c' => ?_, fun t' ht' => ?_, rfl⟩
        · by_cases hc : c' = c
          · subst hc
            exact .inl ⟨Function.update_self .., hQ⟩
          · have hne : (c'.tc : Thread nD τ) ≠ c.tc := fun he => hc (congrArg (fun t => t.1) he)
            rcases hT c' with ⟨h1, h2⟩ | ⟨p₁, h1, h2⟩
            · exact .inl ⟨(Function.update_of_ne hne ..).trans h1, h2⟩
            · exact .inr ⟨p₁, (Function.update_of_ne hne ..).trans h1, h2⟩
        · have hne : t' ≠ (c.tc : Thread nD τ) := fun he => ht' (congrArg (fun t => t.2) he)
          rcases hO t' ht' with h1 | h1
          · exact .inl ((Function.update_of_ne hne ..).trans h1)
          · exact .inr ((Function.update_of_ne hne ..).trans h1)
      · have hsum : (∑ c', Function.update n c n' c') < ∑ c', n c' := by
          refine Finset.sum_lt_sum (fun c' _ => ?_) ⟨c, Finset.mem_univ c, by rw [Function.update_self]; exact hlt⟩
          by_cases hc : c' = c
          · subst hc; rw [Function.update_self]; exact hlt.le
          · rw [Function.update_of_ne hc]
        have hal : (Finset.univ.filter fun t' => (m'.setProg (c.tc : Thread nD τ) (some q)).prog t' ≠ none).card
            = (Finset.univ.filter fun t => s.prog t ≠ none).card := by
          rw [← hprog] at halive ⊢
          exact alive_eq halive
        refine ⟨_, Nat.add_lt_add_of_lt_of_le hsum hal.le, Function.update L c L', dp, sp, Function.update n c n', hI', fun c' => ?_, fun t' ht' => ?_, rfl⟩
        · by_cases hc : c' = c
          · subst hc
            exact .inr ⟨q, Function.update_self .., by rw [Function.update_self, Function.update_self]; exact hw'⟩
          · have hne : (c'.tc : Thread nD τ) ≠ c.tc := fun he => hc (congrArg (fun t => t.1) he)
            rw [Function.update_of_ne hc, Function.update_of_ne hc]
            rcases hT c' with ⟨h1, h2⟩ | ⟨p₁, h1, h2⟩
            · exact .inl ⟨(Function.update_of_ne hne ..).trans (hprog ▸ h1), h2⟩
            · exact .inr ⟨p₁, (Function.update_of_ne hne ..).trans (hprog ▸ h1), h2⟩
        · have hne : t' ≠ (c.tc : Thread nD τ) := fun he => ht' (congrArg (fun t => t.2) he)
          rcases hO t' ht' with h1 | h1
          · exact .inl ((Function.update_of_ne hne ..).trans (hprog ▸ h1))
          · exact .inr ((Function.update_of_ne hne ..).trans (hprog ▸ h1))
    · rcases hO t ht with hn | hr
      · rw [hn] at hst; cases hst
      · have halive : s.prog t ≠ none := by rw [hr]; exact Option.some_ne_none _
        rw [hr] at hst
        have hst' : some (none, s) = some (p', m') := hst
        obtain ⟨rfl, rfl⟩ := Prod.mk.inj (Option.some.inj hst')
        refine ⟨_, Nat.add_lt_add_left (alive_lt halive) _, L, dp, sp, n, hI, fun c' => ?_, fun t' ht' => ?_, rfl⟩
        · have hne : (c'.tc : Thread nD τ) ≠ t := fun he => ht (by rw [← he])
          rcases hT c' with ⟨h1, h2⟩ | ⟨p₁, h1, h2⟩
          · exact .inl ⟨(Function.update_of_ne hne ..).trans h1, h2⟩
          · exact .inr ⟨p₁, (Function.update_of_ne hne ..).trans h1, h2⟩
        · by_cases he : t' = t
          · subst he; exact .inl (Function.update_self ..)
          · rcases hO t' ht' with h1 | h1
            · exact .inl ((Function.update_of_ne he ..).trans h1)
            · exact .inr ((Function.update_of_ne he ..).trans h1)
  | dmaRead i M alt hk hM =>
    exact .inr ⟨⟨L, dp, sp, n, hI.dmaRead hk M alt hM, hT, hO, rfl⟩, measure_set hk (left_afterRead _ M _ hM)⟩
  | dmaWrite i M hk hM =>
    exact .inr ⟨⟨L, dp, sp, n, hI.dmaWrite hk M hM, hT, hO, rfl⟩, measure_set hk (left_afterWrite _ M hM)⟩
  | dmaPaySrc i k hk hn =>
    obtain ⟨sp', hI'⟩ := hI.dmaPaySrc hk k hn
    exact .inr ⟨⟨L, dp, sp', n, hI', hT, hO, rfl⟩, measure_set hk (left_paidSrc _ k hn)⟩
  | dmaPayDst i k hk hn =>
    obtain ⟨dp', hI'⟩ := hI.dmaPayDst hk k hn
    exact .inr ⟨⟨L, dp', sp, n, hI', hT, hO, rfl⟩, measure_set hk (left_paidDst _ k hn)⟩
  | dmaRetire i hk hr =>
    exact .inr ⟨⟨L, dp, sp, n, hI.dmaRetire hk hr, hT, hO, rfl⟩, measure_retire hk⟩
  | serve i k alt hk _ => rw [hI.streams] at hk; cases hk
  | deliver i hk => exact .inr ⟨⟨L, dp, sp, n, hI.deliver hk, hT, hO, rfl⟩, measure_deliver hk⟩

theorem reached_progress (N : ℕ) (s : RunSt nD τ sig Val Λ) (h : P.Reached defs N s) (hf : ¬ Final s) : ∃ a s', MeshStep defs a s s' := by
  obtain ⟨L, dp, sp, n, hI, hT, hO, rfl⟩ := h
  by_cases hd : s.dmas = []
  swap
  · obtain ⟨d, l, hl⟩ := List.exists_cons_of_ne_nil hd
    have hk : s.dmas[0]? = some d := by rw [hl]; rfl
    obtain ⟨i, hi⟩ := hI.fly d (List.mem_of_getElem? hk)
    by_cases hr : d.read = Finset.univ
    swap
    · refine ⟨_, _, .dmaRead 0 d.toRead (s.mem.mem d.src) hk ⟨Finset.Subset.refl _, ?_⟩⟩
      by_contra hne
      exact hr (Finset.univ_subset_iff.mp (Finset.sdiff_eq_empty_iff_subset.mp (Finset.not_nonempty_iff_eq_empty.mp hne)))
    by_cases hw : d.written = Finset.univ
    swap
    · refine ⟨_, _, .dmaWrite 0 (d.read \ d.written) hk ⟨Finset.Subset.refl _, ?_⟩⟩
      rw [hr]
      by_contra hne
      exact hw (Finset.univ_subset_iff.mp (Finset.sdiff_eq_empty_iff_subset.mp (Finset.not_nonempty_iff_eq_empty.mp hne)))
    by_cases hdp : d.dstPaid = d.credit
    swap
    · refine ⟨_, _, .dmaPayDst 0 (d.credit - d.dstPaid) hk ⟨?_, ?_, fun _ => hw⟩⟩
      · have := hi.dle; rw [← hi.impl.credit] at this; omega
      · have := hi.dle; rw [← hi.impl.credit] at this; omega
    by_cases hsp : d.srcSem = none ∨ d.srcPaid = d.credit
    · exact ⟨_, _, .dmaRetire 0 hk ⟨hw, hdp, hsp⟩⟩
    · rw [not_or] at hsp
      refine ⟨_, _, .dmaPaySrc 0 (d.credit - d.srcPaid) hk ⟨Option.isSome_iff_ne_none.mpr hsp.1, ?_, ?_, fun _ => hr⟩⟩
      · have := hi.sle; rw [← hi.impl.credit] at this; have := hsp.2; omega
      · have := hi.sle; rw [← hi.impl.credit] at this; omega
  by_cases hsg : s.sigs = []
  swap
  · obtain ⟨sg, l, hl⟩ := List.exists_cons_of_ne_nil hsg
    exact ⟨_, _, .deliver 0 (by rw [hl]; rfl)⟩
  by_contra hno
  have hnr : ∀ c, ¬ Ready defs s c := fun c ⟨ω, r, hr⟩ => hno ⟨_, _, .core (c.tc : Thread nD τ) ω (p' := r.1) (m' := r.2) hr⟩
  have hcl : ∀ c, (s.prog (c.tc : Thread nD τ) = none ∧ (L c).Done c) ∨ ((L c).AllSent c ∧
      (((L c).AllOut c ∧ ∃ i, P.waiter i = c ∧ P.owner i ≠ c ∧ ((P.gather L).issued i → Ready defs s c)) ∨
        (P.bar ≠ none ∧ ((∀ c', c' ≠ c → (P.gather L).sent c' c) → Ready defs s c)))) := by
    intro c
    rcases hT c with h1 | ⟨p, hp, hw⟩
    · exact .inl h1
    · exact .inr ((core_ready hI hd hsg hp hw).resolve_left (hnr c))
  have hsent : ∀ c, (L c).AllSent c := fun c => (hcl c).elim (fun h => h.2.sent) (fun h => h.1)
  have hout : ∀ c, (L c).AllOut c := by
    intro c
    rcases hcl c with h1 | ⟨-, h1 | ⟨hb, h1⟩⟩
    · exact fun j hj _ => h1.2.issued j hj
    · exact h1.1
    · exact absurd (h1 fun c' hc' => hsent c' hb c (Ne.symm hc')) (hnr c)
  refine hf fun t => ?_
  by_cases ht : t.2 = .tc
  · obtain ⟨c, pr⟩ := t
    change pr = .tc at ht
    subst ht
    rcases hcl c with h1 | ⟨-, ⟨-, i, hwi, hoi, hr⟩ | ⟨hb, h1⟩⟩
    · exact h1.1
    · refine absurd (hr ?_) (hnr c)
      exact hout (P.owner i) i rfl (fun he => hoi (he.symm.trans hwi))
    · exact absurd (h1 fun c' hc' => hsent c' hb c (Ne.symm hc')) (hnr c)
  · rcases hO t ht with h1 | h1
    · exact h1
    · exfalso
      refine hno ⟨_, _, .core t (fun b => s.mem.mem (t.1, b)) (p' := none) (m' := s) ?_⟩
      unfold coreStep
      rw [h1]; rfl

/-- Every execution of the program ends, with every counter at zero and each element of the goals holding its value, if
    each device's TensorCore runs by the rules, and nothing else runs. -/
theorem run {p : (t : Thread nD τ) → Prog (TpuEff nD τ sig Val Λ t.2) PUnit} {m : MemSt nD τ sig Val} (hsem : m.sem = fun _ => 0)
    (hinit : ∀ c e, e ∈ P.init c → P.Good m (e.at c)) (n : Dev nD → ℕ)
    (htc : ∀ c, P.WP defs c (fun _ L => L.Done c) (n c) (Local.start c) (p (c.tc : Thread nD τ)))
    (hother : ∀ t : Thread nD τ, t.2 ≠ .tc → p t = .ret ⟨⟩) :
    θ_run defs p m fun r => (∀ c e, e ∈ P.goal c → P.Good r.2 (e.at c)) ∧ r.2.sem = fun _ => 0 := by
  refine meshRun_of_inv (fun N s => P.Reached defs N s) (fun s => measure s.toPhys) (fun N s a s' h hs => reached_step N s a s' h hs)
    (fun N s h hf => reached_progress N s h hf) (fun N s h hf => ?_) (N := _) ⟨fun c => Local.start c, fun _ => 0, fun _ => 0, n, ?_, fun c => ?_, fun t ht => ?_, rfl⟩
  · obtain ⟨L, dp, sp, n, hI, hT, hO, rfl⟩ := h
    have hdone : ∀ c, (L c).Done c := fun c => (hT c).elim (fun h => h.2) (fun ⟨p, hp, _⟩ => by rw [hf] at hp; cases hp)
    refine ⟨fun c e he => known_good hI (e := e.at c) ((hdone c).goal he), funext fun g => ?_⟩
    by_cases hg : g.1.2 = .tc
    · exact scopedZero_of_complete hI g.1.1 (hdone g.1.1).toComplete g (Prod.ext rfl hg)
    · refine hI.rest g (fun i hi => hg ?_) (fun i h hi he => hg ?_) (fun c h hb he => hg ?_)
      · rw [hi]
      · rw [he]
      · rw [he]
  · refine ⟨rfl, fun _ => rfl, fun d hd => ?_, List.nodup_nil, fun i hi => hi.elim, fun _ _ => ⟨rfl, rfl⟩, fun i => ?_, fun i g hg => ?_,
      fun i hi => hi.elim, fun i hi => hi.elim, fun sg hsg => ?_, fun c g hg => ?_, fun c g hg => ?_, fun g _ _ _ => ?_, fun e he => ?_,
      fun i e hi => hi.elim, fun i hi => hi.elim, fun c hc => hc.elim, fun c _ hc => hc.elim, fun c c' hc => hc.elim⟩
    · exact absurd hd List.not_mem_nil
    · show m.sem _ = _
      rw [hsem, if_neg (show ¬ (P.gather fun c => Local.start c).wd i from fun h => h)]; rfl
    · show m.sem _ = _
      rw [hsem, if_neg (show ¬ (P.gather fun c => Local.start c).ws i from fun h => h)]; rfl
    · exact absurd hsg List.not_mem_nil
    · show m.sem _ + _ + _ = _
      rw [hsem, if_neg (show ¬ (P.gather fun c => Local.start c).passed c from fun h => h)]
      have : P.signallers (P.gather fun c => Local.start c) c = ∅ := Finset.filter_eq_empty_iff.mpr fun c' _ hc => hc.elim
      rw [this]; rfl
    · show 0 ≤ m.sem _
      rw [hsem]
    · show m.sem g = 0
      rw [hsem]
    · exact ⟨P.init_tr e.1.1 e.loc he, hinit e.1.1 e.loc he⟩
  · exact .inr ⟨_, rfl, htc c⟩
  · exact .inr (congrArg some (hother t ht))

end Plan

end Cert.Transfers

end
-- ==== Proof.Plan.lean ====
/- The kernel's transfers as a plan: which copies there are, what each moves, what each element they move is meant to
   hold, and which elements the proof follows. -/
module

public import proofs.«01_k».proof.Proof.Transfers
public import proofs.«01_k».proof.Proof.Gen.KernelIdeal.Skeleton

@[expose] public section

noncomputable section

namespace Cert.KernelIdeal.Mesh

open Idealize.ShloMosaic Idealize.ShloMosaic.TcCoe Idealize.SL.Sem
open Cert.Transfers
open scoped Classical

variable {F : FTy → Type} [FloatOps F]

/-! ## What each element is meant to hold -/

/-- The index of an array of two axes, by its coordinates. -/
def ix2 {a b : ℕ} (i : Fin a) (j : Fin b) : (⟨2, ![a, b]⟩ : Shape).Idx := fun | 0 => i | 1 => j

/-- The index of an array of three axes, by its coordinates. -/
def ix3 {a b c : ℕ} (i : Fin a) (j : Fin b) (k : Fin c) : (⟨3, ![a, b, c]⟩ : Shape).Idx := fun | 0 => i | 1 => j | 2 => k

/-- The one index of an array of one element. -/
def one : S1.Idx := Shape.Idx.first (by decide : 0 < S1.numel)

/-- A device's rows of the product, scaled. -/
def pay (m : MemSt nD τ sig (Elt F)) (c : Dev nD) : FVec F S128x2048 .f32 :=
  Gen.k0_pay1 (m.mem (c.tc.loc main_arg0)) (m.mem (c.tc.loc main_arg1)) (m.mem (c.tc.loc main_arg2) one) (m.mem (c.tc.loc main_arg3) one)

/-- Those rows, cut in 32 blocks of 64 columns. -/
def cut (v : FVec F S128x2048 .f32) : S32x128x64.Idx → Elt F .f32 := fun x =>
  v (ix2 (x 1) ⟨64 * (x 0).val + (x 2).val, by
    have h0 : (x 0).val < 32 := (x 0).isLt
    have h2 : (x 2).val < 64 := (x 2).isLt
    omega⟩)

/-- The device that computes a row of the whole product. -/
def rowDev (x : S4096x64.Idx) : Dev nD := ⟨(x 0).val / 128, by
  have h0 : (x 0).val < 4096 := (x 0).isLt
  show _ < 32
  omega⟩

/-- Device `c`'s columns of the whole product. -/
def res (m : MemSt nD τ sig (Elt F)) (c : Dev nD) : S4096x64.Idx → Elt F .f32 := fun x =>
  cut (pay m (rowDev x)) (ix3 c ⟨(x 0).val % 128, Nat.mod_lt _ (by decide)⟩ (x 1))

/-- What each element is to hold: a staging buffer of an operand that operand, the scratch the device's rows by blocks
    of columns, the result and its staging buffer the device's columns. -/
def goalOf (m : MemSt nD τ sig (Elt F)) : (ℓ : Loc nD τ sig) → Buf (Elt F) ℓ
  | (c, ⟨.local .tc .vmem, ⟨0, _⟩, _⟩) => m.mem (c.tc.loc main_arg0)
  | (c, ⟨.local .tc .vmem, ⟨1, _⟩, _⟩) => m.mem (c.tc.loc main_arg1)
  | (c, ⟨.local .tc .smem, ⟨0, _⟩, _⟩) => m.mem (c.tc.loc main_arg2)
  | (c, ⟨.local .tc .smem, ⟨1, _⟩, _⟩) => m.mem (c.tc.loc main_arg3)
  | (c, ⟨.local .tc .vmem, ⟨2, _⟩, _⟩) => res m c
  | (c, ⟨.local .tc .vmem, ⟨3, _⟩, _⟩) => cut (pay m c)
  | (c, ⟨.hbm, ⟨4, _⟩, _⟩) => res m c
  | ℓ => m.mem ℓ

theorem goalOf_stg0 (m : MemSt nD τ sig (Elt F)) (c : Dev nD) : goalOf m (c.tc.loc cc0_stg0_0) = m.mem (c.tc.loc main_arg0) := rfl
theorem goalOf_stg1 (m : MemSt nD τ sig (Elt F)) (c : Dev nD) : goalOf m (c.tc.loc cc0_stg1_0) = m.mem (c.tc.loc main_arg1) := rfl
theorem goalOf_stg2 (m : MemSt nD τ sig (Elt F)) (c : Dev nD) : goalOf m (c.tc.loc cc0_stg2_0) = m.mem (c.tc.loc main_arg2) := rfl
theorem goalOf_stg3 (m : MemSt nD τ sig (Elt F)) (c : Dev nD) : goalOf m (c.tc.loc cc0_stg3_0) = m.mem (c.tc.loc main_arg3) := rfl
theorem goalOf_stg4 (m : MemSt nD τ sig (Elt F)) (c : Dev nD) : goalOf m (c.tc.loc cc0_stg4_0) = res m c := rfl
theorem goalOf_scratch (m : MemSt nD τ sig (Elt F)) (c : Dev nD) : goalOf m (c.tc.loc cc0_scratch0) = cut (pay m c) := rfl
theorem goalOf_v1 (m : MemSt nD τ sig (Elt F)) (c : Dev nD) : goalOf m (c.tc.loc main_v1) = res m c := rfl
theorem goalOf_arg0 (m : MemSt nD τ sig (Elt F)) (c : Dev nD) : goalOf m (c.tc.loc main_arg0) = m.mem (c.tc.loc main_arg0) := rfl
theorem goalOf_arg1 (m : MemSt nD τ sig (Elt F)) (c : Dev nD) : goalOf m (c.tc.loc main_arg1) = m.mem (c.tc.loc main_arg1) := rfl
theorem goalOf_arg2 (m : MemSt nD τ sig (Elt F)) (c : Dev nD) : goalOf m (c.tc.loc main_arg2) = m.mem (c.tc.loc main_arg2) := rfl
theorem goalOf_arg3 (m : MemSt nD τ sig (Elt F)) (c : Dev nD) : goalOf m (c.tc.loc main_arg3) = m.mem (c.tc.loc main_arg3) := rfl

/-! ## The transfers -/

/-- The kernel's copies: device `c`'s operand `k` to its staging buffer, its block for the device `d + 1` after it,
    and its result back from its staging buffer. -/
inductive Tr
  | inp (k : Fin 4) (c : Dev nD)
  | send (d : Fin 31) (c : Dev nD)
  | out (c : Dev nD)

/-- The device `d + 1` after `c`. -/
def peer (d : Fin 31) (c : Dev nD) : Dev nD := ⟨(c.val + d.val + 1) % 32, Nat.mod_lt _ (by decide)⟩

/-- The device `d + 1` before `c`. -/
def prev (d : Fin 31) (c : Dev nD) : Dev nD := ⟨(c.val + 31 - d.val) % 32, Nat.mod_lt _ (by decide)⟩

theorem peer_ne (d : Fin 31) (c : Dev nD) : peer d c ≠ c := by
  intro h
  have h := congrArg Fin.val h
  have hc : c.val < 32 := c.isLt
  have hd := d.isLt
  simp only [peer] at h
  omega

theorem peer_prev (d : Fin 31) (c : Dev nD) : peer d (prev d c) = c := by
  apply Fin.ext
  have hc : c.val < 32 := c.isLt
  have hd := d.isLt
  simp only [peer, prev]
  omega

theorem prev_ne (d : Fin 31) (c : Dev nD) : prev d c ≠ c := fun h => peer_ne d c (by rw [← h, peer_prev, h])

theorem peer_inj {d : Fin 31} {c c' : Dev nD} (h : peer d c = peer d c') : c = c' := by
  apply Fin.ext
  have h := congrArg Fin.val h
  have hc : c.val < 32 := c.isLt
  have hc' : c'.val < 32 := c'.isLt
  have hd := d.isLt
  simp only [peer] at h
  omega

/-- The buffers of the operands and of their staging buffers. -/
def argRef : Fin 4 → Ref sig .tc | 0 => main_arg0 | 1 => main_arg1 | 2 => main_arg2 | 3 => main_arg3
def stgRef : Fin 4 → Ref sig .tc | 0 => cc0_stg0_0 | 1 => cc0_stg1_0 | 2 => cc0_stg2_0 | 3 => cc0_stg3_0

/-- The elements of one buffer of a device. -/
def bufSet (c : Dev nD) (b : Ref sig .tc) : Set (Elem nD τ sig) := {e | e.1 = c.tc.loc b}

/-- The block of the scratch, on device `c`, that goes to device `c'`. -/
def scrSet (c c' : Dev nD) : Set (Elem nD τ sig) := {e | ∃ x : S32x128x64.Idx, x 0 = c' ∧ e = ⟨c.tc.loc cc0_scratch0, x⟩}

/-- The rows of the result's staging buffer, on device `c`, that device `r` computes. -/
def rowSet (c r : Dev nD) : Set (Elem nD τ sig) := {e | ∃ x : S4096x64.Idx, rowDev x = r ∧ e = ⟨c.tc.loc cc0_stg4_0, x⟩}

/-- The same rows of the result. -/
def outSet (c r : Dev nD) : Set (Elem nD τ sig) := {e | ∃ x : S4096x64.Idx, rowDev x = r ∧ e = ⟨c.tc.loc main_v1, x⟩}

/-- The elements followed: all but, if not `full`, the rows of the result and of its staging buffer that another device
    computes. -/
def tracked (full : Prop) : Set (Elem nD τ sig) :=
  {e | ∀ c r, e ∈ rowSet c r ∨ e ∈ outSet c r → full ∨ r = c}

theorem tracked_of_ne {full : Prop} {c : Dev nD} {b : Ref sig .tc} (h4 : b ≠ cc0_stg4_0) (h1 : b ≠ main_v1) (y) :
    (⟨c.tc.loc b, y⟩ : Elem nD τ sig) ∈ tracked full := by
  rintro c' r (⟨x, _, hx⟩ | ⟨x, _, hx⟩)
  · have h := congrArg (fun e : Elem nD τ sig => e.1.2) hx
    exact absurd (Proc.devRef_injective _ h) h4
  · have h := congrArg (fun e : Elem nD τ sig => e.1.2) hx
    exact absurd (Proc.devRef_injective _ h) h1

theorem stg4_ne_v1 : cc0_stg4_0 ≠ main_v1 := by decide
theorem argRef_ne_stg4 : ∀ k, argRef k ≠ cc0_stg4_0 := by decide
theorem argRef_ne_v1 : ∀ k, argRef k ≠ main_v1 := by decide
theorem stgRef_ne_stg4 : ∀ k, stgRef k ≠ cc0_stg4_0 := by decide
theorem stgRef_ne_v1 : ∀ k, stgRef k ≠ main_v1 := by decide
theorem argRef_unscoped : ∀ k, (argRef k).isScoped = false := by decide

theorem devRef_ne {b b' : Ref sig .tc} (h : b ≠ b') : (Proc.tc : Proc τ).devRef b ≠ (Proc.tc : Proc τ).devRef b' :=
  fun e => h (Proc.devRef_injective _ e)

theorem tracked_row {full : Prop} {c : Dev nD} {x : S4096x64.Idx} :
    (⟨c.tc.loc cc0_stg4_0, x⟩ : Elem nD τ sig) ∈ tracked full ↔ (full ∨ rowDev x = c) := by
  constructor
  · intro h
    exact h c (rowDev x) (.inl ⟨x, rfl, rfl⟩)
  · rintro h c' r (⟨y, hy, he⟩ | ⟨y, hy, he⟩)
    · cases he
      exact hy ▸ h
    · exact absurd (congrArg (fun e : Elem nD τ sig => e.1.2) he) (devRef_ne stg4_ne_v1)

theorem tracked_out {full : Prop} {c : Dev nD} {x : S4096x64.Idx} :
    (⟨c.tc.loc main_v1, x⟩ : Elem nD τ sig) ∈ tracked full ↔ (full ∨ rowDev x = c) := by
  constructor
  · intro h
    exact h c (rowDev x) (.inr ⟨x, rfl, rfl⟩)
  · rintro h c' r (⟨y, hy, he⟩ | ⟨y, hy, he⟩)
    · exact absurd (congrArg (fun e : Elem nD τ sig => e.1.2) he) (devRef_ne stg4_ne_v1.symm)
    · cases he
      exact hy ▸ h

namespace Tr

/-- The device that starts a copy, -/
def owner : Tr → Dev nD | inp _ c => c | send _ c => c | out c => c
/-- the one that awaits its completion, -/
def waiter : Tr → Dev nD | inp _ c => c | send d c => peer d c | out c => c
/-- the semaphore it completes on, -/
def semD : Tr → SemLoc sig
  | inp k _ => .dma ⟨k.val, show k.val < 69 by omega⟩
  | send d _ => .dma ⟨38 + d.val, show 38 + d.val < 69 by omega⟩
  | out _ => .dma ⟨4, show 4 < 69 by omega⟩
/-- the semaphore its source side signals, -/
def semS : Tr → Option (SemLoc sig)
  | send d _ => some (.dma ⟨6 + d.val, show 6 + d.val < 69 by omega⟩)
  | _ => none
/-- and what it adds to each. -/
def cr : Tr → ℕ
  | inp k _ => (stgRef k).dmaCredit (stgRef k).ty.shape (stgRef k).ty.elt
  | send _ _ => cc0_stg4_0.dmaCredit S128x64 .f32
  | out _ => main_v1.dmaCredit S4096x64 .f32

/-- What it reads, of the elements followed, -/
def src (full : Prop) : Tr → Set (Elem nD τ sig)
  | inp k c => bufSet c (argRef k)
  | send d c => scrSet c (peer d c)
  | out c => {e | e ∈ bufSet c cc0_stg4_0 ∧ e ∈ tracked full}
/-- and what it writes. -/
def dst : Tr → Set (Elem nD τ sig)
  | inp k c => bufSet c (stgRef k)
  | send d c => rowSet (peer d c) c
  | out c => bufSet c main_v1

theorem cr_pos : ∀ i : Tr, 0 < i.cr
  | inp k c => by
    have h : ∀ k, 0 < (stgRef k).ty.shape.numel := by decide
    exact sig.dmaCredit_pos _ _ _ _ _ (h k)
  | send d c => sig.dmaCredit_pos _ _ _ _ _ (by decide)
  | out c => sig.dmaCredit_pos _ _ _ _ _ (by decide)

end Tr

/-- What a device's operands hold. -/
def args : Set (LElem τ sig) := {e | ∃ k, e.1 = Proc.devRef .tc (argRef k)}

theorem args_tracked {full : Prop} {c : Dev nD} {e : LElem τ sig} (h : e ∈ args) : e.at c ∈ tracked full := by
  obtain ⟨b, y⟩ := e
  obtain ⟨k, hk⟩ := h
  cases hk
  exact tracked_of_ne (c := c) (argRef_ne_stg4 k) (argRef_ne_v1 k) y

/-- The result's elements that are followed. -/
def outs (full : Prop) (c : Dev nD) : Set (LElem τ sig) :=
  {e | ∃ x : S4096x64.Idx, (full ∨ rowDev x = c) ∧ e = ⟨Proc.devRef .tc main_v1, x⟩}

namespace Tr

theorem semD_inj (i j : Tr) (hw : i.waiter = j.waiter) (hs : i.semD = j.semD) : i = j := by
  cases i <;> cases j <;> simp only [waiter, semD, SemLoc.dma.injEq, Fin.mk.injEq] at hw hs
  case inp.inp k c k' c' => rw [hw, Fin.ext hs]
  case send.send d c d' c' =>
    have hd : d = d' := Fin.ext (by omega)
    subst hd
    rw [peer_inj hw]
  case out.out c c' => rw [hw]
  all_goals omega

theorem semS_inj (i j : Tr) (g : SemLoc sig) (ho : i.owner = j.owner) (hi : i.semS = some g) (hj : j.semS = some g) : i = j := by
  cases i <;> cases j <;> simp only [owner, semS, reduceCtorEq] at ho hi hj
  case send.send d c d' c' =>
    have h := hi.trans hj.symm
    simp only [Option.some.injEq, SemLoc.dma.injEq, Fin.mk.injEq] at h
    have hd : d = d' := Fin.ext (by omega)
    rw [hd, ho]

theorem semD_ne_semS (i j : Tr) : j.semS ≠ some i.semD := by
  intro h
  cases i <;> cases j <;> simp only [semD, semS, Option.some.injEq, SemLoc.dma.injEq, Fin.mk.injEq, reduceCtorEq] at h <;> omega

theorem src_dev (full : Prop) (i : Tr) (e : Elem nD τ sig) (h : e ∈ i.src full) : e.1.1 = i.owner := by
  cases i with
  | inp k c => exact congrArg Prod.fst (h : e.1 = _)
  | send d c => obtain ⟨x, _, rfl⟩ := h; rfl
  | out c => exact congrArg Prod.fst (h.1 : e.1 = _)

theorem dst_dev (i : Tr) (e : Elem nD τ sig) (h : e ∈ i.dst) : e.1.1 = i.waiter := by
  cases i with
  | inp k c => exact congrArg Prod.fst (h : e.1 = _)
  | send d c => obtain ⟨x, _, rfl⟩ := h; rfl
  | out c => exact congrArg Prod.fst (h : e.1 = _)

theorem src_tracked (full : Prop) (i : Tr) (e : Elem nD τ sig) (h : e ∈ i.src full) : e ∈ tracked full := by
  cases i with
  | inp k c =>
    obtain ⟨ℓ, y⟩ := e
    obtain rfl : ℓ = _ := h
    exact tracked_of_ne (argRef_ne_stg4 k) (argRef_ne_v1 k) y
  | send d c => obtain ⟨x, _, rfl⟩ := h; exact tracked_of_ne (by decide) (by decide) _
  | out c => exact h.2

theorem semS_none (i : Tr) (h : i.semS = none) : i.waiter = i.owner := by
  cases i with
  | inp k c => rfl
  | send d c => cases h
  | out c => rfl

end Tr

theorem args_unscoped (e : LElem τ sig) (h : e ∈ args) : ¬ Scoped e := by
  obtain ⟨b, y⟩ := e
  obtain ⟨k, hk⟩ := h
  cases hk
  intro hs
  have h := (mem_scopedRefs.mp hs).2
  rw [Proc.isScoped_devRef, argRef_unscoped] at h
  cases h

/-- The kernel's transfers. -/
def plan (full : Prop) (m : MemSt nD τ sig (Elt F)) : Plan nD τ sig (Elt F) where
  ι := Tr
  owner := Tr.owner
  waiter := Tr.waiter
  semD := Tr.semD
  semS := Tr.semS
  cr := Tr.cr
  srcSet := Tr.src full
  dstSet := Tr.dst
  tr := tracked full
  tgt := goalOf m
  bar := none
  init _ := args
  goal c := args ∪ outs full c
  semD_inj := Tr.semD_inj
  semS_inj := Tr.semS_inj
  semD_ne_semS i j _ := Tr.semD_ne_semS i j
  bar_ne_semD i h := by cases h
  bar_ne_semS i g _ h := by cases h
  cr_pos := Tr.cr_pos
  src_dev := Tr.src_dev full
  dst_dev := Tr.dst_dev
  src_tr := Tr.src_tracked full
  semS_none := Tr.semS_none
  init_tr c e h := args_tracked h
  init_unscoped c e h := args_unscoped e h

end Cert.KernelIdeal.Mesh

end
-- ==== Proof.Copies.lean ====
/- Each copy the kernel starts is the plan's: where its two ends sit in their buffers, and that what it moves is what its
   destination is meant to hold. -/
module

public import proofs.«01_k».proof.Proof.Plan

@[expose] public section

noncomputable section

namespace Cert.KernelIdeal.Mesh

open Idealize.ShloMosaic Idealize.ShloMosaic.TcCoe Idealize.SL.Sem
open Cert.Transfers
open scoped Classical

variable {F : FTy → Type} [FloatOps F]

/-! ## Where the ends sit -/

/-- The scratch's block `j`, as a copy reads it. -/
theorem emb_block {o : Fin 3 → ℕ} {j : Fin 32} (ho : o = ![j.val, 0, 0]) (h hs hq) (x : S128x64.Idx) :
    (((Memref.whole cc0_scratch0).slice (Rect.unit (s := S32x128x64) o S1x128x64.size h) hs).squeeze S128x64 hq).view.emb x
      = ix3 (a := 32) (b := 128) (c := 64) j (x 0) (x 1) := by
  subst ho
  show (Rect.unit (s := S32x128x64) ![j.val, 0, 0] S1x128x64.size h).emb (Shape.reshapeEquiv _ x) = _
  rw [show Shape.reshapeEquiv _ x = (Fin.cons ⟨0, Nat.one_pos⟩ x : S1x128x64.Idx) from Shape.reshapeEquiv_cons_one _ x]
  funext a
  apply Fin.ext
  rw [Rect.emb_apply]
  match a with
  | 0 => show j.val + 1 * 0 = j.val; omega
  | 1 => show 0 + 1 * (x 0).val = (x 0).val; omega
  | 2 => show 0 + 1 * (x 1).val = (x 1).val; omega

/-- The same block as a load or a store goes through it. -/
theorem emb_slab {o : Fin 3 → ℕ} {j : Fin 32} (ho : o = ![j.val, 0, 0]) (h) (x : S1x128x64.Idx) :
    (Rect.unit (s := S32x128x64) o S1x128x64.size h).emb x = ix3 (a := 32) (b := 128) (c := 64) j (x 1) (x 2) := by
  subst ho
  funext a
  apply Fin.ext
  rw [Rect.emb_apply]
  have h0 : (x 0).val < 1 := (x 0).isLt
  match a with
  | 0 => show j.val + 1 * (x 0).val = j.val; omega
  | 1 => show 0 + 1 * (x 1).val = (x 1).val; omega
  | 2 => show 0 + 1 * (x 2).val = (x 2).val; omega

/-- Device `r`'s rows of an array of the result's shape. -/
theorem emb_rows {o : Fin 2 → ℕ} {r : Dev nD} (ho : o = ![128 * r.val, 0]) (h) (x : S128x64.Idx) :
    (Rect.unit (s := S4096x64) o S128x64.size h).emb x
      = ix2 (a := 4096) (b := 64) ⟨128 * r.val + (x 0).val, by
          have h0 : (x 0).val < 128 := (x 0).isLt
          have hr : r.val < 32 := r.isLt
          omega⟩ (x 1) := by
  subst ho
  funext a
  apply Fin.ext
  rw [Rect.emb_apply]
  match a with
  | 0 => show 128 * r.val + 1 * (x 0).val = 128 * r.val + (x 0).val; omega
  | 1 => show 0 + 1 * (x 1).val = (x 1).val; omega

theorem rowDev_rows {r : Dev nD} {i : Fin 128} {j : Fin 64} (h) :
    rowDev (ix2 (⟨128 * r.val + i.val, h⟩ : Fin 4096) j) = r := by
  apply Fin.ext
  show (128 * r.val + i.val) / 128 = r.val
  have := i.isLt
  omega

/-- What device `r`'s rows of device `c`'s columns hold is what block `c` of device `r`'s scratch holds. -/
theorem res_rows (m : MemSt nD τ sig (Elt F)) (c r : Dev nD) (i : Fin 128) (j : Fin 64) (h) :
    res m c (ix2 (⟨128 * r.val + i.val, h⟩ : Fin 4096) j) = cut (pay m r) (ix3 c i j) := by
  unfold res
  rw [rowDev_rows]
  congr 2
  apply Fin.ext
  show (128 * r.val + i.val) % 128 = i.val
  have := i.isLt
  omega

theorem ix2_eta {a b : ℕ} (x : (⟨2, ![a, b]⟩ : Shape).Idx) : ix2 (a := a) (b := b) (x 0) (x 1) = x := by
  funext k
  match k with
  | 0 => rfl
  | 1 => rfl

/-- A row of device `r`'s. -/
theorem eq_rows {x : S4096x64.Idx} {r : Dev nD} (hx : rowDev x = r) :
    ∃ (i : Fin 128) (h : 128 * r.val + i.val < 4096), x = ix2 (⟨128 * r.val + i.val, h⟩ : Fin 4096) (x 1) := by
  have h0 : (x 0).val < 4096 := (x 0).isLt
  have hr : (x 0).val / 128 = r.val := congrArg Fin.val hx
  refine ⟨⟨(x 0).val % 128, Nat.mod_lt _ (by decide)⟩, by dsimp only; omega, ?_⟩
  conv_lhs => rw [← ix2_eta (a := 4096) (b := 64) x]
  congr 1
  apply Fin.ext
  show (x 0).val = 128 * r.val + (x 0).val % 128
  omega

/-- A rectangle of an array's own sizes at offsets zero is the array. -/
theorem emb_all {s : Shape} {o : Fin s.rank → ℕ} (ho : ∀ a, o a = 0) (h) (x : s.Idx) : (Rect.unit (s := s) o s.size h).emb x = x := by
  funext a
  apply Fin.ext
  rw [Rect.emb_apply]
  show o a + 1 * (x a).val = (x a).val
  rw [ho]
  omega

/-! ## The copies between devices -/

theorem carry_send (m : MemSt nD τ sig (Elt F)) (c c' : Dev nD) {o4 : Fin 3 → ℕ} {o3 : Fin 2 → ℕ}
    (h4 : o4 = ![c'.val, 0, 0]) (h3 : o3 = ![128 * c.val, 0]) (i4 i3 hs4 hq) (x : S128x64.Idx) (f : S32x128x64.Idx → Elt F .f32)
    (hf : ∀ y : S32x128x64.Idx, y 0 = c' → f y = cut (pay m c) y) :
    f ((((Memref.whole cc0_scratch0).slice (Rect.unit (s := S32x128x64) o4 S1x128x64.size i4) hs4).squeeze S128x64 hq).view.emb x)
      = res m c' ((Rect.unit (s := S4096x64) o3 S128x64.size i3).emb x) := by
  rw [emb_rows h3, emb_block h4]
  exact (hf _ rfl).trans (res_rows m c' c (x 0) (x 1) _).symm

theorem cov_send (c : Dev nD) {o3 : Fin 2 → ℕ} (h3 : o3 = ![128 * c.val, 0]) (i3) (y : S4096x64.Idx) (hy : rowDev y = c) :
    ∃ x : S128x64.Idx, y = (Rect.unit (s := S4096x64) o3 S128x64.size i3).emb x := by
  obtain ⟨i, hi, hx⟩ := eq_rows hy
  refine ⟨ix2 i (y 1), ?_⟩
  rw [emb_rows h3]
  exact hx

theorem mem_send (c : Dev nD) {o3 : Fin 2 → ℕ} (h3 : o3 = ![128 * c.val, 0]) (i3) (x : S128x64.Idx) :
    rowDev ((Rect.unit (s := S4096x64) o3 S128x64.size i3).emb x) = c := by
  rw [emb_rows h3]
  exact rowDev_rows (i := x 0) (j := x 1) _

theorem impl_send (full : Prop) (m : MemSt nD τ sig (Elt F)) (c : Dev nD) (d : Fin 31) {o4 : Fin 3 → ℕ} {o3 : Fin 2 → ℕ} {dev : Dev nD}
    {s1 s2 : DmaSem sig} (h4 : o4 = ![(peer d c).val, 0, 0]) (h3 : o3 = ![128 * c.val, 0]) (hd : dev = peer d c)
    (h1 : s1 = ⟨6 + d.val, show 6 + d.val < 69 by omega⟩) (h2 : s2 = ⟨38 + d.val, show 38 + d.val < 69 by omega⟩)
    (i4 i3 hs4 hs3 hq) (b₀ st) :
    (plan full m).Impl (.send d c) (Dma.enqueued (c.tc : Thread nD τ)
      (((Memref.whole cc0_scratch0).slice (Rect.unit (s := S32x128x64) o4 S1x128x64.size i4) hs4).squeeze S128x64 hq).view
      (.remote dev.tc ((Memref.whole cc0_stg4_0).slice (Rect.unit (s := S4096x64) o3 S128x64.size i3) hs3) (.dma s1)) .same (.dma s2) b₀ st) := by
  subst hd h1 h2
  refine ⟨rfl, rfl, rfl, fun x => ⟨_, mem_send c h3 i3 x, rfl⟩, ?_, fun x _ f hf => ?_⟩
  · rintro e ⟨y, hy, rfl⟩
    obtain ⟨x, hx⟩ := cov_send c h3 i3 y hy
    exact ⟨x, by rw [hx]; rfl⟩
  · exact carry_send m c (peer d c) h4 h3 i4 i3 hs4 hq x f fun y hy => hf y ⟨y, hy, rfl⟩

/-! ## The copies between a device's operands and result and their staging buffers -/

theorem impl_in0 (full : Prop) (m : MemSt nD τ sig (Elt F)) (c : Dev nD) (t : Fin grid0.N) (b₀ st) :
    (plan full m).Impl (.inp 0 c) (Dma.enqueued (c.tc : Thread nD τ) (win0_0.blk t).view (.here (win0_0.stg t 0)) .same
      (.dma (win0_0.sem 0)) b₀ st) := by
  refine ⟨rfl, rfl, rfl, fun x => rfl, ?_, fun x _ f hf => ?_⟩
  · rintro ⟨ℓ, y⟩ he
    obtain rfl : ℓ = _ := he
    exact ⟨y, congrArg (Sigma.mk _) (emb_all (s := S128x4096) (fun _ => rfl) _ y).symm⟩
  · refine (hf _ rfl).trans ?_
    show m.mem (c.tc.loc main_arg0) _ = m.mem (c.tc.loc main_arg0) _
    exact congrArg _ ((emb_all (s := S128x4096) (fun _ => Nat.zero_mul _) _ x).trans (emb_all (s := S128x4096) (fun _ => rfl) _ x).symm)

theorem impl_in1 (full : Prop) (m : MemSt nD τ sig (Elt F)) (c : Dev nD) (t : Fin grid0.N) (b₀ st) :
    (plan full m).Impl (.inp 1 c) (Dma.enqueued (c.tc : Thread nD τ) (win0_1.blk t).view (.here (win0_1.stg t 0)) .same
      (.dma (win0_1.sem 0)) b₀ st) := by
  refine ⟨rfl, rfl, rfl, fun x => rfl, ?_, fun x _ f hf => ?_⟩
  · rintro ⟨ℓ, y⟩ he
    obtain rfl : ℓ = _ := he
    exact ⟨y, congrArg (Sigma.mk _) (emb_all (s := S4096x2048) (fun _ => rfl) _ y).symm⟩
  · refine (hf _ rfl).trans ?_
    show m.mem (c.tc.loc main_arg1) _ = m.mem (c.tc.loc main_arg1) _
    exact congrArg _ ((emb_all (s := S4096x2048) (fun _ => Nat.zero_mul _) _ x).trans (emb_all (s := S4096x2048) (fun _ => rfl) _ x).symm)

theorem impl_in2 (full : Prop) (m : MemSt nD τ sig (Elt F)) (c : Dev nD) (t : Fin grid0.N) (b₀ st) :
    (plan full m).Impl (.inp 2 c) (Dma.enqueued (c.tc : Thread nD τ) (win0_2.blk t).view (.here (win0_2.stg t 0)) .same
      (.dma (win0_2.sem 0)) b₀ st) := by
  refine ⟨rfl, rfl, rfl, fun x => rfl, ?_, fun x _ f hf => ?_⟩
  · rintro ⟨ℓ, y⟩ he
    obtain rfl : ℓ = _ := he
    exact ⟨y, congrArg (Sigma.mk _) (emb_all (s := S1) (fun _ => rfl) _ y).symm⟩
  · refine (hf _ rfl).trans ?_
    show m.mem (c.tc.loc main_arg2) _ = m.mem (c.tc.loc main_arg2) _
    exact congrArg _ ((emb_all (s := S1) (fun _ => Nat.zero_mul _) _ x).trans (emb_all (s := S1) (fun _ => rfl) _ x).symm)

theorem impl_in3 (full : Prop) (m : MemSt nD τ sig (Elt F)) (c : Dev nD) (t : Fin grid0.N) (b₀ st) :
    (plan full m).Impl (.inp 3 c) (Dma.enqueued (c.tc : Thread nD τ) (win0_3.blk t).view (.here (win0_3.stg t 0)) .same
      (.dma (win0_3.sem 0)) b₀ st) := by
  refine ⟨rfl, rfl, rfl, fun x => rfl, ?_, fun x _ f hf => ?_⟩
  · rintro ⟨ℓ, y⟩ he
    obtain rfl : ℓ = _ := he
    exact ⟨y, congrArg (Sigma.mk _) (emb_all (s := S1) (fun _ => rfl) _ y).symm⟩
  · refine (hf _ rfl).trans ?_
    show m.mem (c.tc.loc main_arg3) _ = m.mem (c.tc.loc main_arg3) _
    exact congrArg _ ((emb_all (s := S1) (fun _ => Nat.zero_mul _) _ x).trans (emb_all (s := S1) (fun _ => rfl) _ x).symm)

theorem impl_out (full : Prop) (m : MemSt nD τ sig (Elt F)) (c : Dev nD) (t : Fin grid0.N) (b₀ st) :
    (plan full m).Impl (.out c) (Dma.enqueued (c.tc : Thread nD τ) (win0_4.stg t 0).view (.here (win0_4.blk t)) .same
      (.dma (win0_4.sem 0)) b₀ st) := by
  have hb : ∀ x : S4096x64.Idx, (win0_4.blk t).view.emb x = x := emb_all (s := S4096x64) (fun _ => Nat.zero_mul _) _
  have hs : ∀ x : S4096x64.Idx, (win0_4.stg t 0).view.emb x = x := emb_all (s := S4096x64) (fun _ => rfl) _
  refine ⟨rfl, rfl, rfl, fun x => rfl, ?_, fun x hx f hf => ?_⟩
  · rintro ⟨ℓ, y⟩ he
    obtain rfl : ℓ = _ := he
    exact ⟨y, congrArg (Sigma.mk _) (hb y).symm⟩
  · have hx' : (⟨c.tc.loc main_v1, x⟩ : Elem nD τ sig) ∈ tracked full :=
      (congrArg (fun y : S4096x64.Idx => (⟨c.tc.loc main_v1, y⟩ : Elem nD τ sig) ∈ tracked full) (hb x)).mp hx
    have h1 : f ((win0_4.stg t 0).view.emb x) = f x := congrArg f (hs x)
    have h2 : res m c ((win0_4.blk t).view.emb x) = res m c x := congrArg (res m c) (hb x)
    exact (h1.trans (hf x ⟨rfl, tracked_row.mpr (tracked_out.mp hx')⟩)).trans h2.symm

end Cert.KernelIdeal.Mesh

end
-- ==== Proof.Steps.lean ====
/- The steps of one device: what it has done as counters, and for each operation of the kernel that it takes the
   counters one step on. -/
module

public import proofs.«01_k».proof.Proof.Copies

@[expose] public section

noncomputable section

namespace Cert.KernelIdeal.Mesh

open Idealize.ShloMosaic Idealize.ShloMosaic.TcCoe Idealize.SL.Sem
open Cert.Transfers
open scoped Classical

variable {F : FTy → Type} [FloatOps F]

/-! ## What a device has done, as counters -/

/-- How many operands it has begun to stage and has staged, how many blocks of the scratch and whether its own rows of
    the result it has stored, how many blocks it has begun to send, has sent and has received, and whether it has begun
    to write the result back and has done so. -/
structure Pos where
  ki : ℕ
  ko : ℕ
  blk : ℕ
  own : ℕ
  e : ℕ
  s : ℕ
  r : ℕ
  oi : ℕ
  ow : ℕ

/-- The copies a device has started, -/
def Started (c : Dev nD) (p : Pos) : Tr → Prop
  | .inp k c' => c' = c ∧ k.val < p.ki
  | .send d c' => c' = c ∧ d.val < p.e
  | .out c' => c' = c ∧ 0 < p.oi
/-- those it has seen completed, -/
def Landed (c : Dev nD) (p : Pos) : Tr → Prop
  | .inp k c' => c' = c ∧ k.val < p.ko
  | .send d c' => c' = prev d c ∧ d.val < p.r
  | .out c' => c' = c ∧ 0 < p.ow
/-- and those it has seen read. -/
def Sent (c : Dev nD) (p : Pos) : Tr → Prop
  | .inp _ _ => False
  | .send d c' => c' = c ∧ d.val < p.s
  | .out _ => False

/-- The counters say what has been done in the kernel, and which elements are known. -/
structure St (full : Prop) (m : MemSt nD τ sig (Elt F)) (c : Dev nD) (p : Pos) (L : (plan full m).Local) : Prop where
  stage : L.stage = 1
  issued : ∀ i : Tr, i ∈ L.issued ↔ Started c p i
  wd : ∀ i : Tr, i ∈ L.wd ↔ Landed c p i
  ws : ∀ i : Tr, i ∈ L.ws ↔ Sent c p i
  kargs : args ⊆ L.known
  kin : ∀ k : Fin 4, k.val < p.ko → ∀ y, (⟨Proc.devRef .tc (stgRef k), y⟩ : LElem τ sig) ∈ L.known
  kscr : ∀ x : S32x128x64.Idx, (x 0).val < p.blk → (⟨Proc.devRef .tc cc0_scratch0, x⟩ : LElem τ sig) ∈ L.known
  kown : 0 < p.own → ∀ x : S4096x64.Idx, rowDev x = c → (⟨Proc.devRef .tc cc0_stg4_0, x⟩ : LElem τ sig) ∈ L.known
  krecv : full → ∀ d : Fin 31, d.val < p.r → ∀ x : S4096x64.Idx, rowDev x = prev d c →
    (⟨Proc.devRef .tc cc0_stg4_0, x⟩ : LElem τ sig) ∈ L.known
  kout : 0 < p.ow → ∀ x : S4096x64.Idx, (full ∨ rowDev x = c) → (⟨Proc.devRef .tc main_v1, x⟩ : LElem τ sig) ∈ L.known

/-- A device's program runs, in the kernel's own code. -/
abbrev Runs {α : Type} (full : Prop) (m : MemSt nD τ sig (Elt F)) (c : Dev nD) (Q : α → (plan full m).Local → Prop) (n : ℕ)
    (L : (plan full m).Local) (p : Prog (TpuEff nD τ sig (Elt F) Λ₀ (Proc.tc : Proc τ)) α) : Prop :=
  (plan full m).WP (Λ := Λ₀) (defs₀ (F := F)) c Q n L p

variable {full : Prop} {m : MemSt nD τ sig (Elt F)} {c : Dev nD} {α : Type} {Q : α → (plan full m).Local → Prop} {n : ℕ}
  {p : Pos} {L : (plan full m).Local}

/-- What is known after some elements are is more. -/
theorem St.learn (h : St full m c p L) (K : Set (LElem τ sig)) : St full m c p (L.learn K) where
  stage := h.stage
  issued := h.issued
  wd := h.wd
  ws := h.ws
  kargs := h.kargs.trans Set.subset_union_left
  kin k hk y := .inl (h.kin k hk y)
  kscr x hx := .inl (h.kscr x hx)
  kown hp x hx := .inl (h.kown hp x hx)
  krecv hf d hd x hx := .inl (h.krecv hf d hd x hx)
  kout hp x hx := .inl (h.kout hp x hx)

/-! ## The semaphores of the two arrays -/

theorem sem_at {base j : ℕ} (h0 : base + S32.numel ≤ 69) (hj : j < 32) (hb hq) :
    (((SemArray.consecutive (n := 69) base S32 h0).slice (Rect.unit (s := S32) ![j] S1.size hb)).squeeze S_ hq).sem
      = ⟨base + j, by have : S32.numel = 32 := rfl; omega⟩ := by
  apply Fin.ext
  show base + (S32.rowMajor ((Rect.unit (s := S32) ![j] S1.size hb).emb (Shape.reshapeEquiv hq.numel_eq _))).val = base + j
  rw [Shape.rowMajor_val_one, Rect.emb_apply]
  generalize Shape.reshapeEquiv hq.numel_eq _ = y
  have h1 : (y 0).val < 1 := (y 0).isLt
  show base + (j + 1 * (y 0).val) = base + j
  omega

/-! ## Starting a copy to another device -/

theorem scratch_ne_stg4 : cc0_scratch0 ≠ cc0_stg4_0 := by decide
theorem scratch_ne_v1 : cc0_scratch0 ≠ main_v1 := by decide

theorem routed_peer (c dev : Dev nD) : τ.routes (c.tc : Thread nD τ) (dev.tc : Thread nD τ) = true := Topo.routes_tc c dev

theorem step_send (h : St full m c p L) (hf : ¬ full) (d : Fin 31) (he : p.e = d.val) (hb : p.blk = 32)
    {o4 : Fin 3 → ℕ} {o3 : Fin 2 → ℕ} {dev : Dev nD} {j : ℕ}
    (h4 : o4 = ![(peer d c).val, 0, 0]) (h3 : o3 = ![128 * c.val, 0]) (hd : dev = peer d c) (hj : j = d.val + 1)
    (i4 i3 hs4 hs3 hq b1 q1 b2 q2 hw1 hw2 ht) (k)
    (hk : ∀ L', St full m c { p with e := d.val + 1 } L' → Runs full m c Q n L' (k ⟨⟩)) :
    Runs full m c Q (n + 1) L (Prog.lift (TpuEff.enqueueDma
      (((Memref.whole cc0_scratch0).slice (Rect.unit (s := S32x128x64) o4 S1x128x64.size i4) hs4).squeeze S128x64 hq)
      (.remote dev.tc ((Memref.whole cc0_stg4_0).slice (Rect.unit (s := S4096x64) o3 S128x64.size i3) hs3)
        (.dma ((cc0_scratch1.slice (Rect.unit (s := S32) ![j] S1.size b1)).squeeze S_ q1).sem))
      (.dma ((cc0_scratch2.slice (Rect.unit (s := S32) ![j] S1.size b2)).squeeze S_ q2).sem) hw1 hw2 ht) >>= k) := by
  have hj32 : j < 32 := by omega
  have e1 : ((cc0_scratch1.slice (Rect.unit (s := S32) ![j] S1.size b1)).squeeze S_ q1).sem = ⟨6 + d.val, show 6 + d.val < 69 by omega⟩ :=
    (sem_at _ hj32 b1 q1).trans (Fin.ext (by dsimp only; omega))
  have e2 : ((cc0_scratch2.slice (Rect.unit (s := S32) ![j] S1.size b2)).squeeze S_ q2).sem = ⟨38 + d.val, show 38 + d.val < 69 by omega⟩ :=
    (sem_at _ hj32 b2 q2).trans (Fin.ext (by dsimp only; omega))
  refine Plan.WP.enqueue (i := (Tr.send d c : Tr)) _ _ _ _ _ _ _ _ (routed_peer c dev) rfl ?_ h.stage
    (fun b₀ st => impl_send full m c d h4 h3 hd e1 e2 i4 i3 hs4 hs3 hq b₀ st) ?_ ?_ (hk _ ?_)
  · intro hi
    have := ((h.issued (.send d c)).mp hi).2
    omega
  · rintro e ⟨x, hx, rfl⟩
    refine h.kscr x ?_
    have h0 : (x 0).val < 32 := (x 0).isLt
    omega
  · refine .inr (.inl ?_)
    rintro e ⟨x, hx, rfl⟩ he
    rcases tracked_row.mp he with he | he
    · exact hf he
    · exact peer_ne d c (he.symm.trans hx)
  · refine { h with issued := fun i => ?_ }
    refine (Set.mem_insert_iff.trans (or_congr_right (h.issued i))).trans ?_
    cases i with
    | inp k' c' => exact ⟨fun hh => hh.elim (fun e => nomatch e) id, .inr⟩
    | out c' => exact ⟨fun hh => hh.elim (fun e => nomatch e) id, .inr⟩
    | send d' c' =>
      constructor
      · rintro (hh | ⟨hc, hlt⟩)
        · cases hh
          exact ⟨rfl, Nat.lt_succ_self _⟩
        · exact ⟨hc, by dsimp only; omega⟩
      · rintro ⟨rfl, hlt⟩
        by_cases hdd : d'.val = d.val
        · exact .inl (by rw [Fin.ext hdd])
        · exact .inr ⟨rfl, by dsimp only at hlt; omega⟩

/-! ## Awaiting the copies -/

theorem credit_block : cc0_scratch0.dmaCredit S128x64 .f32 = cc0_stg4_0.dmaCredit S128x64 .f32 := by decide

theorem step_sent (h : St full m c p L) (d : Fin 31) (hs : p.s = d.val) (he : d.val < p.e) {j : ℕ} (hj : j = d.val + 1)
    {o4 : Fin 3 → ℕ} {sp : Space} {v : Memref sig .tc sp S128x64 .f32} (i4 hs4 hq b1 q1 hw1 hw2) (k)
    (hk : ∀ L', St full m c { p with s := d.val + 1 } L' → Runs full m c Q n L' (k ⟨⟩)) :
    Runs full m c Q (n + 1) L (Prog.lift (TpuEff.waitDma2
      ((cc0_scratch1.slice (Rect.unit (s := S32) ![j] S1.size b1)).squeeze S_ q1).sem v
      (((Memref.whole cc0_scratch0).slice (Rect.unit (s := S32x128x64) o4 S1x128x64.size i4) hs4).squeeze S128x64 hq) hw1 hw2) >>= k) := by
  have hj32 : j < 32 := by omega
  have e1 : ((cc0_scratch1.slice (Rect.unit (s := S32) ![j] S1.size b1)).squeeze S_ q1).sem = ⟨6 + d.val, show 6 + d.val < 69 by omega⟩ :=
    (sem_at _ hj32 b1 q1).trans (Fin.ext (by dsimp only; omega))
  refine Plan.WP.waitS (i := (Tr.send d c : Tr)) _ _ _ _ _ _ rfl (congrArg (fun s => some (SemLoc.dma s)) e1.symm) credit_block ?_
    ((h.issued (.send d c)).mpr ⟨rfl, he⟩) (hk _ ?_)
  · intro hi
    have := ((h.ws (.send d c)).mp hi).2
    omega
  · refine { h with ws := fun i => ?_ }
    refine (Set.mem_insert_iff.trans (or_congr_right (h.ws i))).trans ?_
    cases i with
    | inp k' c' => exact ⟨fun hh => hh.elim (fun e => nomatch e) id, .inr⟩
    | out c' => exact ⟨fun hh => hh.elim (fun e => nomatch e) id, .inr⟩
    | send d' c' =>
      constructor
      · rintro (hh | ⟨hc, hlt⟩)
        · cases hh
          exact ⟨rfl, Nat.lt_succ_self _⟩
        · exact ⟨hc, by dsimp only; omega⟩
      · rintro ⟨rfl, hlt⟩
        by_cases hdd : d'.val = d.val
        · exact .inl (by rw [Fin.ext hdd])
        · exact .inr ⟨rfl, by dsimp only at hlt; omega⟩

theorem step_recv (h : St full m c p L) (d : Fin 31) (hr : p.r = d.val) (he : p.e = 31) {j : ℕ} (hj : j = d.val + 1)
    {o3 : Fin 2 → ℕ} {sp : Space} {v : Memref sig .tc sp S128x64 .f32} (i3 hs3 b2 q2 hw1 hw2) (k)
    (hk : ∀ L', St full m c { p with r := d.val + 1 } L' → Runs full m c Q n L' (k ⟨⟩)) :
    Runs full m c Q (n + 1) L (Prog.lift (TpuEff.waitDma2
      ((cc0_scratch2.slice (Rect.unit (s := S32) ![j] S1.size b2)).squeeze S_ q2).sem v
      ((Memref.whole cc0_stg4_0).slice (Rect.unit (s := S4096x64) o3 S128x64.size i3) hs3) hw1 hw2) >>= k) := by
  have hj32 : j < 32 := by omega
  have e2 : ((cc0_scratch2.slice (Rect.unit (s := S32) ![j] S1.size b2)).squeeze S_ q2).sem = ⟨38 + d.val, show 38 + d.val < 69 by omega⟩ :=
    (sem_at _ hj32 b2 q2).trans (Fin.ext (by dsimp only; omega))
  refine Plan.WP.waitD (i := (Tr.send d (prev d c) : Tr)) _ _ _ _ _ _ (peer_prev d c) (congrArg SemLoc.dma e2.symm) rfl ?_ h.stage ?_ (hk _ ?_)
  · intro hi
    have := ((h.wd (.send d (prev d c))).mp hi).2
    omega
  · rw [if_neg (show ¬ (plan full m).owner (Tr.send d (prev d c) : Tr) = c from prev_ne d c)]
    refine ⟨fun hb => absurd rfl hb, fun i ho hw => ?_⟩
    cases i with
    | inp k' c' => exact absurd ho hw
    | out c' => exact absurd ho hw
    | send d' c' => exact (h.issued (.send d' c')).mpr ⟨ho, by rw [he]; exact d'.isLt⟩
  · refine { h with wd := fun i => ?_, kargs := h.kargs.trans Set.subset_union_left, kin := fun k hk y => .inl (h.kin k hk y),
                    kscr := fun x hx => .inl (h.kscr x hx), kown := fun hp x hx => .inl (h.kown hp x hx),
                    krecv := fun hf d' hd' x hx => ?_, kout := fun hp x hx => .inl (h.kout hp x hx) }
    · refine (Set.mem_insert_iff.trans (or_congr_right (h.wd i))).trans ?_
      cases i with
      | inp k' c' => exact ⟨fun hh => hh.elim (fun e => nomatch e) id, .inr⟩
      | out c' => exact ⟨fun hh => hh.elim (fun e => nomatch e) id, .inr⟩
      | send d' c' =>
        constructor
        · rintro (hh | ⟨hc, hlt⟩)
          · cases hh
            exact ⟨rfl, Nat.lt_succ_self _⟩
          · exact ⟨hc, by dsimp only; omega⟩
        · rintro ⟨hc, hlt⟩
          by_cases hdd : d'.val = d.val
          · obtain rfl := Fin.ext hdd
            exact .inl (by rw [hc])
          · exact .inr ⟨hc, by dsimp only at hlt; omega⟩
    · by_cases hdd : d'.val = d.val
      · obtain rfl := Fin.ext hdd
        refine .inr ⟨?_, ?_⟩
        · show (⟨(peer d' (prev d' c)).tc.loc cc0_stg4_0, x⟩ : Elem nD τ sig) ∈ rowSet (peer d' (prev d' c)) (prev d' c)
          exact ⟨x, hx, rfl⟩
        · show (⟨(peer d' (prev d' c)).tc.loc cc0_stg4_0, x⟩ : Elem nD τ sig) ∈ tracked full
          exact tracked_row.mpr (.inl hf)
      · exact .inl (h.krecv hf d' (by dsimp only at hd'; omega) x hx)

/-! ## Loads and stores -/

/-- A load, whatever it reads. -/
theorem step_load {cs : CoreSpace} {s : Shape} {e : EltTy} (mr : Memref sig (Proc.tc : Proc τ).kind cs s e) (r : LoadRect s)
    (hl : mr.view.LoadsAt r) (k) (hk : ∀ v, Runs full m c Q n L (k v)) :
    Runs full m c Q (n + 1) L (Prog.lift (TpuEff.load mr r hl) >>= k) :=
  Plan.WP.load _ _ _ _ fun _ _ => hk _

/-- The load of a whole operand, staged. -/
theorem step_load0 (h : St full m c p L) (hi : 1 ≤ p.ko) (inb hl) (k) (hk : Runs full m c Q n L (k (m.mem (c.tc.loc main_arg0)))) :
    Runs full m c Q (n + 1) L (Prog.lift (TpuEff.load (Memref.whole cc0_stg0_0)
      (Rect.unit (s := S128x4096) ![0, 0] S128x4096.size inb).toLoadRect hl) >>= k) := by
  refine Plan.WP.load _ _ _ _ fun f hf => ?_
  have e : (Memref.whole cc0_stg0_0).view.readAt (Elt F) (Rect.unit (s := S128x4096) ![0, 0] S128x4096.size inb).toLoadRect f
      = m.mem (c.tc.loc main_arg0) := by
    funext x
    refine (congrArg f (emb_all (s := S128x4096) (o := ![0, 0]) (fun a => by fin_cases a <;> rfl) inb x)).trans ?_
    exact hf x (h.kin 0 hi x)
  exact e ▸ hk

theorem step_load1 (h : St full m c p L) (hi : 2 ≤ p.ko) (inb hl) (k) (hk : Runs full m c Q n L (k (m.mem (c.tc.loc main_arg1)))) :
    Runs full m c Q (n + 1) L (Prog.lift (TpuEff.load (Memref.whole cc0_stg1_0)
      (Rect.unit (s := S4096x2048) ![0, 0] S4096x2048.size inb).toLoadRect hl) >>= k) := by
  refine Plan.WP.load _ _ _ _ fun f hf => ?_
  have e : (Memref.whole cc0_stg1_0).view.readAt (Elt F) (Rect.unit (s := S4096x2048) ![0, 0] S4096x2048.size inb).toLoadRect f
      = m.mem (c.tc.loc main_arg1) := by
    funext x
    refine (congrArg f (emb_all (s := S4096x2048) (o := ![0, 0]) (fun a => by fin_cases a <;> rfl) inb x)).trans ?_
    exact hf x (h.kin 1 hi x)
  exact e ▸ hk

theorem step_load2 (h : St full m c p L) (hi : 3 ≤ p.ko) (inb h1 h2) (k) (hk : Runs full m c Q n L (k (m.mem (c.tc.loc main_arg2) one))) :
    Runs full m c Q (n + 1) L (smemLoad (Memref.whole cc0_stg2_0) (Rect.unit (s := S1) ![0] S1.size inb) h1 h2 >>= k) := by
  refine Plan.WP.load _ _ _ _ fun f hf => ?_
  have e : ∀ x : S1.Idx, (Memref.whole cc0_stg2_0).view.readAt (Elt F) (Rect.unit (s := S1) ![0] S1.size inb).toLoadRect f x
      = m.mem (c.tc.loc main_arg2) x := by
    intro x
    refine (congrArg f (emb_all (s := S1) (o := ![0]) (fun a => by fin_cases a; rfl) inb x)).trans ?_
    exact hf x (h.kin 2 hi x)
  refine (congrArg (fun z => Runs full m c Q n L (k z)) (e _)).mpr hk

theorem step_load3 (h : St full m c p L) (hi : 4 ≤ p.ko) (inb h1 h2) (k) (hk : Runs full m c Q n L (k (m.mem (c.tc.loc main_arg3) one))) :
    Runs full m c Q (n + 1) L (smemLoad (Memref.whole cc0_stg3_0) (Rect.unit (s := S1) ![0] S1.size inb) h1 h2 >>= k) := by
  refine Plan.WP.load _ _ _ _ fun f hf => ?_
  have e : ∀ x : S1.Idx, (Memref.whole cc0_stg3_0).view.readAt (Elt F) (Rect.unit (s := S1) ![0] S1.size inb).toLoadRect f x
      = m.mem (c.tc.loc main_arg3) x := by
    intro x
    refine (congrArg f (emb_all (s := S1) (o := ![0]) (fun a => by fin_cases a; rfl) inb x)).trans ?_
    exact hf x (h.kin 3 hi x)
  refine (congrArg (fun z => Runs full m c Q n L (k z)) (e _)).mpr hk

/-- The load of a block of the scratch that has been stored. -/
theorem step_load_own (h : St full m c p L) (hb : p.blk = 32) (j : Fin 32) {o : Fin 3 → ℕ} (ho : o = ![j.val, 0, 0]) (inb hl) (k)
    (hk : ∀ v : S1x128x64.Idx → Elt F .f32, (∀ x, v x = cut (pay m c) (ix3 j (x 1) (x 2))) → Runs full m c Q n L (k v)) :
    Runs full m c Q (n + 1) L (Prog.lift (TpuEff.load (Memref.whole cc0_scratch0)
      (Rect.unit (s := S32x128x64) o S1x128x64.size inb).toLoadRect hl) >>= k) := by
  refine Plan.WP.load _ _ _ _ fun f hf => hk _ fun x => ?_
  refine (congrArg f (emb_slab ho inb x)).trans ?_
  refine hf (ix3 j (x 1) (x 2)) (h.kscr _ ?_)
  rw [hb]
  exact j.isLt

/-- What such a store leaves: the block, and the rest as it was. -/
theorem write_block {g f : S32x128x64.Idx → Elt F .f32} {w : S1x128x64.Idx → Elt F .f32} {j : Fin 32} {o : Fin 3 → ℕ} (ho : o = ![j.val, 0, 0])
    (hw : ∀ x, w x = g (ix3 j (x 1) (x 2))) (inb) (y : S32x128x64.Idx) (hy : y 0 = j ∨ f y = g y) :
    ((Memref.whole cc0_scratch0).access (Rect.unit (s := S32x128x64) o S1x128x64.size inb)).write (Elt F) f w Finset.univ y = g y := by
  by_cases hyj : y 0 = j
  · have e : ix3 (a := 32) (b := 128) (c := 64) j (y 1) (y 2) = y := by
      funext a
      match a with
      | 0 => exact hyj.symm
      | 1 => rfl
      | 2 => rfl
    have e' : (Rect.unit (s := S32x128x64) o S1x128x64.size inb).emb (ix3 (a := 1) (b := 128) (c := 64) 0 (y 1) (y 2)) = y :=
      (emb_slab ho inb _).trans e
    have e2 := View.write_emb_of_mem (v := (Memref.whole cc0_scratch0).access (Rect.unit (s := S32x128x64) o S1x128x64.size inb)) (Val := Elt F) f w
      (Finset.mem_univ (ix3 (a := 1) (b := 128) (c := 64) 0 (y 1) (y 2)))
    have e3 : w (ix3 (a := 1) (b := 128) (c := 64) 0 (y 1) (y 2)) = g y := (hw _).trans (congrArg g e)
    exact (congrArg (((Memref.whole cc0_scratch0).access (Rect.unit (s := S32x128x64) o S1x128x64.size inb)).write (Elt F) f w Finset.univ) e').symm.trans
      (e2.trans e3)
  · refine (View.write_of_not_mem (v := (Memref.whole cc0_scratch0).access (Rect.unit (s := S32x128x64) o S1x128x64.size inb)) f w Finset.univ ?_).trans
      (hy.resolve_left hyj)
    intro hmem
    obtain ⟨x, _, hx⟩ := Finset.mem_map.mp hmem
    have hx' : (Rect.unit (s := S32x128x64) o S1x128x64.size inb).emb x = y := hx
    exact hyj ((congrFun hx' 0).symm.trans (congrFun (emb_slab ho inb x) 0))

/-- The same of a store of the device's own rows of the result. -/
theorem write_rows {g f : S4096x64.Idx → Elt F .f32} {w : S128x64.Idx → Elt F .f32} {c : Dev nD} {o : Fin 2 → ℕ} (ho : o = ![128 * c.val, 0]) (inb)
    (hw : ∀ x, w x = g ((Rect.unit (s := S4096x64) o S128x64.size inb).emb x)) (y : S4096x64.Idx) (hy : rowDev y = c ∨ f y = g y) :
    ((Memref.whole cc0_stg4_0).access (Rect.unit (s := S4096x64) o S128x64.size inb)).write (Elt F) f w Finset.univ y = g y := by
  by_cases hyj : rowDev y = c
  · obtain ⟨x, rfl⟩ := cov_send c ho inb y hyj
    have e2 := View.write_emb_of_mem (v := (Memref.whole cc0_stg4_0).access (Rect.unit (s := S4096x64) o S128x64.size inb)) (Val := Elt F) f w
      (Finset.mem_univ x)
    exact e2.trans (hw x)
  · refine (View.write_of_not_mem (v := (Memref.whole cc0_stg4_0).access (Rect.unit (s := S4096x64) o S128x64.size inb)) f w Finset.univ ?_).trans
      (hy.resolve_left hyj)
    intro hmem
    obtain ⟨x, _, hx⟩ := Finset.mem_map.mp hmem
    have hx' : (Rect.unit (s := S4096x64) o S128x64.size inb).emb x = y := hx
    exact hyj (hx' ▸ mem_send c ho inb x)

/-- The store of a block of the scratch. -/
theorem step_block (h : St full m c p L) (j : Fin 32) (hb : p.blk = j.val) {o : Fin 3 → ℕ} (ho : o = ![j.val, 0, 0])
    {w : S1x128x64.Idx → Elt F .f32} (hw : ∀ x, w x = cut (pay m c) (ix3 j (x 1) (x 2))) (inb hst hm) (k)
    (hk : ∀ L', St full m c { p with blk := j.val + 1 } L' → Runs full m c Q n L' (k ⟨⟩)) :
    Runs full m c Q (n + 1) L (Prog.lift (TpuEff.store (Memref.whole cc0_scratch0)
      (Rect.unit (s := S32x128x64) o S1x128x64.size inb) w Finset.univ hst hm) >>= k) := by
  refine Plan.WP.store _ _ _ _ _ _ _ {y : S32x128x64.Idx | y 0 = j} (fun y _ => tracked_of_ne scratch_ne_stg4 scratch_ne_v1 y)
    (fun f y _ hy => write_block (g := cut (pay m c)) ho hw inb y hy) (hk _ ?_)
  have h' := h.learn ((fun y : S32x128x64.Idx => (⟨Proc.devRef .tc cc0_scratch0, y⟩ : LElem τ sig)) '' {y : S32x128x64.Idx | y 0 = j})
  refine { h' with kscr := fun x hx => ?_ }
  by_cases hxj : (x 0).val = j.val
  · exact .inr ⟨x, Fin.ext hxj, rfl⟩
  · exact h'.kscr x (by dsimp only at hx; omega)

/-- The store of the device's own rows of the result. -/
theorem step_own (h : St full m c p L) {o : Fin 2 → ℕ} (ho : o = ![128 * c.val, 0])
    {w : S128x64.Idx → Elt F .f32} (hw : ∀ x, w x = cut (pay m c) (ix3 c (x 0) (x 1))) (inb hst hm) (k)
    (hk : ∀ L', St full m c { p with own := 1 } L' → Runs full m c Q n L' (k ⟨⟩)) :
    Runs full m c Q (n + 1) L (Prog.lift (TpuEff.store (Memref.whole cc0_stg4_0)
      (Rect.unit (s := S4096x64) o S128x64.size inb) w Finset.univ hst hm) >>= k) := by
  have hw' : ∀ x, w x = res m c ((Rect.unit (s := S4096x64) o S128x64.size inb).emb x) := fun x => by
    rw [emb_rows ho inb]
    exact (hw x).trans (res_rows m c c (x 0) (x 1) _).symm
  refine Plan.WP.store _ _ _ _ _ _ _ {y : S4096x64.Idx | rowDev y = c} (fun y hy => tracked_row.mpr (.inr hy))
    (fun f y _ hy => write_rows (g := res m c) ho inb hw' y hy) (hk _ ?_)
  have h' := h.learn ((fun y : S4096x64.Idx => (⟨Proc.devRef .tc cc0_stg4_0, y⟩ : LElem τ sig)) '' {y : S4096x64.Idx | rowDev y = c})
  exact { h' with kown := fun _ x hx => .inr ⟨x, hx, rfl⟩ }

end Cert.KernelIdeal.Mesh

end
-- ==== Proof.Walk.lean ====
/- The kernel's body, part by part: every operation in turn, from the operands staged to the result complete in its
   staging buffer. -/
module

public import proofs.«01_k».proof.Proof.Steps
public import Idealize.ShloMosaic.Lib.Pipeline.Value

@[expose] public section

noncomputable section

namespace Cert.KernelIdeal.Mesh

open Idealize.ShloMosaic Idealize.ShloMosaic.TcCoe Idealize.SL.Sem
open Cert.Transfers Cert.KernelIdeal.Gen
open scoped Classical

variable {F : FTy → Type} [FloatOps F]

/-! ## The payloads of the stores -/

/-- A store's payload, 64 columns of the product, is the block of the cut. -/
theorem pay_block {j : Fin 32} {o : Fin 2 → ℕ} (ho : o = ![0, 64 * j.val]) (v : FVec F S128x2048 .f32) (hs) (hc) (x : S1x128x64.Idx) :
    shapeCast S1x128x64 (extractStridedSlice S128x64 o v hs) hc x = cut v (ix3 j (x 1) (x 2)) := by
  subst ho
  refine (shapeCast_addUnit_apply ![128, 64] _ hc x).trans ?_
  refine extractStridedSlice_apply _ v hs _ (ix2 (x 1) ⟨64 * j.val + (x 2).val, by
    have h1 : (x 2).val < 64 := (x 2).isLt
    have h2 := j.isLt
    omega⟩) fun a => ?_
  match a with
  | 0 => show (x 1).val = 0 + (x 1).val; omega
  | 1 => rfl

/-- The device's own block, as it is stored among its rows of the result. -/
theorem pay_own {g : S32x128x64.Idx → Elt F .f32} {j : Fin 32} {v : S1x128x64.Idx → Elt F .f32}
    (hv : ∀ x, v x = g (ix3 j (x 1) (x 2))) (hc) (x : S128x64.Idx) : shapeCast S128x64 v hc x = g (ix3 j (x 0) (x 1)) :=
  (shapeCast_dropUnit_apply ![128, 64] v hc x).trans (hv _)

/-! ## The parts -/

variable {full : Prop} {m : MemSt nD τ sig (Elt F)} {c : Dev nD} {L : (plan full m).Local}
  {h0 : (Memref.whole cc0_stg0_0).IsWhole} {h1 : (Memref.whole cc0_stg1_0).IsWhole} {h2 : (Memref.whole cc0_stg2_0).IsWhole}
  {h3 : (Memref.whole cc0_stg3_0).IsWhole} {h4 : (Memref.whole cc0_stg4_0).IsWhole} {h5 : (Memref.whole cc0_scratch0).IsWhole}

theorem part1 (h : St full m c ⟨4, 4, 0, 0, 0, 0, 0, 0, 0⟩ L)   :
    Runs full m c (fun a L' => a.1 = c ∧ a.2.2.1 = pay m c ∧ (∀ x, k0_pay7 (F := F) a.2.2.2 x = cut (pay m c) (ix3 4 (x 1) (x 2))) ∧ St full m c ⟨4, 4, 4, 0, 0, 0, 0, 0, 0⟩ L') 13 L
      (k0_part1 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 ) := by
  rw [k0_part1_eq_skeleton]
  unfold k0_part1_skel
  dsimp only
  refine Plan.WP.deviceId _ ?_
  refine step_load0 h (by decide) _ _ _ ?_
  refine step_load1 h (by decide) _ _ _ ?_
  refine step_load2 h (by decide) _ _ _ _ ?_
  refine step_load3 h (by decide) _ _ _ _ ?_
  refine step_load _ _ _ _ fun _ => ?_
  refine step_block h 0 rfl rfl (fun x => pay_block rfl _ _ _ x) _ _ _ _ fun L h => ?_
  refine step_load _ _ _ _ fun _ => ?_
  refine step_block h 1 rfl rfl (fun x => pay_block rfl _ _ _ x) _ _ _ _ fun L h => ?_
  refine step_load _ _ _ _ fun _ => ?_
  refine step_block h 2 rfl rfl (fun x => pay_block rfl _ _ _ x) _ _ _ _ fun L h => ?_
  refine step_load _ _ _ _ fun _ => ?_
  refine step_block h 3 rfl rfl (fun x => pay_block rfl _ _ _ x) _ _ _ _ fun L h => ?_
  exact Plan.WP.ret _ _ _ ⟨rfl, rfl, fun x => pay_block (j := 4) rfl (pay m c) slices_S128x2048_o0_256_S128x64 shapeCasts_S128x64_S1x128x64 x, h⟩

theorem part2 (h : St full m c ⟨4, 4, 4, 0, 0, 0, 0, 0, 0⟩ L) (v30 : FVec F S128x64 .f32) (hv : ∀ x, k0_pay7 v30 x = cut (pay m c) (ix3 4 (x 1) (x 2))) :
    Runs full m c (fun _ L' => St full m c ⟨4, 4, 12, 0, 0, 0, 0, 0, 0⟩ L') 16 L
      (k0_part2 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 (pay m c) v30) := by
  rw [k0_part2_eq_skeleton]
  unfold k0_part2_skel
  dsimp only
  refine step_load _ _ _ _ fun _ => ?_
  refine step_block h 4 rfl rfl hv _ _ _ _ fun L h => ?_
  refine step_load _ _ _ _ fun _ => ?_
  refine step_block h 5 rfl rfl (fun x => pay_block rfl _ _ _ x) _ _ _ _ fun L h => ?_
  refine step_load _ _ _ _ fun _ => ?_
  refine step_block h 6 rfl rfl (fun x => pay_block rfl _ _ _ x) _ _ _ _ fun L h => ?_
  refine step_load _ _ _ _ fun _ => ?_
  refine step_block h 7 rfl rfl (fun x => pay_block rfl _ _ _ x) _ _ _ _ fun L h => ?_
  refine step_load _ _ _ _ fun _ => ?_
  refine step_block h 8 rfl rfl (fun x => pay_block rfl _ _ _ x) _ _ _ _ fun L h => ?_
  refine step_load _ _ _ _ fun _ => ?_
  refine step_block h 9 rfl rfl (fun x => pay_block rfl _ _ _ x) _ _ _ _ fun L h => ?_
  refine step_load _ _ _ _ fun _ => ?_
  refine step_block h 10 rfl rfl (fun x => pay_block rfl _ _ _ x) _ _ _ _ fun L h => ?_
  refine step_load _ _ _ _ fun _ => ?_
  refine step_block h 11 rfl rfl (fun x => pay_block rfl _ _ _ x) _ _ _ _ fun L h => ?_
  exact Plan.WP.ret _ _ _ h

theorem part3 (h : St full m c ⟨4, 4, 12, 0, 0, 0, 0, 0, 0⟩ L)   :
    Runs full m c (fun a L' => (∀ x, k0_pay23 (F := F) a x = cut (pay m c) (ix3 19 (x 1) (x 2))) ∧ St full m c ⟨4, 4, 19, 0, 0, 0, 0, 0, 0⟩ L') 14 L
      (k0_part3 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 (pay m c)) := by
  rw [k0_part3_eq_skeleton]
  unfold k0_part3_skel
  dsimp only
  refine step_load _ _ _ _ fun _ => ?_
  refine step_block h 12 rfl rfl (fun x => pay_block rfl _ _ _ x) _ _ _ _ fun L h => ?_
  refine step_load _ _ _ _ fun _ => ?_
  refine step_block h 13 rfl rfl (fun x => pay_block rfl _ _ _ x) _ _ _ _ fun L h => ?_
  refine step_load _ _ _ _ fun _ => ?_
  refine step_block h 14 rfl rfl (fun x => pay_block rfl _ _ _ x) _ _ _ _ fun L h => ?_
  refine step_load _ _ _ _ fun _ => ?_
  refine step_block h 15 rfl rfl (fun x => pay_block rfl _ _ _ x) _ _ _ _ fun L h => ?_
  refine step_load _ _ _ _ fun _ => ?_
  refine step_block h 16 rfl rfl (fun x => pay_block rfl _ _ _ x) _ _ _ _ fun L h => ?_
  refine step_load _ _ _ _ fun _ => ?_
  refine step_block h 17 rfl rfl (fun x => pay_block rfl _ _ _ x) _ _ _ _ fun L h => ?_
  refine step_load _ _ _ _ fun _ => ?_
  refine step_block h 18 rfl rfl (fun x => pay_block rfl _ _ _ x) _ _ _ _ fun L h => ?_
  exact Plan.WP.ret _ _ _ ⟨fun x => pay_block (j := 19) rfl (pay m c) slices_S128x2048_o0_1216_S128x64 shapeCasts_S128x64_S1x128x64 x, h⟩

theorem part4 (h : St full m c ⟨4, 4, 19, 0, 0, 0, 0, 0, 0⟩ L) (v90 : FVec F S128x64 .f32) (hv : ∀ x, k0_pay23 v90 x = cut (pay m c) (ix3 19 (x 1) (x 2))) :
    Runs full m c (fun _ L' => St full m c ⟨4, 4, 27, 0, 0, 0, 0, 0, 0⟩ L') 16 L
      (k0_part4 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 (pay m c) v90) := by
  rw [k0_part4_eq_skeleton]
  unfold k0_part4_skel
  dsimp only
  refine step_load _ _ _ _ fun _ => ?_
  refine step_block h 19 rfl rfl hv _ _ _ _ fun L h => ?_
  refine step_load _ _ _ _ fun _ => ?_
  refine step_block h 20 rfl rfl (fun x => pay_block rfl _ _ _ x) _ _ _ _ fun L h => ?_
  refine step_load _ _ _ _ fun _ => ?_
  refine step_block h 21 rfl rfl (fun x => pay_block rfl _ _ _ x) _ _ _ _ fun L h => ?_
  refine step_load _ _ _ _ fun _ => ?_
  refine step_block h 22 rfl rfl (fun x => pay_block rfl _ _ _ x) _ _ _ _ fun L h => ?_
  refine step_load _ _ _ _ fun _ => ?_
  refine step_block h 23 rfl rfl (fun x => pay_block rfl _ _ _ x) _ _ _ _ fun L h => ?_
  refine step_load _ _ _ _ fun _ => ?_
  refine step_block h 24 rfl rfl (fun x => pay_block rfl _ _ _ x) _ _ _ _ fun L h => ?_
  refine step_load _ _ _ _ fun _ => ?_
  refine step_block h 25 rfl rfl (fun x => pay_block rfl _ _ _ x) _ _ _ _ fun L h => ?_
  refine step_load _ _ _ _ fun _ => ?_
  refine step_block h 26 rfl rfl (fun x => pay_block rfl _ _ _ x) _ _ _ _ fun L h => ?_
  exact Plan.WP.ret _ _ _ h

theorem part5 (h : St full m c ⟨4, 4, 27, 0, 0, 0, 0, 0, 0⟩ L) (v2 : BitVec 32)  :
    Runs full m c (fun _ L' => St full m c ⟨4, 4, 32, 1, 0, 0, 0, 0, 0⟩ L') 13 L
      (k0_part5 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 (pay m c)) := by
  rw [k0_part5_eq_skeleton]
  unfold k0_part5_skel
  dsimp only
  refine step_load _ _ _ _ fun _ => ?_
  refine step_block h 27 rfl rfl (fun x => pay_block rfl _ _ _ x) _ _ _ _ fun L h => ?_
  refine step_load _ _ _ _ fun _ => ?_
  refine step_block h 28 rfl rfl (fun x => pay_block rfl _ _ _ x) _ _ _ _ fun L h => ?_
  refine step_load _ _ _ _ fun _ => ?_
  refine step_block h 29 rfl rfl (fun x => pay_block rfl _ _ _ x) _ _ _ _ fun L h => ?_
  refine step_load _ _ _ _ fun _ => ?_
  refine step_block h 30 rfl rfl (fun x => pay_block rfl _ _ _ x) _ _ _ _ fun L h => ?_
  refine step_load _ _ _ _ fun _ => ?_
  refine step_block h 31 rfl rfl (fun x => pay_block rfl _ _ _ x) _ _ _ _ fun L h => ?_
  refine step_load_own h rfl c (k0_off1_eq c) _ _ _ fun v hv => ?_
  refine step_load _ _ _ _ fun _ => ?_
  refine step_own h (k0_off2_eq c) (fun x => pay_own hv _ x) _ _ _ _ fun L h => ?_
  exact Plan.WP.ret _ _ _ h

theorem part6 (hf : ¬ full) (h : St full m c ⟨4, 4, 32, 1, 0, 0, 0, 0, 0⟩ L) (v2 : BitVec 32) (v149 : BitVec 32) (c1_i32_78 : BitVec 32)  :
    Runs full m c (fun _ L' => St full m c ⟨4, 4, 32, 1, 3, 0, 0, 0, 0⟩ L') 3 L
      (k0_part6 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v149 c1_i32_78) := by
  rw [k0_part6_eq_skeleton]
  unfold k0_part6_skel
  dsimp only
  refine step_send h hf 0 rfl rfl (k0_off4_eq c 0) (k0_off3_eq c) (Fin.ext (k0_dev1_eq c)) rfl _ _ _ _ _ _ _ _ _ _ _ _ _ fun L h => ?_
  refine step_send h hf 1 rfl rfl (k0_off4_eq c 1) (k0_off3_eq c) (Fin.ext (k0_dev2_eq c)) rfl _ _ _ _ _ _ _ _ _ _ _ _ _ fun L h => ?_
  refine step_send h hf 2 rfl rfl (k0_off4_eq c 2) (k0_off3_eq c) (Fin.ext (k0_dev3_eq c)) rfl _ _ _ _ _ _ _ _ _ _ _ _ _ fun L h => ?_
  exact Plan.WP.ret _ _ _ h

theorem part7 (hf : ¬ full) (h : St full m c ⟨4, 4, 32, 1, 3, 0, 0, 0, 0⟩ L) (v2 : BitVec 32)  :
    Runs full m c (fun _ L' => St full m c ⟨4, 4, 32, 1, 5, 0, 0, 0, 0⟩ L') 2 L
      (k0_part7 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part7_eq_skeleton]
  unfold k0_part7_skel
  dsimp only
  refine step_send h hf 3 rfl rfl (k0_off4_eq c 3) (k0_off3_eq c) (Fin.ext (k0_dev4_eq c)) rfl _ _ _ _ _ _ _ _ _ _ _ _ _ fun L h => ?_
  refine step_send h hf 4 rfl rfl (k0_off4_eq c 4) (k0_off3_eq c) (Fin.ext (k0_dev5_eq c)) rfl _ _ _ _ _ _ _ _ _ _ _ _ _ fun L h => ?_
  exact Plan.WP.ret _ _ _ h

theorem part8 (hf : ¬ full) (h : St full m c ⟨4, 4, 32, 1, 5, 0, 0, 0, 0⟩ L) (v2 : BitVec 32)  :
    Runs full m c (fun _ L' => St full m c ⟨4, 4, 32, 1, 8, 0, 0, 0, 0⟩ L') 3 L
      (k0_part8 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part8_eq_skeleton]
  unfold k0_part8_skel
  dsimp only
  refine step_send h hf 5 rfl rfl (k0_off4_eq c 5) (k0_off3_eq c) (Fin.ext (k0_dev6_eq c)) rfl _ _ _ _ _ _ _ _ _ _ _ _ _ fun L h => ?_
  refine step_send h hf 6 rfl rfl (k0_off4_eq c 6) (k0_off3_eq c) (Fin.ext (k0_dev7_eq c)) rfl _ _ _ _ _ _ _ _ _ _ _ _ _ fun L h => ?_
  refine step_send h hf 7 rfl rfl (k0_off4_eq c 7) (k0_off3_eq c) (Fin.ext (k0_dev8_eq c)) rfl _ _ _ _ _ _ _ _ _ _ _ _ _ fun L h => ?_
  exact Plan.WP.ret _ _ _ h

theorem part9 (hf : ¬ full) (h : St full m c ⟨4, 4, 32, 1, 8, 0, 0, 0, 0⟩ L) (v2 : BitVec 32) (v245 : BitVec 32) (c128_i32_146 : BitVec 32)  :
    Runs full m c (fun _ L' => St full m c ⟨4, 4, 32, 1, 10, 0, 0, 0, 0⟩ L') 2 L
      (k0_part9 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v245 c128_i32_146) := by
  rw [k0_part9_eq_skeleton]
  unfold k0_part9_skel
  dsimp only
  refine step_send h hf 8 rfl rfl (k0_off4_eq c 8) (k0_off3_eq c) (Fin.ext (k0_dev9_eq c)) rfl _ _ _ _ _ _ _ _ _ _ _ _ _ fun L h => ?_
  refine step_send h hf 9 rfl rfl (k0_off4_eq c 9) (k0_off3_eq c) (Fin.ext (k0_dev10_eq c)) rfl _ _ _ _ _ _ _ _ _ _ _ _ _ fun L h => ?_
  exact Plan.WP.ret _ _ _ h

theorem part10 (hf : ¬ full) (h : St full m c ⟨4, 4, 32, 1, 10, 0, 0, 0, 0⟩ L) (v2 : BitVec 32)  :
    Runs full m c (fun _ L' => St full m c ⟨4, 4, 32, 1, 13, 0, 0, 0, 0⟩ L') 3 L
      (k0_part10 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part10_eq_skeleton]
  unfold k0_part10_skel
  dsimp only
  refine step_send h hf 10 rfl rfl (k0_off4_eq c 10) (k0_off3_eq c) (Fin.ext (k0_dev11_eq c)) rfl _ _ _ _ _ _ _ _ _ _ _ _ _ fun L h => ?_
  refine step_send h hf 11 rfl rfl (k0_off4_eq c 11) (k0_off3_eq c) (Fin.ext (k0_dev12_eq c)) rfl _ _ _ _ _ _ _ _ _ _ _ _ _ fun L h => ?_
  refine step_send h hf 12 rfl rfl (k0_off4_eq c 12) (k0_off3_eq c) (Fin.ext (k0_dev13_eq c)) rfl _ _ _ _ _ _ _ _ _ _ _ _ _ fun L h => ?_
  exact Plan.WP.ret _ _ _ h

theorem part11 (hf : ¬ full) (h : St full m c ⟨4, 4, 32, 1, 13, 0, 0, 0, 0⟩ L) (v2 : BitVec 32) (v307 : BitVec 32)  :
    Runs full m c (fun _ L' => St full m c ⟨4, 4, 32, 1, 16, 0, 0, 0, 0⟩ L') 3 L
      (k0_part11 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v307) := by
  rw [k0_part11_eq_skeleton]
  unfold k0_part11_skel
  dsimp only
  refine step_send h hf 13 rfl rfl (k0_off4_eq c 13) (k0_off3_eq c) (Fin.ext (k0_dev14_eq c)) rfl _ _ _ _ _ _ _ _ _ _ _ _ _ fun L h => ?_
  refine step_send h hf 14 rfl rfl (k0_off4_eq c 14) (k0_off3_eq c) (Fin.ext (k0_dev15_eq c)) rfl _ _ _ _ _ _ _ _ _ _ _ _ _ fun L h => ?_
  refine step_send h hf 15 rfl rfl (k0_off4_eq c 15) (k0_off3_eq c) (Fin.ext (k0_dev16_eq c)) rfl _ _ _ _ _ _ _ _ _ _ _ _ _ fun L h => ?_
  exact Plan.WP.ret _ _ _ h

theorem part12 (hf : ¬ full) (h : St full m c ⟨4, 4, 32, 1, 16, 0, 0, 0, 0⟩ L) (v2 : BitVec 32) (c17_i32 : BitVec 32)  :
    Runs full m c (fun _ L' => St full m c ⟨4, 4, 32, 1, 18, 0, 0, 0, 0⟩ L') 2 L
      (k0_part12 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 c17_i32) := by
  rw [k0_part12_eq_skeleton]
  unfold k0_part12_skel
  dsimp only
  refine step_send h hf 16 rfl rfl (k0_off4_eq c 16) (k0_off3_eq c) (Fin.ext (k0_dev17_eq c)) rfl _ _ _ _ _ _ _ _ _ _ _ _ _ fun L h => ?_
  refine step_send h hf 17 rfl rfl (k0_off4_eq c 17) (k0_off3_eq c) (Fin.ext (k0_dev18_eq c)) rfl _ _ _ _ _ _ _ _ _ _ _ _ _ fun L h => ?_
  exact Plan.WP.ret _ _ _ h

theorem part13 (hf : ¬ full) (h : St full m c ⟨4, 4, 32, 1, 18, 0, 0, 0, 0⟩ L) (v2 : BitVec 32)  :
    Runs full m c (fun _ L' => St full m c ⟨4, 4, 32, 1, 21, 0, 0, 0, 0⟩ L') 3 L
      (k0_part13 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part13_eq_skeleton]
  unfold k0_part13_skel
  dsimp only
  refine step_send h hf 18 rfl rfl (k0_off4_eq c 18) (k0_off3_eq c) (Fin.ext (k0_dev19_eq c)) rfl _ _ _ _ _ _ _ _ _ _ _ _ _ fun L h => ?_
  refine step_send h hf 19 rfl rfl (k0_off4_eq c 19) (k0_off3_eq c) (Fin.ext (k0_dev20_eq c)) rfl _ _ _ _ _ _ _ _ _ _ _ _ _ fun L h => ?_
  refine step_send h hf 20 rfl rfl (k0_off4_eq c 20) (k0_off3_eq c) (Fin.ext (k0_dev21_eq c)) rfl _ _ _ _ _ _ _ _ _ _ _ _ _ fun L h => ?_
  exact Plan.WP.ret _ _ _ h

theorem part14 (hf : ¬ full) (h : St full m c ⟨4, 4, 32, 1, 21, 0, 0, 0, 0⟩ L) (v2 : BitVec 32) (v401 : BitVec 32)  :
    Runs full m c (fun _ L' => St full m c ⟨4, 4, 32, 1, 23, 0, 0, 0, 0⟩ L') 2 L
      (k0_part14 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v401) := by
  rw [k0_part14_eq_skeleton]
  unfold k0_part14_skel
  dsimp only
  refine step_send h hf 21 rfl rfl (k0_off4_eq c 21) (k0_off3_eq c) (Fin.ext (k0_dev22_eq c)) rfl _ _ _ _ _ _ _ _ _ _ _ _ _ fun L h => ?_
  refine step_send h hf 22 rfl rfl (k0_off4_eq c 22) (k0_off3_eq c) (Fin.ext (k0_dev23_eq c)) rfl _ _ _ _ _ _ _ _ _ _ _ _ _ fun L h => ?_
  exact Plan.WP.ret _ _ _ h

theorem part15 (hf : ¬ full) (h : St full m c ⟨4, 4, 32, 1, 23, 0, 0, 0, 0⟩ L) (v2 : BitVec 32)  :
    Runs full m c (fun _ L' => St full m c ⟨4, 4, 32, 1, 26, 0, 0, 0, 0⟩ L') 3 L
      (k0_part15 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part15_eq_skeleton]
  unfold k0_part15_skel
  dsimp only
  refine step_send h hf 23 rfl rfl (k0_off4_eq c 23) (k0_off3_eq c) (Fin.ext (k0_dev24_eq c)) rfl _ _ _ _ _ _ _ _ _ _ _ _ _ fun L h => ?_
  refine step_send h hf 24 rfl rfl (k0_off4_eq c 24) (k0_off3_eq c) (Fin.ext (k0_dev25_eq c)) rfl _ _ _ _ _ _ _ _ _ _ _ _ _ fun L h => ?_
  refine step_send h hf 25 rfl rfl (k0_off4_eq c 25) (k0_off3_eq c) (Fin.ext (k0_dev26_eq c)) rfl _ _ _ _ _ _ _ _ _ _ _ _ _ fun L h => ?_
  exact Plan.WP.ret _ _ _ h

theorem part16 (hf : ¬ full) (h : St full m c ⟨4, 4, 32, 1, 26, 0, 0, 0, 0⟩ L) (v2 : BitVec 32) (v463 : BitVec 32) (c0_i32_312 : BitVec 32)  :
    Runs full m c (fun _ L' => St full m c ⟨4, 4, 32, 1, 29, 0, 0, 0, 0⟩ L') 3 L
      (k0_part16 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v463 c0_i32_312) := by
  rw [k0_part16_eq_skeleton]
  unfold k0_part16_skel
  dsimp only
  refine step_send h hf 26 rfl rfl (k0_off4_eq c 26) (k0_off3_eq c) (Fin.ext (k0_dev27_eq c)) rfl _ _ _ _ _ _ _ _ _ _ _ _ _ fun L h => ?_
  refine step_send h hf 27 rfl rfl (k0_off4_eq c 27) (k0_off3_eq c) (Fin.ext (k0_dev28_eq c)) rfl _ _ _ _ _ _ _ _ _ _ _ _ _ fun L h => ?_
  refine step_send h hf 28 rfl rfl (k0_off4_eq c 28) (k0_off3_eq c) (Fin.ext (k0_dev29_eq c)) rfl _ _ _ _ _ _ _ _ _ _ _ _ _ fun L h => ?_
  exact Plan.WP.ret _ _ _ h

theorem part17 (hf : ¬ full) (h : St full m c ⟨4, 4, 32, 1, 29, 0, 0, 0, 0⟩ L) (v2 : BitVec 32) (v149 : BitVec 32) (v496 : BitVec 32)  :
    Runs full m c (fun _ L' => St full m c ⟨4, 4, 32, 1, 31, 1, 0, 0, 0⟩ L') 3 L
      (k0_part17 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v149 v496) := by
  rw [k0_part17_eq_skeleton]
  unfold k0_part17_skel
  dsimp only
  refine step_send h hf 29 rfl rfl (k0_off4_eq c 29) (k0_off3_eq c) (Fin.ext (k0_dev30_eq c)) rfl _ _ _ _ _ _ _ _ _ _ _ _ _ fun L h => ?_
  refine step_send h hf 30 rfl rfl (k0_off4_eq c 30) (k0_off3_eq c) (Fin.ext (k0_dev31_eq c)) rfl _ _ _ _ _ _ _ _ _ _ _ _ _ fun L h => ?_
  refine step_sent h 0 rfl (by decide) rfl _ _ _ _ _ _ _ _ fun L h => ?_
  exact Plan.WP.ret _ _ _ h

theorem part18 (h : St full m c ⟨4, 4, 32, 1, 31, 1, 0, 0, 0⟩ L) (v161 : BitVec 32) (v173 : BitVec 32) (v525 : BitVec 32)  :
    Runs full m c (fun _ L' => St full m c ⟨4, 4, 32, 1, 31, 3, 2, 0, 0⟩ L') 4 L
      (k0_part18 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v161 v173 v525) := by
  rw [k0_part18_eq_skeleton]
  unfold k0_part18_skel
  dsimp only
  refine step_recv h 0 rfl rfl rfl _ _ _ _ _ _ _ fun L h => ?_
  refine step_sent h 1 rfl (by decide) rfl _ _ _ _ _ _ _ _ fun L h => ?_
  refine step_recv h 1 rfl rfl rfl _ _ _ _ _ _ _ fun L h => ?_
  refine step_sent h 2 rfl (by decide) rfl _ _ _ _ _ _ _ _ fun L h => ?_
  exact Plan.WP.ret _ _ _ h

theorem part19 (h : St full m c ⟨4, 4, 32, 1, 31, 3, 2, 0, 0⟩ L) (v185 : BitVec 32) (v197 : BitVec 32)  :
    Runs full m c (fun _ L' => St full m c ⟨4, 4, 32, 1, 31, 5, 5, 0, 0⟩ L') 5 L
      (k0_part19 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v185 v197) := by
  rw [k0_part19_eq_skeleton]
  unfold k0_part19_skel
  dsimp only
  refine step_recv h 2 rfl rfl rfl _ _ _ _ _ _ _ fun L h => ?_
  refine step_sent h 3 rfl (by decide) rfl _ _ _ _ _ _ _ _ fun L h => ?_
  refine step_recv h 3 rfl rfl rfl _ _ _ _ _ _ _ fun L h => ?_
  refine step_sent h 4 rfl (by decide) rfl _ _ _ _ _ _ _ _ fun L h => ?_
  refine step_recv h 4 rfl rfl rfl _ _ _ _ _ _ _ fun L h => ?_
  exact Plan.WP.ret _ _ _ h

theorem part20 (h : St full m c ⟨4, 4, 32, 1, 31, 5, 5, 0, 0⟩ L) (v209 : BitVec 32) (v221 : BitVec 32)  :
    Runs full m c (fun _ L' => St full m c ⟨4, 4, 32, 1, 31, 7, 7, 0, 0⟩ L') 4 L
      (k0_part20 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v209 v221) := by
  rw [k0_part20_eq_skeleton]
  unfold k0_part20_skel
  dsimp only
  refine step_sent h 5 rfl (by decide) rfl _ _ _ _ _ _ _ _ fun L h => ?_
  refine step_recv h 5 rfl rfl rfl _ _ _ _ _ _ _ fun L h => ?_
  refine step_sent h 6 rfl (by decide) rfl _ _ _ _ _ _ _ _ fun L h => ?_
  refine step_recv h 6 rfl rfl rfl _ _ _ _ _ _ _ fun L h => ?_
  exact Plan.WP.ret _ _ _ h

theorem part21 (h : St full m c ⟨4, 4, 32, 1, 31, 7, 7, 0, 0⟩ L) (v233 : BitVec 32) (v245 : BitVec 32)  :
    Runs full m c (fun _ L' => St full m c ⟨4, 4, 32, 1, 31, 10, 9, 0, 0⟩ L') 5 L
      (k0_part21 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v233 v245) := by
  rw [k0_part21_eq_skeleton]
  unfold k0_part21_skel
  dsimp only
  refine step_sent h 7 rfl (by decide) rfl _ _ _ _ _ _ _ _ fun L h => ?_
  refine step_recv h 7 rfl rfl rfl _ _ _ _ _ _ _ fun L h => ?_
  refine step_sent h 8 rfl (by decide) rfl _ _ _ _ _ _ _ _ fun L h => ?_
  refine step_recv h 8 rfl rfl rfl _ _ _ _ _ _ _ fun L h => ?_
  refine step_sent h 9 rfl (by decide) rfl _ _ _ _ _ _ _ _ fun L h => ?_
  exact Plan.WP.ret _ _ _ h

theorem part22 (h : St full m c ⟨4, 4, 32, 1, 31, 10, 9, 0, 0⟩ L) (v257 : BitVec 32) (v269 : BitVec 32) (v281 : BitVec 32)  :
    Runs full m c (fun _ L' => St full m c ⟨4, 4, 32, 1, 31, 12, 11, 0, 0⟩ L') 4 L
      (k0_part22 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v257 v269 v281) := by
  rw [k0_part22_eq_skeleton]
  unfold k0_part22_skel
  dsimp only
  refine step_recv h 9 rfl rfl rfl _ _ _ _ _ _ _ fun L h => ?_
  refine step_sent h 10 rfl (by decide) rfl _ _ _ _ _ _ _ _ fun L h => ?_
  refine step_recv h 10 rfl rfl rfl _ _ _ _ _ _ _ fun L h => ?_
  refine step_sent h 11 rfl (by decide) rfl _ _ _ _ _ _ _ _ fun L h => ?_
  exact Plan.WP.ret _ _ _ h

theorem part23 (h : St full m c ⟨4, 4, 32, 1, 31, 12, 11, 0, 0⟩ L) (v293 : BitVec 32) (v305 : BitVec 32)  :
    Runs full m c (fun _ L' => St full m c ⟨4, 4, 32, 1, 31, 14, 13, 0, 0⟩ L') 4 L
      (k0_part23 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v293 v305) := by
  rw [k0_part23_eq_skeleton]
  unfold k0_part23_skel
  dsimp only
  refine step_recv h 11 rfl rfl rfl _ _ _ _ _ _ _ fun L h => ?_
  refine step_sent h 12 rfl (by decide) rfl _ _ _ _ _ _ _ _ fun L h => ?_
  refine step_recv h 12 rfl rfl rfl _ _ _ _ _ _ _ fun L h => ?_
  refine step_sent h 13 rfl (by decide) rfl _ _ _ _ _ _ _ _ fun L h => ?_
  exact Plan.WP.ret _ _ _ h

theorem part24 (h : St full m c ⟨4, 4, 32, 1, 31, 14, 13, 0, 0⟩ L) (v317 : BitVec 32) (v329 : BitVec 32)  :
    Runs full m c (fun _ L' => St full m c ⟨4, 4, 32, 1, 31, 16, 16, 0, 0⟩ L') 5 L
      (k0_part24 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v317 v329) := by
  rw [k0_part24_eq_skeleton]
  unfold k0_part24_skel
  dsimp only
  refine step_recv h 13 rfl rfl rfl _ _ _ _ _ _ _ fun L h => ?_
  refine step_sent h 14 rfl (by decide) rfl _ _ _ _ _ _ _ _ fun L h => ?_
  refine step_recv h 14 rfl rfl rfl _ _ _ _ _ _ _ fun L h => ?_
  refine step_sent h 15 rfl (by decide) rfl _ _ _ _ _ _ _ _ fun L h => ?_
  refine step_recv h 15 rfl rfl rfl _ _ _ _ _ _ _ fun L h => ?_
  exact Plan.WP.ret _ _ _ h

theorem part25 (h : St full m c ⟨4, 4, 32, 1, 31, 16, 16, 0, 0⟩ L) (v341 : BitVec 32) (v353 : BitVec 32)  :
    Runs full m c (fun _ L' => St full m c ⟨4, 4, 32, 1, 31, 18, 18, 0, 0⟩ L') 4 L
      (k0_part25 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v341 v353) := by
  rw [k0_part25_eq_skeleton]
  unfold k0_part25_skel
  dsimp only
  refine step_sent h 16 rfl (by decide) rfl _ _ _ _ _ _ _ _ fun L h => ?_
  refine step_recv h 16 rfl rfl rfl _ _ _ _ _ _ _ fun L h => ?_
  refine step_sent h 17 rfl (by decide) rfl _ _ _ _ _ _ _ _ fun L h => ?_
  refine step_recv h 17 rfl rfl rfl _ _ _ _ _ _ _ fun L h => ?_
  exact Plan.WP.ret _ _ _ h

theorem part26 (h : St full m c ⟨4, 4, 32, 1, 31, 18, 18, 0, 0⟩ L) (v365 : BitVec 32) (v377 : BitVec 32) (v389 : BitVec 32)  :
    Runs full m c (fun _ L' => St full m c ⟨4, 4, 32, 1, 31, 21, 20, 0, 0⟩ L') 5 L
      (k0_part26 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v365 v377 v389) := by
  rw [k0_part26_eq_skeleton]
  unfold k0_part26_skel
  dsimp only
  refine step_sent h 18 rfl (by decide) rfl _ _ _ _ _ _ _ _ fun L h => ?_
  refine step_recv h 18 rfl rfl rfl _ _ _ _ _ _ _ fun L h => ?_
  refine step_sent h 19 rfl (by decide) rfl _ _ _ _ _ _ _ _ fun L h => ?_
  refine step_recv h 19 rfl rfl rfl _ _ _ _ _ _ _ fun L h => ?_
  refine step_sent h 20 rfl (by decide) rfl _ _ _ _ _ _ _ _ fun L h => ?_
  exact Plan.WP.ret _ _ _ h

theorem part27 (h : St full m c ⟨4, 4, 32, 1, 31, 21, 20, 0, 0⟩ L) (v401 : BitVec 32) (v413 : BitVec 32) (v765 : BitVec 32)  :
    Runs full m c (fun _ L' => St full m c ⟨4, 4, 32, 1, 31, 23, 22, 0, 0⟩ L') 4 L
      (k0_part27 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v401 v413 v765) := by
  rw [k0_part27_eq_skeleton]
  unfold k0_part27_skel
  dsimp only
  refine step_recv h 20 rfl rfl rfl _ _ _ _ _ _ _ fun L h => ?_
  refine step_sent h 21 rfl (by decide) rfl _ _ _ _ _ _ _ _ fun L h => ?_
  refine step_recv h 21 rfl rfl rfl _ _ _ _ _ _ _ fun L h => ?_
  refine step_sent h 22 rfl (by decide) rfl _ _ _ _ _ _ _ _ fun L h => ?_
  exact Plan.WP.ret _ _ _ h

theorem part28 (h : St full m c ⟨4, 4, 32, 1, 31, 23, 22, 0, 0⟩ L) (v425 : BitVec 32) (v437 : BitVec 32)  :
    Runs full m c (fun _ L' => St full m c ⟨4, 4, 32, 1, 31, 25, 25, 0, 0⟩ L') 5 L
      (k0_part28 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v425 v437) := by
  rw [k0_part28_eq_skeleton]
  unfold k0_part28_skel
  dsimp only
  refine step_recv h 22 rfl rfl rfl _ _ _ _ _ _ _ fun L h => ?_
  refine step_sent h 23 rfl (by decide) rfl _ _ _ _ _ _ _ _ fun L h => ?_
  refine step_recv h 23 rfl rfl rfl _ _ _ _ _ _ _ fun L h => ?_
  refine step_sent h 24 rfl (by decide) rfl _ _ _ _ _ _ _ _ fun L h => ?_
  refine step_recv h 24 rfl rfl rfl _ _ _ _ _ _ _ fun L h => ?_
  exact Plan.WP.ret _ _ _ h

theorem part29 (h : St full m c ⟨4, 4, 32, 1, 31, 25, 25, 0, 0⟩ L) (v449 : BitVec 32) (v461 : BitVec 32)  :
    Runs full m c (fun _ L' => St full m c ⟨4, 4, 32, 1, 31, 27, 27, 0, 0⟩ L') 4 L
      (k0_part29 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v449 v461) := by
  rw [k0_part29_eq_skeleton]
  unfold k0_part29_skel
  dsimp only
  refine step_sent h 25 rfl (by decide) rfl _ _ _ _ _ _ _ _ fun L h => ?_
  refine step_recv h 25 rfl rfl rfl _ _ _ _ _ _ _ fun L h => ?_
  refine step_sent h 26 rfl (by decide) rfl _ _ _ _ _ _ _ _ fun L h => ?_
  refine step_recv h 26 rfl rfl rfl _ _ _ _ _ _ _ fun L h => ?_
  exact Plan.WP.ret _ _ _ h

theorem part30 (h : St full m c ⟨4, 4, 32, 1, 31, 27, 27, 0, 0⟩ L) (v473 : BitVec 32) (v485 : BitVec 32)  :
    Runs full m c (fun _ L' => St full m c ⟨4, 4, 32, 1, 31, 30, 29, 0, 0⟩ L') 5 L
      (k0_part30 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v473 v485) := by
  rw [k0_part30_eq_skeleton]
  unfold k0_part30_skel
  dsimp only
  refine step_sent h 27 rfl (by decide) rfl _ _ _ _ _ _ _ _ fun L h => ?_
  refine step_recv h 27 rfl rfl rfl _ _ _ _ _ _ _ fun L h => ?_
  refine step_sent h 28 rfl (by decide) rfl _ _ _ _ _ _ _ _ fun L h => ?_
  refine step_recv h 28 rfl rfl rfl _ _ _ _ _ _ _ fun L h => ?_
  refine step_sent h 29 rfl (by decide) rfl _ _ _ _ _ _ _ _ fun L h => ?_
  exact Plan.WP.ret _ _ _ h

theorem part31 (hf : ¬ full) :
    ∃ n, ∀ L, St full m c ⟨4, 4, 0, 0, 0, 0, 0, 0, 0⟩ L → Runs full m c (fun a L' => a.1 = c ∧ St full m c ⟨4, 4, 32, 1, 31, 31, 30, 0, 0⟩ L') n L (k0_part31 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2) := by
  rw [k0_part31_eq_skeleton]
  unfold k0_part31_skel
  refine ⟨13 + (16 + (14 + (16 + (13 + (3 + (2 + (3 + (2 + (3 + (3 + (2 + (3 + (2 + (3 + (3 + (3 + (4 + (5 + (4 + (5 + (4 + (4 + (5 + (4 + (5 + (4 + (5 + (4 + (5 + 2))))))))))))))))))))))))))))), fun L h => ?_⟩
  refine Plan.WP.bind (part1 h) ?_
  rintro ⟨d0, v2, v13, v30⟩ L ⟨hd, hp, hv, h⟩
  dsimp only at hd hp hv ⊢
  subst hd hp
  refine Plan.WP.bind (part2 h _ hv) ?_
  intro _ L h
  refine Plan.WP.bind (part3 h) ?_
  rintro v90 L ⟨hv, h⟩
  refine Plan.WP.bind (part4 h _ hv) ?_
  intro _ L h
  refine Plan.WP.bind (part5 h _) ?_
  rintro ⟨v149, c1_i32_78⟩ L h
  dsimp only
  refine Plan.WP.bind (part6 hf h _ _ _) ?_
  rintro ⟨v161, v173⟩ L h
  dsimp only
  refine Plan.WP.bind (part7 hf h _) ?_
  rintro ⟨v185, v197, v209⟩ L h
  dsimp only
  refine Plan.WP.bind (part8 hf h _) ?_
  rintro ⟨v221, v233, v245, c128_i32_146⟩ L h
  dsimp only
  refine Plan.WP.bind (part9 hf h _ _ _) ?_
  rintro ⟨v257, v269⟩ L h
  dsimp only
  refine Plan.WP.bind (part10 hf h _) ?_
  rintro ⟨v281, v293, v305, v307⟩ L h
  dsimp only
  refine Plan.WP.bind (part11 hf h _ _) ?_
  rintro ⟨v317, v329, c17_i32⟩ L h
  dsimp only
  refine Plan.WP.bind (part12 hf h _ _) ?_
  rintro ⟨v341, v353, v365⟩ L h
  dsimp only
  refine Plan.WP.bind (part13 hf h _) ?_
  rintro ⟨v377, v389, v401⟩ L h
  dsimp only
  refine Plan.WP.bind (part14 hf h _ _) ?_
  rintro ⟨v413, v425⟩ L h
  dsimp only
  refine Plan.WP.bind (part15 hf h _) ?_
  rintro ⟨v437, v449, v461, v463, c0_i32_312⟩ L h
  dsimp only
  refine Plan.WP.bind (part16 hf h _ _ _) ?_
  rintro ⟨v473, v485, v496⟩ L h
  dsimp only
  refine Plan.WP.bind (part17 hf h _ _ _) ?_
  rintro ⟨v497, v509, v525⟩ L h
  dsimp only
  refine Plan.WP.bind (part18 h _ _ _) ?_
  intro _ L h
  refine Plan.WP.bind (part19 h _ _) ?_
  intro _ L h
  refine Plan.WP.bind (part20 h _ _) ?_
  intro _ L h
  refine Plan.WP.bind (part21 h _ _) ?_
  intro _ L h
  refine Plan.WP.bind (part22 h _ _ _) ?_
  intro _ L h
  refine Plan.WP.bind (part23 h _ _) ?_
  intro _ L h
  refine Plan.WP.bind (part24 h _ _) ?_
  intro _ L h
  refine Plan.WP.bind (part25 h _ _) ?_
  intro _ L h
  refine Plan.WP.bind (part26 h _ _ _) ?_
  intro _ L h
  refine Plan.WP.bind (part27 h _ _ _) ?_
  intro _ L h
  refine Plan.WP.bind (part28 h _ _) ?_
  intro _ L h
  refine Plan.WP.bind (part29 h _ _) ?_
  intro _ L h
  refine Plan.WP.bind (part30 h _ _) ?_
  intro _ L h
  refine step_recv h 29 rfl rfl rfl _ _ _ _ _ _ _ fun L h => ?_
  refine step_sent h 30 rfl (by decide) rfl _ _ _ _ _ _ _ _ fun L h => ?_
  exact Plan.WP.ret 0 _ _ ⟨rfl, h⟩

theorem body_runs (hf : ¬ full) :
    ∃ n, ∀ L, St full m c ⟨4, 4, 0, 0, 0, 0, 0, 0, 0⟩ L → Runs full m c (fun _ L' => St full m c ⟨4, 4, 32, 1, 31, 31, 31, 0, 0⟩ L') n L (cc0_body (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2) := by
  rw [cc0_body_eq_skeleton]
  unfold cc0_body_skel
  obtain ⟨n, hn⟩ := part31 (m := m) (c := c) (h0 := h0) (h1 := h1) (h2 := h2) (h3 := h3) (h4 := h4) (h5 := h5) hf
  refine ⟨n + 1, fun L h => Plan.WP.bind (hn L h) ?_⟩
  rintro ⟨d0, v885⟩ L ⟨hd, h⟩
  dsimp only at hd ⊢
  subst hd
  refine step_recv h 30 rfl rfl rfl _ _ _ _ _ _ _ fun L h => ?_
  exact Plan.WP.ret 0 _ _ h

end Cert.KernelIdeal.Mesh

end
-- ==== Proof.Lift.lean ====
/- A device's run of the kernel's own labels is one of the whole program's. -/
module

public import proofs.«01_k».proof.Proof.Transfers
public import Idealize.ShloMosaic.Rules.Simple

@[expose] public section

noncomputable section

namespace Cert.Transfers

open Idealize.ShloMosaic Idealize.SL.Sem
open scoped Classical

/-- A program of a table's runs the same where that table's labels are some of another's. -/
theorem Plan.WP.lift {nD : Nat} {τ : Topo} {sig : RefSig} {Val : EltTy → Type} {Λ Λ' : Labels} {P : Plan nD τ sig Val}
    {d₀ : Defs nD τ sig Val Λ} {d : Defs nD τ sig Val (Λ.sum Λ')} (hd : ∀ ℓ a, d .tc (Labels.inl ℓ) a = TpuEff.inlProg (d₀ .tc ℓ a))
    {c : Dev nD} {α : Type} {Q : α → P.Local → Prop} {n : ℕ} {L : P.Local} {p : Prog (TpuEff nD τ sig Val Λ (Proc.tc : Proc τ)) α}
    (h : P.WP d₀ c Q n L p) : P.WP d c Q n L (TpuEff.inlProg p) := by
  induction h with
  | ret n L a h => exact .ret n L a h
  | load mr r h k _ ih => exact .load mr r h _ fun f hf => ih f hf
  | store mr r w M h hm k K hK hw _ ih => exact .store mr r w M h hm _ K hK hw ih
  | deviceId k _ ih => exact .deviceId _ ih
  | assume p dec k h _ ih => exact .assume p dec _ h ih
  | call ℓ a k _ ih =>
    rw [inlProg_bind] at ih
    refine .call (Labels.inl ℓ) a _ ?_
    rw [hd]
    exact ih
  | customCall ℓ a k h0 hi _ ih =>
    rw [inlProg_bind] at ih
    refine .customCall (Labels.inl ℓ) a _ h0 hi ?_
    rw [hd]
    exact ih
  | kernelExit k h1 hc _ ih => exact .kernelExit _ h1 hc ih
  | enqueue src tgt via sem hsrc hdst hsem k i hr ho hi h1 himpl hs hd _ ih =>
    exact .enqueue src tgt via sem hsrc hdst hsem _ i hr ho hi h1 himpl hs hd ih
  | waitD sem b s e hh k i hw hsem hcr hi h1 ho _ ih => exact .waitD sem b s e hh _ i hw hsem hcr hi h1 ho ih
  | waitS sem b s e hh k i hw hsem hcr hi ho _ ih => exact .waitS sem b s e hh _ i hw hsem hcr hi ho ih
  | signal c' sem k hb hne hs h1 _ ih => exact .signal c' sem _ hb hne hs h1 ih
  | semWait sem v k hb hv hp hs _ ih => exact .semWait sem v _ hb hv hp hs ih

end Cert.Transfers

end
-- ==== Proof.Launch.lean ====
/- The kernel's run on every device: its operands staged, its body, its result written back; and so, from any memory,
   what every execution of the program ends with. -/
module

public import proofs.«01_k».proof.Proof.Walk
public import proofs.«01_k».proof.Proof.Lift
public import proofs.«01_k».proof.Proof.Gen.KernelIdeal.Launch
public import proofs.«01_k».proof.Proof.Gen.KernelIdeal.Points

@[expose] public section

noncomputable section

namespace Cert.KernelIdeal.Mesh

open Idealize.ShloMosaic Idealize.ShloMosaic.TcCoe Idealize.SL.Sem
open Cert.Transfers Cert.KernelIdeal.Gen
open scoped Classical

variable {F : FTy → Type} [FloatOps F]

/-! ## Staging the operands and writing the result back -/

variable {full : Prop} {m : MemSt nD τ sig (Elt F)} {c : Dev nD} {Λ : Labels} {defs : Defs nD τ sig (Elt F) Λ} {α : Type}
  {Q : α → (plan full m).Local → Prop} {n : ℕ} {p : Pos} {L : (plan full m).Local}

theorem step_stage (h : St full m c p L) (k : Fin 4) (hki : p.ki = k.val) {sp sp' : Space} {s₀ : Shape} {e₀ : EltTy} {s : Shape} {e : EltTy}
    {src : Memref sig (Proc.tc : Proc τ).kind sp s₀ e₀} {mr : Memref sig (Proc.tc : Proc τ).kind sp' s e} {via : ReadAs (Elt F) s₀ e₀ s e}
    {sem : SemLoc sig} (hsrc hdst hsem) (kk)
    (himpl : ∀ b₀ st, (plan full m).Impl (.inp k c) (Dma.enqueued (c.tc : Thread nD τ) src.view (.here mr) via sem b₀ st))
    (hk : ∀ L', St full m c { p with ki := k.val + 1 } L' → (plan full m).WP defs c Q n L' (kk ⟨⟩)) :
    (plan full m).WP defs c Q (n + 1) L (.op (.enqueueDmaAs src (.here mr) via sem hsrc hdst hsem) kk) := by
  refine Plan.WP.enqueue (i := (Tr.inp k c : Tr)) _ _ _ _ _ _ _ _ rfl rfl ?_ h.stage himpl ?_ (.inl rfl) (hk _ ?_)
  · intro hi
    have := ((h.issued (.inp k c)).mp hi).2
    omega
  · rintro ⟨ℓ, y⟩ he
    obtain rfl : ℓ = _ := he
    exact h.kargs ⟨k, rfl⟩
  · refine { h with issued := fun i => ?_ }
    refine (Set.mem_insert_iff.trans (or_congr_right (h.issued i))).trans ?_
    cases i with
    | send d' c' => exact ⟨fun hh => hh.elim (fun e => nomatch e) id, .inr⟩
    | out c' => exact ⟨fun hh => hh.elim (fun e => nomatch e) id, .inr⟩
    | inp k' c' =>
      constructor
      · rintro (hh | ⟨hc, hlt⟩)
        · cases hh
          exact ⟨rfl, Nat.lt_succ_self _⟩
        · exact ⟨hc, by dsimp only; omega⟩
      · rintro ⟨rfl, hlt⟩
        by_cases hdd : k'.val = k.val
        · exact .inl (by rw [Fin.ext hdd])
        · exact .inr ⟨rfl, by dsimp only at hlt; omega⟩

theorem step_staged (h : St full m c p L) (k : Fin 4) (hko : p.ko = k.val) (hki : k.val < p.ki) {κ : Kind} {sem : DmaSem sig} {b : Ref sig κ}
    {s : Shape} {e : EltTy} (hh) (kk) (hsem : SemLoc.dma sem = (Tr.inp k c).semD) (hcr : b.dmaCredit s e = (Tr.inp k c).cr)
    (hk : ∀ L', St full m c { p with ko := k.val + 1 } L' → (plan full m).WP defs c Q n L' (kk ⟨⟩)) :
    (plan full m).WP defs c Q (n + 1) L (.op (.waitDma sem b s e hh) kk) := by
  refine Plan.WP.waitD (i := (Tr.inp k c : Tr)) _ _ _ _ _ _ rfl hsem.symm hcr ?_ h.stage ?_ (hk _ ?_)
  · intro hi
    have := ((h.wd (.inp k c)).mp hi).2
    omega
  · rw [if_pos (show (plan full m).owner (Tr.inp k c : Tr) = c from rfl)]
    exact (h.issued (.inp k c)).mpr ⟨rfl, hki⟩
  · refine { h with wd := fun i => ?_, kargs := h.kargs.trans Set.subset_union_left, kin := fun k' hk' y => ?_,
                    kscr := fun x hx => .inl (h.kscr x hx), kown := fun hp x hx => .inl (h.kown hp x hx),
                    krecv := fun hf d' hd' x hx => .inl (h.krecv hf d' hd' x hx), kout := fun hp x hx => .inl (h.kout hp x hx) }
    · refine (Set.mem_insert_iff.trans (or_congr_right (h.wd i))).trans ?_
      cases i with
      | send d' c' => exact ⟨fun hh => hh.elim (fun e => nomatch e) id, .inr⟩
      | out c' => exact ⟨fun hh => hh.elim (fun e => nomatch e) id, .inr⟩
      | inp k' c' =>
        constructor
        · rintro (hh | ⟨hc, hlt⟩)
          · cases hh
            exact ⟨rfl, Nat.lt_succ_self _⟩
          · exact ⟨hc, by dsimp only; omega⟩
        · rintro ⟨rfl, hlt⟩
          by_cases hdd : k'.val = k.val
          · exact .inl (by rw [Fin.ext hdd])
          · exact .inr ⟨rfl, by dsimp only at hlt; omega⟩
    · by_cases hdd : k'.val = k.val
      · obtain rfl := Fin.ext hdd
        refine .inr ⟨?_, ?_⟩
        · exact rfl
        · exact tracked_of_ne (c := c) (stgRef_ne_stg4 k') (stgRef_ne_v1 k') y
      · exact .inl (h.kin k' (by dsimp only at hk'; omega) y)

/-- Every other device is some number of devices before this one. -/
theorem exists_prev {c r : Dev nD} (hr : r ≠ c) : ∃ d : Fin 31, prev d c = r := by
  have hc : c.val < 32 := c.isLt
  have hr' : r.val < 32 := r.isLt
  have hne : r.val ≠ c.val := fun e => hr (Fin.ext e)
  refine ⟨⟨(c.val + 31 - r.val) % 32, by omega⟩, Fin.ext ?_⟩
  simp only [prev]
  omega

theorem step_write (h : St full m c p L) (hown : p.own = 1) (hr : p.r = 31) (hoi : p.oi = 0) {sp sp' : Space} {s₀ : Shape} {e₀ : EltTy} {s : Shape} {e : EltTy}
    {src : Memref sig (Proc.tc : Proc τ).kind sp s₀ e₀} {mr : Memref sig (Proc.tc : Proc τ).kind sp' s e} {via : ReadAs (Elt F) s₀ e₀ s e}
    {sem : SemLoc sig} (hsrc hdst hsem) (kk)
    (himpl : ∀ b₀ st, (plan full m).Impl (.out c) (Dma.enqueued (c.tc : Thread nD τ) src.view (.here mr) via sem b₀ st))
    (hk : ∀ L', St full m c { p with oi := 1 } L' → (plan full m).WP defs c Q n L' (kk ⟨⟩)) :
    (plan full m).WP defs c Q (n + 1) L (.op (.enqueueDmaAs src (.here mr) via sem hsrc hdst hsem) kk) := by
  refine Plan.WP.enqueue (i := (Tr.out c : Tr)) _ _ _ _ _ _ _ _ rfl rfl ?_ h.stage himpl ?_ (.inl rfl) (hk _ ?_)
  · intro hi
    have := ((h.issued (.out c)).mp hi).2
    omega
  · rintro ⟨ℓ, y⟩ ⟨he, ht⟩
    obtain rfl : ℓ = _ := he
    by_cases hy : rowDev y = c
    · exact h.kown (by omega) y hy
    · obtain ⟨d, hd⟩ := exists_prev hy
      exact h.krecv ((tracked_row.mp ht).resolve_right hy) d (by rw [hr]; exact d.isLt) y hd.symm
  · refine { h with issued := fun i => ?_ }
    refine (Set.mem_insert_iff.trans (or_congr_right (h.issued i))).trans ?_
    cases i with
    | send d' c' => exact ⟨fun hh => hh.elim (fun e => nomatch e) id, .inr⟩
    | inp k' c' => exact ⟨fun hh => hh.elim (fun e => nomatch e) id, .inr⟩
    | out c' =>
      constructor
      · rintro (hh | ⟨hc, hlt⟩)
        · cases hh
          exact ⟨rfl, Nat.one_pos⟩
        · exact ⟨hc, Nat.one_pos⟩
      · rintro ⟨rfl, _⟩
        exact .inl rfl

theorem step_written (h : St full m c p L) (hoi : p.oi = 1) (how : p.ow = 0) {κ : Kind} {sem : DmaSem sig} {b : Ref sig κ}
    {s : Shape} {e : EltTy} (hh) (kk) (hsem : SemLoc.dma sem = (Tr.out c).semD) (hcr : b.dmaCredit s e = (Tr.out c).cr)
    (hk : ∀ L', St full m c { p with ow := 1 } L' → (plan full m).WP defs c Q n L' (kk ⟨⟩)) :
    (plan full m).WP defs c Q (n + 1) L (.op (.waitDma sem b s e hh) kk) := by
  refine Plan.WP.waitD (i := (Tr.out c : Tr)) _ _ _ _ _ _ rfl hsem.symm hcr ?_ h.stage ?_ (hk _ ?_)
  · intro hi
    have := ((h.wd (.out c)).mp hi).2
    omega
  · rw [if_pos (show (plan full m).owner (Tr.out c : Tr) = c from rfl)]
    exact (h.issued (.out c)).mpr ⟨rfl, by omega⟩
  · refine { h with wd := fun i => ?_, kargs := h.kargs.trans Set.subset_union_left, kin := fun k' hk' y => .inl (h.kin k' hk' y),
                    kscr := fun x hx => .inl (h.kscr x hx), kown := fun hp x hx => .inl (h.kown hp x hx),
                    krecv := fun hf d' hd' x hx => .inl (h.krecv hf d' hd' x hx), kout := fun hp x hx => .inr ⟨rfl, tracked_out.mpr hx⟩ }
    refine (Set.mem_insert_iff.trans (or_congr_right (h.wd i))).trans ?_
    cases i with
    | send d' c' => exact ⟨fun hh => hh.elim (fun e => nomatch e) id, .inr⟩
    | inp k' c' => exact ⟨fun hh => hh.elim (fun e => nomatch e) id, .inr⟩
    | out c' =>
      constructor
      · rintro (hh | ⟨hc, hlt⟩)
        · cases hh
          exact ⟨rfl, Nat.one_pos⟩
        · exact ⟨hc, Nat.one_pos⟩
      · rintro ⟨rfl, _⟩
        exact .inl rfl

/-! ## The whole kernel -/

/-- What has been done at the kernel's entry, -/
theorem st_enter : St full m c ⟨0, 0, 0, 0, 0, 0, 0, 0, 0⟩ (Plan.Local.start (P := plan full m) c).enter where
  stage := rfl
  issued i := by cases i <;> exact ⟨fun h => h.elim, fun h => absurd h.2 (Nat.not_lt_zero _)⟩
  wd i := by cases i <;> exact ⟨fun h => h.elim, fun h => absurd h.2 (Nat.not_lt_zero _)⟩
  ws i := by
    cases i with
    | send d c' => exact ⟨fun h => h.elim, fun h => absurd h.2 (Nat.not_lt_zero _)⟩
    | inp k c' => exact ⟨fun h => h.elim, fun h => h.elim⟩
    | out c' => exact ⟨fun h => h.elim, fun h => h.elim⟩
  kargs e he := ⟨he, args_unscoped e he⟩
  kin k hk := absurd hk (Nat.not_lt_zero _)
  kscr x hx := absurd hx (Nat.not_lt_zero _)
  kown h := absurd h (Nat.not_lt_zero _)
  krecv _ d hd := absurd hd (Nat.not_lt_zero _)
  kout h := absurd h (Nat.not_lt_zero _)

/-- at its exit, -/
theorem complete (h : St full m c ⟨4, 4, 32, 1, 31, 31, 31, 1, 1⟩ L) : L.Complete c where
  sent hb := absurd rfl hb
  passed hb := absurd rfl hb
  issued j hj := by
    refine (h.issued j).mpr ?_
    cases j with
    | inp k c' => exact ⟨hj, k.isLt⟩
    | send d c' => exact ⟨hj, d.isLt⟩
    | out c' => exact ⟨hj, Nat.one_pos⟩
  wd j hj := by
    refine (h.wd j).mpr ?_
    cases j with
    | inp k c' => exact ⟨hj, k.isLt⟩
    | send d c' => exact ⟨peer_inj (hj.trans (peer_prev d c).symm), d.isLt⟩
    | out c' => exact ⟨hj, Nat.one_pos⟩
  ws j hj hs := by
    refine (h.ws j).mpr ?_
    cases j with
    | inp k c' => exact absurd rfl hs
    | send d c' => exact ⟨hj, d.isLt⟩
    | out c' => exact absurd rfl hs

theorem v1_unscoped : main_v1.isScoped = false := by decide

/-- and after it. -/
theorem done (h : St full m c ⟨4, 4, 32, 1, 31, 31, 31, 1, 1⟩ L) : L.leave.Done c where
  toComplete := ⟨(complete h).sent, (complete h).passed, (complete h).issued, (complete h).wd, (complete h).ws⟩
  goal e he := by
    rcases he with he | ⟨x, hx, rfl⟩
    · exact ⟨h.kargs he, args_unscoped e he⟩
    · refine ⟨h.kout Nat.one_pos x hx, fun hs => ?_⟩
      have h := (mem_scopedRefs.mp hs).2
      rw [Proc.isScoped_devRef, v1_unscoped] at h
      cases h

/-- With no grid the kernel's steps are its operands' staging, its body and its result's write-back. -/
theorem runAt_eq (a : (pcfgs (F := F) 0).Adm) :
    (((pcfgs (F := F) 0).at a).runAt (nD := nD) (τ := τ) (0 : Fin 1) a : Prog (TpuEff nD τ sig (Elt F) (Pipeline.Sig Λ₀ (Fin 1) fun p => (pcfgs (F := F) p).Adm) Proc.tc) PUnit) =
      .op (cfg0.startIn (0 : Fin 5) t0_0) fun _ => .op (cfg0.startIn (1 : Fin 5) t0_0) fun _ =>
      .op (cfg0.startIn (2 : Fin 5) t0_0) fun _ => .op (cfg0.startIn (3 : Fin 5) t0_0) fun _ =>
      .op (cfg0.waitIn (0 : Fin 5) t0_0) fun _ => .op (cfg0.waitIn (1 : Fin 5) t0_0) fun _ =>
      .op (cfg0.waitIn (2 : Fin 5) t0_0) fun _ => .op (cfg0.waitIn (3 : Fin 5) t0_0) fun _ =>
      .op (.call (Pipeline.kernel cfg0.body) (cfg0.bodyArgs t0_0 (cfg0.slots t0_0))) fun _ =>
      .op (cfg0.startOut (4 : Fin 5) t0_0) fun _ => .op (cfg0.waitOut (4 : Fin 5) t0_0) fun _ => .ret ⟨⟩ := by
  rfl

/-- The kernel's entry runs those steps, from whatever its tables are (there are none). -/
theorem entry_eq : ∃ (q : Prop) (d : Decidable q) (a : PLift q → (pcfgs (F := F) 0).Adm), q ∧
    KernelIdeal.defs (F := F) .tc (Pipeline.entry 0) () =
      .op (.assume q d) fun h => ((pcfgs (F := F) 0).at (a h)).runAt (nD := nD) (τ := τ) (0 : Fin 1) (a h) :=
  ⟨_, _, fun h => ⟨_, h.down⟩, trivial, rfl⟩

theorem credit_in0 (c : Dev nD) : ((cfg0.win (0 : Fin 5)).stg t0_0 (cfg0.slots t0_0 (0 : Fin 5))).view.ref.dmaCredit ((cfg0.win (0 : Fin 5)).xblock (cfg0.grid.coords t0_0)) (cfg0.win (0 : Fin 5)).elt =
    (Tr.inp 0 c).cr := by
  refine Eq.trans (b := (stgRef 0).dmaCredit (stgRef 0).ty.shape (stgRef 0).ty.elt) ?_ ?_
  · decide
  · rw [Tr.cr]

theorem credit_in1 (c : Dev nD) : ((cfg0.win (1 : Fin 5)).stg t0_0 (cfg0.slots t0_0 (1 : Fin 5))).view.ref.dmaCredit ((cfg0.win (1 : Fin 5)).xblock (cfg0.grid.coords t0_0)) (cfg0.win (1 : Fin 5)).elt =
    (Tr.inp 1 c).cr := by
  refine Eq.trans (b := (stgRef 1).dmaCredit (stgRef 1).ty.shape (stgRef 1).ty.elt) ?_ ?_
  · decide
  · rw [Tr.cr]

theorem credit_in2 (c : Dev nD) : ((cfg0.win (2 : Fin 5)).stg t0_0 (cfg0.slots t0_0 (2 : Fin 5))).view.ref.dmaCredit ((cfg0.win (2 : Fin 5)).xblock (cfg0.grid.coords t0_0)) (cfg0.win (2 : Fin 5)).elt =
    (Tr.inp 2 c).cr := by
  refine Eq.trans (b := (stgRef 2).dmaCredit (stgRef 2).ty.shape (stgRef 2).ty.elt) ?_ ?_
  · decide
  · rw [Tr.cr]

theorem credit_in3 (c : Dev nD) : ((cfg0.win (3 : Fin 5)).stg t0_0 (cfg0.slots t0_0 (3 : Fin 5))).view.ref.dmaCredit ((cfg0.win (3 : Fin 5)).xblock (cfg0.grid.coords t0_0)) (cfg0.win (3 : Fin 5)).elt =
    (Tr.inp 3 c).cr := by
  refine Eq.trans (b := (stgRef 3).dmaCredit (stgRef 3).ty.shape (stgRef 3).ty.elt) ?_ ?_
  · decide
  · rw [Tr.cr]

theorem credit_out (c : Dev nD) : ((cfg0.win (4 : Fin 5)).blk t0_0).view.ref.dmaCredit ((cfg0.win (4 : Fin 5)).xblock (cfg0.grid.coords t0_0)) (cfg0.win (4 : Fin 5)).elt =
    (Tr.out c).cr := by
  refine Eq.trans (b := main_v1.dmaCredit S4096x64 .f32) ?_ ?_
  · decide
  · rw [Tr.cr]

/-- A device's program, from its start to its end. -/
theorem main_runs (hf : ¬ full) (m : MemSt nD τ sig (Elt F)) (c : Dev nD) :
    ∃ n, (plan full m).WP (KernelIdeal.defs (F := F)) c (fun _ L => L.Done c) n (Plan.Local.start c) (main (F := F) c) := by
  obtain ⟨n, hn⟩ := body_runs (m := m) (c := c) (h0 := hstage0_0 0) (h1 := hstage0_1 0) (h2 := hstage0_2 0) (h3 := hstage0_3 0) (h4 := hstage0_4 0)
    (h5 := Memref.isWhole_whole _) hf
  obtain ⟨q, d, a, hq, he⟩ := entry_eq (F := F)
  refine ⟨((n + 3) + 10) + 2, ?_⟩
  refine Plan.WP.customCall _ _ _ rfl rfl ?_
  rw [he]
  refine Plan.WP.assume _ _ _ hq ?_
  refine Plan.WP.bind (R := fun _ L => St full m c ⟨4, 4, 32, 1, 31, 31, 31, 1, 1⟩ L) (n := n + 12) (m := 1) ?_ ?_
  · beta_reduce
    rw [runAt_eq]
    refine step_stage st_enter 0 rfl _ _ _ _ (impl_in0 full m c t0_0) fun L h => ?_
    refine step_stage h 1 rfl _ _ _ _ (impl_in1 full m c t0_0) fun L h => ?_
    refine step_stage h 2 rfl _ _ _ _ (impl_in2 full m c t0_0) fun L h => ?_
    refine step_stage h 3 rfl _ _ _ _ (impl_in3 full m c t0_0) fun L h => ?_
    refine step_staged h 0 rfl (by decide) _ _ rfl (credit_in0 c) fun L h => ?_
    refine step_staged h 1 rfl (by decide) _ _ rfl (credit_in1 c) fun L h => ?_
    refine step_staged h 2 rfl (by decide) _ _ rfl (credit_in2 c) fun L h => ?_
    refine step_staged h 3 rfl (by decide) _ _ rfl (credit_in3 c) fun L h => ?_
    refine Plan.WP.call _ _ _ ?_
    refine Plan.WP.bind (n := n) (m := 3) (Plan.WP.lift (fun _ _ => rfl) (hn L h)) fun _ L h => ?_
    refine step_write h rfl rfl rfl _ _ _ _ (impl_out full m c t0_0) fun L h => ?_
    refine step_written h rfl rfl _ _ rfl (credit_out c) fun L h => ?_
    exact Plan.WP.ret _ _ _ h
  · intro _ L h
    exact Plan.WP.kernelExit _ h.stage (complete h) (Plan.WP.ret _ _ _ (done h))

/-- From any memory, every execution ends with the operands unchanged, each device's own rows of its result right, and
    every counter at zero. -/
theorem run_main (m : MemSt nD τ sig (Elt F)) (hm : m.sem = fun _ => 0) :
    θ_run (KernelIdeal.defs (F := F)) (onTc main) m fun r =>
      (∀ c e, e ∈ args ∪ outs False c → (plan False m).Good r.2 (e.at c)) ∧ r.2.sem = fun _ => 0 := by
  have hn : ∀ c, ∃ n, (plan False m).WP (KernelIdeal.defs (F := F)) c (fun _ L => L.Done c) n (Plan.Local.start c) (main (F := F) c) :=
    fun c => main_runs not_false m c
  choose n hn using hn
  refine Plan.run (P := plan False m) hm ?_ n hn ?_
  · rintro c ⟨b, y⟩ ⟨k, hk⟩
    cases hk
    fin_cases k <;> rfl
  · rintro ⟨d, _ | _ | _⟩ ht
    · exact absurd rfl ht
    · rfl
    · rfl

end Cert.KernelIdeal.Mesh

end
-- ==== Proof.Product.lean ====
/- Products of int8 matrices at the ideal values: the kernel's integer product where its magnitudes total less than 2²⁴,
   the reference's float product, and what the condition on the magnitudes says. -/
module

public import Idealize.ShloMosaic.Lib.IntMxu
public import Idealize.ShloMosaic.Lib.ValueIdx
public import Idealize.ShloMosaic.Lib.Pointwise
public import Idealize.ShloMosaic.Lib.IdealHost

@[expose] public section

noncomputable section

namespace Cert.Product

open Idealize.ShloMosaic

/-- A matrix product's sum, by the coordinate summed over. -/
theorem sum_plain {M : Type} [AddCommMonoid M] {a k b : ℕ} (f : (⟨2, ![a, k]⟩ : Shape).Idx → (⟨2, ![k, b]⟩ : Shape).Idx → M)
    (j : (⟨2, ![a, b]⟩ : Shape).Idx) :
    (∑ q : (DotDims.plain a k b).contr.Idx, f ((DotDims.plain a k b).lhsIdx j q) ((DotDims.plain a k b).rhsIdx j q)) =
      ∑ i : Fin k, f (ix2 (j 0) i) (ix2 i (j 1)) := by
  rw [DotDims.sum_contr₁ (d := DotDims.plain a k b) (a := 1) rfl (K := k) rfl]
  refine Finset.sum_congr rfl fun i _ => congrArg₂ f ?_ ?_
  · funext ax
    match ax with
    | ⟨0, _⟩ => rfl
    | ⟨1, _⟩ => rfl
  · funext ax
    match ax with
    | ⟨0, _⟩ => rfl
    | ⟨1, _⟩ => rfl

/-- Each product's magnitude, totalled. -/
def total {k : ℕ} (a b : Fin k → BitVec 8) : ℕ := ∑ i, ((a i).toInt * (b i).toInt).natAbs

/-- The exact sum of the products. -/
def dot {k : ℕ} (a b : Fin k → BitVec 8) : ℤ := ∑ i, (a i).toInt * (b i).toInt

/-- Where the magnitudes total less than 2²⁴ an element of the integer product is the exact sum. -/
theorem matmul_toInt {a k b : ℕ} (x : IVec ⟨2, ![a, k]⟩ 8) (w : IVec ⟨2, ![k, b]⟩ 8) (z : IVec ⟨2, ![a, b]⟩ 32) (j : (⟨2, ![a, b]⟩ : Shape).Idx)
    (hz : z j = 0) (h : total (fun i : Fin k => x (ix2 (j 0) i)) (fun i => w (ix2 i (j 1))) ≤ 2 ^ 24 - 1) :
    (matmulI8 IntMxuNumerics.v7x (DotDims.plain a k b) x w z j).toInt = dot (fun i : Fin k => x (ix2 (j 0) i)) (fun i => w (ix2 i (j 1))) := by
  rw [matmulI8_toInt _ _ _ _ _ _ hz]
  · exact sum_plain (fun p q => (x p).toInt * (w q).toInt) j
  · refine le_trans (le_of_eq ?_) h
    exact sum_plain (fun p q => ((x p).toInt * (w q).toInt).natAbs) j

theorem toInt_extend : ∀ x : BitVec 8, (x.signExtend 32).toInt = x.toInt := by decide
theorem toInt_abs_extend : ∀ x : BitVec 8, (IntOp.absi (x.signExtend 32)).toInt = (x.toInt.natAbs : ℤ) := by decide

theorem coe_sum {k : ℕ} (f : Fin k → ℝ) : ((∑ i, f i : ℝ) : EReal) = ∑ i, ((f i : ℝ) : EReal) :=
  map_sum (⟨⟨Real.toEReal, rfl⟩, EReal.coe_add⟩ : ℝ →+ EReal) f Finset.univ

/-- The exact sum of the products is the sum of the products, each factor read as a float. -/
theorem coe_dot {k : ℕ} (a b : Fin k → BitVec 8) :
    ((dot a b : ℝ) : EReal) = ∑ i, ((((a i).signExtend 32).toInt : ℝ) : EReal) * ((((b i).signExtend 32).toInt : ℝ) : EReal) := by
  simp only [dot, toInt_extend, ← EReal.coe_mul, ← coe_sum]
  push_cast
  rfl

/-- The sum of the products of the factors' magnitudes is the total. -/
theorem coe_total {k : ℕ} (a b : Fin k → BitVec 8) :
    ∑ i, (((IntOp.absi ((a i).signExtend 32)).toInt : ℝ) : EReal) * (((IntOp.absi ((b i).signExtend 32)).toInt : ℝ) : EReal) =
      ((total a b : ℝ) : EReal) := by
  simp only [total, toInt_abs_extend, ← EReal.coe_mul, ← coe_sum, Int.natAbs_mul]
  push_cast
  simp only [Nat.cast_natAbs, Int.cast_abs]

/-- The bound the condition compares with. -/
theorem ofBits_bound : Ideal.ofBits .f32 0x4B7FFFFF#32 = ((16777215 : ℝ) : EReal) := by
  simp [Ideal.ofBits, Ideal.ieee, -EReal.coe_mul]

/-- The condition bounds the total. -/
theorem total_le {k : ℕ} {a b : Fin k → BitVec 8}
    (h : Ideal.cmp .ole (∑ i, (((IntOp.absi ((a i).signExtend 32)).toInt : ℝ) : EReal) * (((IntOp.absi ((b i).signExtend 32)).toInt : ℝ) : EReal))
      (Ideal.ofBits .f32 0x4B7FFFFF#32) = 1#1) : total a b ≤ 2 ^ 24 - 1 := by
  rw [coe_total, ofBits_bound] at h
  have h' : ((total a b : ℝ) : EReal) ≤ ((16777215 : ℝ) : EReal) := by
    by_contra hn
    simp only [Ideal.cmp, decide_eq_false hn] at h
    exact absurd h (by decide)
  have h'' : (total a b : ℝ) ≤ 16777215 := EReal.coe_le_coe_iff.mp h'
  exact_mod_cast h''

/-- The host's float product, by the coordinate summed over. -/
theorem host_dot {a k b : ℕ} (x : FVec Ideal ⟨2, ![a, k]⟩ .f32) (w : FVec Ideal ⟨2, ![k, b]⟩ .f32) (j : (⟨2, ![a, b]⟩ : Shape).Idx) :
    Host.dotGeneral (DotDims.plain a k b) none x w j = ∑ i : Fin k, (x (ix2 (j 0) i) * w (ix2 i (j 1)) : EReal) := by
  refine (Ideal.dotGeneral_apply _ _ _ x w j).trans ?_
  exact sum_plain (M := EReal) (fun p q => x p * w q) j

end Cert.Product

end
-- ==== Proof.Reference.lean ====
/- The reference's result at the ideal values, element by element. -/
module

public import proofs.«01_k».proof.Proof.Product
public import proofs.«01_k».proof.Proof.Gen.ReferenceIdeal.Run

@[expose] public section

noncomputable section

namespace Cert.ReferenceIdeal.Value

open Idealize.ShloMosaic Idealize.ShloMosaic.TcCoe
open Cert.Product Cert.ReferenceIdeal.Gen

/-- The one index of an array of one element. -/
def one : S1.Idx := Shape.Idx.first (by decide : 0 < S1.numel)

theorem eq_one (i : S1.Idx) : i = one := by
  funext q
  match q with
  | ⟨0, _⟩ => exact Subsingleton.elim (α := Fin 1) _ _

/-- The reference's result, of its arguments. -/
abbrev term (x : IVec S4096x4096 8) (w : IVec S4096x2048 8) (a b : FVec Ideal S1 .f32) : FVec Ideal S4096x2048 .f32 :=
  mulf (Host.dotGeneral dot_S4096x4096_S4096x2048_S4096x2048_1_0_0_1_n_n none (sitofp .f32 (extsi 32 x natLt_8_32)) (sitofp .f32 (extsi 32 w natLt_8_32)))
    (broadcastInDim S4096x2048 ![0, 1] bcast_S1x1_S4096x2048_0_1 (broadcastInDim S1x1 ![1] bcast_S1_S1x1_1 (mulf a b)))

theorem term_eq (x : IVec S4096x4096 8) (w : IVec S4096x2048 8) (a b : FVec Ideal S1 .f32) (j : S4096x2048.Idx) :
    term x w a b j =
      ((dot (fun i : Fin 4096 => x (ix2 (j 0) i)) (fun i => w (ix2 i (j 1))) : ℝ) : EReal) * ((a one : EReal) * (b one : EReal)) := by
  have hd := host_dot (a := 4096) (k := 4096) (b := 2048) (sitofp .f32 (extsi 32 x natLt_8_32)) (sitofp .f32 (extsi 32 w natLt_8_32)) j
  rw [coe_dot]
  refine congrArg₂ (fun p q : EReal => p * q) hd ?_
  exact congrArg (fun i => (a i * b i : EReal)) (eq_one _)

end Cert.ReferenceIdeal.Value

end
-- ==== Proof.Values.lean ====
/- What the kernel's result is at the ideal values: the reference's, where the magnitudes of an element's products total
   less than 2²⁴. -/
module

public import proofs.«01_k».proof.Proof.Plan
public import proofs.«01_k».proof.Proof.Reference
public import Idealize.ShloMosaic.Lib.Layout
public import Idealize.ShloMosaic.Lib.Pipeline.Value

@[expose] public section

noncomputable section

namespace Cert.KernelIdeal.Mesh

open Idealize.ShloMosaic Idealize.ShloMosaic.TcCoe
open Cert.Product

/-- An element of a device's scaled product. -/
theorem pay_eq (x : Vec Ideal S128x4096 .i8) (w : Vec Ideal S4096x2048 .i8) (a b : Elt Ideal .f32) (j : S128x2048.Idx)
    (h : total (fun i : Fin 4096 => x (Idealize.ShloMosaic.ix2 (j 0) i)) (fun i => w (Idealize.ShloMosaic.ix2 i (j 1))) ≤ 2 ^ 24 - 1) :
    Gen.k0_pay1 (F := Ideal) x w a b j =
      ((dot (fun i : Fin 4096 => x (Idealize.ShloMosaic.ix2 (j 0) i)) (fun i => w (Idealize.ShloMosaic.ix2 i (j 1))) : ℝ) : EReal) * ((a : EReal) * (b : EReal)) := by
  have hm := matmul_toInt x w (constantI S128x2048 32 0#32) j rfl h
  rw [← hm]
  unfold Gen.k0_pay1
  rw [shapeCast_self, shapeCast_self]
  rfl

theorem whole_lt (c : Dev nD) (x : S4096x64.Idx) : 64 * c.val + (x 1).val < 2048 := by
  have h0 : c.val < 32 := c.isLt
  have h1 : (x 1).val < 64 := (x 1).isLt
  omega

/-- How a device's columns lie in the whole result. -/
theorem tiles : Layout.Tiles ⟨2, ![4096, 64]⟩ ⟨2, ![4096, 2048]⟩ 1 32 := by decide

/-- Where element `x` of device `c`'s columns is in the whole result. -/
abbrev whole (c : Dev nD) (x : S4096x64.Idx) : ReferenceIdeal.S4096x2048.Idx := tiles.idx c x

/-- Device `c`'s columns of the whole product are the reference's, where the magnitudes total less than 2²⁴. -/
theorem res_eq (m : MemSt nD τ sig (Elt Ideal)) (c : Dev nD) (X : IVec ReferenceIdeal.S4096x4096 8) (W : IVec S4096x2048 8) (a b : FVec Ideal S1 .f32)
    (h0 : ∀ d : Dev nD, m.mem (d.tc.loc main_arg0) = Layout.block ⟨2, ![128, 4096]⟩ ⟨2, ![4096, 4096]⟩ 0 32 d X)
    (h1 : ∀ d : Dev nD, m.mem (d.tc.loc main_arg1) = W) (h2 : ∀ d : Dev nD, m.mem (d.tc.loc main_arg2) = a) (h3 : ∀ d : Dev nD, m.mem (d.tc.loc main_arg3) = b)
    (x : S4096x64.Idx)
    (h : total (fun i : Fin 4096 => X (Idealize.ShloMosaic.ix2 (whole c x 0) i)) (fun i => W (Idealize.ShloMosaic.ix2 i (whole c x 1))) ≤ 2 ^ 24 - 1) :
    res m c x = ReferenceIdeal.Value.term X W a b (whole c x) := by
  have hx : ∀ (i : Fin 4096) (hr), (m.mem ((rowDev x).tc.loc main_arg0) : Vec Ideal S128x4096 .i8) (Idealize.ShloMosaic.ix2 ⟨(x 0).val % 128, hr⟩ i) =
      X (Idealize.ShloMosaic.ix2 (whole c x 0) i) := by
    intro i hr
    rw [h0]
    refine congrArg X (funext fun q => Fin.ext ?_)
    match q with
    | ⟨0, _⟩ => exact Nat.div_add_mod' _ _
    | ⟨1, _⟩ => rfl
  have hw : ∀ (i : Fin 4096) (hc), (m.mem ((rowDev x).tc.loc main_arg1) : Vec Ideal S4096x2048 .i8) (Idealize.ShloMosaic.ix2 i ⟨64 * c.val + (x 1).val, hc⟩) =
      W (Idealize.ShloMosaic.ix2 i (whole c x 1)) := by
    intro i hc
    rw [h1]
    refine congrArg W (funext fun q => Fin.ext ?_)
    match q with
    | ⟨0, _⟩ => rfl
    | ⟨1, _⟩ => exact congrArg (· + (x 1).val) (Nat.mul_comm _ _)
  have hp := pay_eq (m.mem ((rowDev x).tc.loc main_arg0)) (m.mem ((rowDev x).tc.loc main_arg1)) (m.mem ((rowDev x).tc.loc main_arg2) one)
    (m.mem ((rowDev x).tc.loc main_arg3) one)
    (Idealize.ShloMosaic.ix2 ⟨(x 0).val % 128, Nat.mod_lt _ (by decide)⟩ ⟨64 * c.val + (x 1).val, (whole_lt c x)⟩)
    (by
      refine le_trans (le_of_eq ?_) h
      exact congrArg₂ total (funext fun i => hx i _) (funext fun i => hw i _))
  refine Eq.trans ?_ (ReferenceIdeal.Value.term_eq X W a b (whole c x)).symm
  have hres : res m c x = Gen.k0_pay1 (m.mem ((rowDev x).tc.loc main_arg0)) (m.mem ((rowDev x).tc.loc main_arg1)) (m.mem ((rowDev x).tc.loc main_arg2) one)
      (m.mem ((rowDev x).tc.loc main_arg3) one) (Idealize.ShloMosaic.ix2 ⟨(x 0).val % 128, Nat.mod_lt _ (by decide)⟩ ⟨64 * c.val + (x 1).val, (whole_lt c x)⟩) :=
    congrArg (pay m (rowDev x)) (funext fun q => match q with
      | ⟨0, _⟩ => Fin.ext rfl
      | ⟨1, _⟩ => Fin.ext rfl)
  rw [hres]
  refine Eq.trans hp ?_
  refine congrArg₂ (fun p q : EReal => p * q) ?_ ?_
  · refine congrArg (fun z : ℤ => ((z : ℝ) : EReal)) ?_
    exact congrArg₂ dot (funext fun i => hx i _) (funext fun i => hw i _)
  · rw [h2, h3]
    exact congrArg (fun i => (a i * b i : EReal)) (ReferenceIdeal.Value.eq_one _)

end Cert.KernelIdeal.Mesh

end
-- ==== Proof.Mask.lean ====
/- What the mask says of an element that it names: the element is of the block of rows that its own device computes, and
   the magnitudes of its products total less than 2²⁴. -/
module

public import proofs.«01_k».proof.Proof.Product
public import proofs.«01_k».proof.Proof.Gen.On_exact_own_blocks

@[expose] public section

noncomputable section

namespace Cert.On_exact_own_blocks

open Idealize.ShloMosaic
open Cert.Product

theorem and_one {p q : BitVec 1} (h : p &&& q = 1#1) : p = 1#1 ∧ q = 1#1 := by
  revert p q
  decide

/-- The two comparisons. -/
theorem fn_parts (X : IVec S4096x4096 8) (W : IVec S4096x2048 8) (a b : FVec Ideal S1 .f32) (j : S4096x2048.Idx) (h : fn X W a b j = 1#1) :
    cmpi .eq (Host.shrui (iotaInDim S4096x2048 32 0) (broadcastInDim S4096x2048 ![] Facts.bcast_S_S4096x2048 (constantI S_ 32 7#32)))
        (Host.shrui (iotaInDim S4096x2048 32 1) (broadcastInDim S4096x2048 ![] Facts.bcast_S_S4096x2048 (constantI S_ 32 6#32))) j = 1#1 ∧
      cmpf (F := Ideal) .ole (Host.dotGeneral dot_S4096x4096_S4096x2048_S4096x2048_1_0_0_1_n_n none (sitofp .f32 (absi (extsi 32 X Facts.natLt_8_32)))
        (sitofp .f32 (absi (extsi 32 W Facts.natLt_8_32)))) (broadcastInDim S4096x2048 ![] Facts.bcast_S_S4096x2048 (constant S_ .f32 0x4B7FFFFF#32)) j = 1#1 :=
  and_one h

/-- An element that the mask names is of its own device's block of rows. -/
theorem fn_own (X : IVec S4096x4096 8) (W : IVec S4096x2048 8) (a b : FVec Ideal S1 .f32) (j : S4096x2048.Idx) (h : fn X W a b j = 1#1) :
    (j 0).val / 128 = (j 1).val / 64 := by
  have h1 : BitVec.ofBool (BitVec.ofNat 32 (j 0).val >>> 7#32 == BitVec.ofNat 32 (j 1).val >>> 6#32) = 1#1 := (fn_parts X W a b j h).1
  have h0 : (j 0).val < 4096 := (j 0).isLt
  have h2 : (j 1).val < 2048 := (j 1).isLt
  have h3 : BitVec.ofNat 32 (j 0).val >>> 7#32 = BitVec.ofNat 32 (j 1).val >>> 6#32 := by
    by_contra hn
    rw [beq_eq_false_iff_ne.2 hn] at h1
    exact absurd h1 (by decide)
  have h4 := congrArg BitVec.toNat h3
  rw [BitVec.ushiftRight_eq', BitVec.ushiftRight_eq', BitVec.toNat_ushiftRight, BitVec.toNat_ushiftRight, BitVec.toNat_ofNat, Nat.mod_eq_of_lt (by omega),
    BitVec.toNat_ofNat (j 1).val, Nat.mod_eq_of_lt (by omega), Nat.shiftRight_eq_div_pow, Nat.shiftRight_eq_div_pow] at h4
  exact h4

theorem cmpf_at {s : Shape} (x y : FVec Ideal s .f32) (j : s.Idx) : cmpf (F := Ideal) .ole x y j = Ideal.cmp .ole (x j : EReal) (y j : EReal) := rfl

theorem const_at (t : BitVec 32) (j : S4096x2048.Idx) :
    (broadcastInDim S4096x2048 ![] Facts.bcast_S_S4096x2048 (constant S_ .f32 t : FVec Ideal S_ .f32)) j = Ideal.ofBits .f32 t := rfl

/-- The second comparison at an element, of any bound. -/
theorem cmp_at (X : IVec S4096x4096 8) (W : IVec S4096x2048 8) (t : BitVec 32) (j : S4096x2048.Idx) :
    cmpf (F := Ideal) .ole (Host.dotGeneral dot_S4096x4096_S4096x2048_S4096x2048_1_0_0_1_n_n none (sitofp .f32 (absi (extsi 32 X Facts.natLt_8_32)))
        (sitofp .f32 (absi (extsi 32 W Facts.natLt_8_32)))) (broadcastInDim S4096x2048 ![] Facts.bcast_S_S4096x2048 (constant S_ .f32 t)) j =
      Ideal.cmp .ole (∑ i : Fin 4096, (((IntOp.absi ((X (ix2 (j 0) i)).signExtend 32)).toInt : ℝ) : EReal) *
        (((IntOp.absi ((W (ix2 i (j 1))).signExtend 32)).toInt : ℝ) : EReal)) (Ideal.ofBits .f32 t) := by
  have hd := host_dot (a := 4096) (k := 4096) (b := 2048) (sitofp .f32 (absi (extsi 32 X Facts.natLt_8_32))) (sitofp .f32 (absi (extsi 32 W Facts.natLt_8_32))) j
  exact (cmpf_at _ _ j).trans (congrArg₂ (fun p q : EReal => Ideal.cmp .ole p q) hd (const_at t j))

/-- The magnitudes of its products total less than 2²⁴. -/
theorem fn_total (X : IVec S4096x4096 8) (W : IVec S4096x2048 8) (a b : FVec Ideal S1 .f32) (j : S4096x2048.Idx) (h : fn X W a b j = 1#1) :
    total (fun i : Fin 4096 => X (ix2 (j 0) i)) (fun i => W (ix2 i (j 1))) ≤ 2 ^ 24 - 1 :=
  total_le ((cmp_at X W _ j).symm.trans (fn_parts X W a b j h).2)

end Cert.On_exact_own_blocks

end
-- ==== Proof.Claims.lean ====
/- The claims: the frames of the three programs, and the kernel's result against the reference's. -/
module

public import proofs.«01_k».proof.Defs
public import proofs.«01_k».proof.Proof.Launch
public import proofs.«01_k».proof.Proof.Values
public import proofs.«01_k».proof.Proof.Mask
public import proofs.«01_k».proof.Proof.Gen.Kernel

@[expose] public section

noncomputable section

namespace Cert.Proof

open Idealize.ShloMosaic Idealize.ShloMosaic.TcCoe Idealize.SL.Sem
open Cert.Transfers

section Frame

open Cert.KernelIdeal Cert.KernelIdeal.Mesh

variable {F : FTy → Type} [FloatOps F]

/-- A buffer all of whose elements are as they are to be. -/
theorem good_arg (m m' : MemSt nD τ sig (Elt F)) (c : Dev nD) (k : Fin 4)
    (h : ∀ e, e ∈ args ∪ outs False c → (plan False m).Good m' (e.at c)) : m'.mem (c.tc.loc (argRef k)) = goalOf m (c.tc.loc (argRef k)) :=
  funext fun y => h ⟨Proc.devRef .tc (argRef k), y⟩ (Or.inl ⟨k, rfl⟩)

/-- Every execution ends, the operands as they were, the counters at zero, and of the result each device's own rows at
    that device's product. -/
theorem run_kernel (m : (ℓ : Loc nD τ sig) → Buf (Elt F) ℓ) (g : Dev nD → PrngReg) :
    θ_run (KernelIdeal.defs (F := F)) (onTc (τ := τ) (main (F := F))) ⟨m, fun _ => 0, g⟩ fun r =>
      (∀ c : Dev nD, (∀ x : S4096x64.Idx, rowDev x = c → r.2.mem (c.tc.loc main_v1) x = res ⟨m, fun _ => 0, g⟩ c x) ∧
        r.2.mem (c.tc.loc main_arg0) = m (c.tc.loc main_arg0) ∧ r.2.mem (c.tc.loc main_arg1) = m (c.tc.loc main_arg1) ∧
        r.2.mem (c.tc.loc main_arg2) = m (c.tc.loc main_arg2) ∧ r.2.mem (c.tc.loc main_arg3) = m (c.tc.loc main_arg3)) ∧
      r.2.sem = fun _ => 0 := by
  refine (θ_run (KernelIdeal.defs (F := F)) _ _).mono (fun r h => ⟨fun c => ⟨fun x hx => ?_, ?_, ?_, ?_, ?_⟩, h.2⟩) (run_main (F := F) ⟨m, fun _ => 0, g⟩ rfl)
  · exact h.1 c ⟨Proc.devRef .tc main_v1, x⟩ (Or.inr ⟨x, Or.inr hx, rfl⟩)
  · exact (good_arg _ _ c 0 (h.1 c)).trans (goalOf_arg0 _ c)
  · exact (good_arg _ _ c 1 (h.1 c)).trans (goalOf_arg1 _ c)
  · exact (good_arg _ _ c 2 (h.1 c)).trans (goalOf_arg2 _ c)
  · exact (good_arg _ _ c 3 (h.1 c)).trans (goalOf_arg3 _ c)

end Frame

theorem frame_ideal : Cert.quiescent_KernelIdeal := fun m g _ =>
  (θ_run Cert.KernelIdeal.defs _ _).mono (fun _ h => ⟨fun c => (h.1 c).2, h.2⟩) (run_kernel (F := Ideal) m g)

section Same

variable {F : FTy → Type} [FloatOps F]

/-- The two kernels have one text: so their bodies, -/
theorem bodies_eq : Cert.Kernel.defs₀ (F := F) = Cert.KernelIdeal.defs₀ (F := F) := by
  unfold Cert.Kernel.defs₀ Cert.KernelIdeal.defs₀
  congr 1
  funext l a
  match l with
  | ⟨0, _⟩ => rfl

/-- their tables, -/
theorem tables_eq : Cert.Kernel.defs (F := F) = Cert.KernelIdeal.defs (F := F) :=
  congrArg (fun d => Pipeline.defs (Cert.KernelIdeal.pcfgs (F := F)) d) bodies_eq

/-- and their programs are one. -/
theorem mains_eq : Cert.Kernel.main (F := F) = Cert.KernelIdeal.main (F := F) := rfl

end Same

theorem frame_kernel : Cert.quiescent_Kernel := fun m g _ => by
  have h := run_kernel (F := Bits) m g
  rw [← tables_eq, ← mains_eq] at h
  exact (θ_run (Cert.Kernel.defs (F := Bits)) _ _).mono (fun _ h => ⟨fun c => (h.1 c).2, h.2⟩) h

theorem frame_reference : Cert.quiescent_ReferenceIdeal := fun m g _ =>
  (θ_run Cert.ReferenceIdeal.defs _ _).mono (fun r h => ⟨fun c => (h c).2, sem_eq_zero_of_no_sems rfl r.2⟩) (Cert.ReferenceIdeal.Value.run (F := Ideal) m g)

theorem value : Cert.algebraic_KernelIdeal_ReferenceIdeal_on_exact_own_blocks := by
  intro m g m' g' _ hb
  refine ⟨_, (θ_run Cert.KernelIdeal.defs _ _).mono (fun r h c => ⟨fun x hx => ?_, (h.1 c).2⟩) (run_kernel (F := Ideal) m g),
    (θ_run Cert.ReferenceIdeal.defs _ _).mono (fun r h => ⟨fun x _ => congrFun (h 0).1 x, (h 0).2⟩) (Cert.ReferenceIdeal.Value.run (F := Ideal) m' g')⟩
  have ho := Cert.On_exact_own_blocks.fn_own _ _ _ _ (Cert.KernelIdeal.Mesh.whole c x) hx
  have ht := Cert.On_exact_own_blocks.fn_total _ _ _ _ (Cert.KernelIdeal.Mesh.whole c x) hx
  have hd : Cert.KernelIdeal.Mesh.rowDev x = c := by
    have h1 : (x 1).val < 64 := (x 1).isLt
    have h2 : (x 0).val / 128 = (c.val * 64 + (x 1).val) / 64 := ho
    refine Fin.ext (h2.trans ?_)
    omega
  exact ((h.1 c).1 x hd).trans (Cert.KernelIdeal.Mesh.res_eq _ c _ _ _ _ (fun d => (hb d).1) (fun d => (hb d).2.1) (fun d => (hb d).2.2.1)
    (fun d => (hb d).2.2.2) x ht)

end Cert.Proof

end
-- ==== Proof.Synced.Plan.lean ====
/- The transfers of the kernel with the handshake, as a plan: which copies there are, what each moves, what each element
   is meant to hold, and the barrier that every device passes before it starts a copy to another. -/
module

public import proofs.«01_k».proof.Proof.Transfers
public import proofs.«01_k».proof.Proof.Gen.SyncedIdeal.Skeleton

@[expose] public section

noncomputable section

namespace Cert.SyncedIdeal.Mesh

open Idealize.ShloMosaic Idealize.ShloMosaic.TcCoe Idealize.SL.Sem
open Cert.Transfers
open scoped Classical

variable {F : FTy → Type} [FloatOps F]

/-! ## What each element is meant to hold -/

/-- The index of an array of two axes, by its coordinates. -/
def ix2 {a b : ℕ} (i : Fin a) (j : Fin b) : (⟨2, ![a, b]⟩ : Shape).Idx := fun | 0 => i | 1 => j

/-- The index of an array of three axes, by its coordinates. -/
def ix3 {a b c : ℕ} (i : Fin a) (j : Fin b) (k : Fin c) : (⟨3, ![a, b, c]⟩ : Shape).Idx := fun | 0 => i | 1 => j | 2 => k

/-- The one index of an array of one element. -/
def one : S1.Idx := Shape.Idx.first (by decide : 0 < S1.numel)

/-- A device's rows of the product, scaled. -/
def pay (m : MemSt nD τ sig (Elt F)) (c : Dev nD) : FVec F S128x2048 .f32 :=
  Gen.k0_pay1 (m.mem (c.tc.loc main_arg0)) (m.mem (c.tc.loc main_arg1)) (m.mem (c.tc.loc main_arg2) one) (m.mem (c.tc.loc main_arg3) one)

/-- Those rows, cut in 32 blocks of 64 columns. -/
def cut (v : FVec F S128x2048 .f32) : S32x128x64.Idx → Elt F .f32 := fun x =>
  v (ix2 (x 1) ⟨64 * (x 0).val + (x 2).val, by
    have h0 : (x 0).val < 32 := (x 0).isLt
    have h2 : (x 2).val < 64 := (x 2).isLt
    omega⟩)

/-- The device that computes a row of the whole product. -/
def rowDev (x : S4096x64.Idx) : Dev nD := ⟨(x 0).val / 128, by
  have h0 : (x 0).val < 4096 := (x 0).isLt
  show _ < 32
  omega⟩

/-- Device `c`'s columns of the whole product. -/
def res (m : MemSt nD τ sig (Elt F)) (c : Dev nD) : S4096x64.Idx → Elt F .f32 := fun x =>
  cut (pay m (rowDev x)) (ix3 c ⟨(x 0).val % 128, Nat.mod_lt _ (by decide)⟩ (x 1))

/-- What each element is to hold: a staging buffer of an operand that operand, the scratch the device's rows by blocks
    of columns, the result and its staging buffer the device's columns. -/
def goalOf (m : MemSt nD τ sig (Elt F)) : (ℓ : Loc nD τ sig) → Buf (Elt F) ℓ
  | (c, ⟨.local .tc .vmem, ⟨0, _⟩, _⟩) => m.mem (c.tc.loc main_arg0)
  | (c, ⟨.local .tc .vmem, ⟨1, _⟩, _⟩) => m.mem (c.tc.loc main_arg1)
  | (c, ⟨.local .tc .smem, ⟨0, _⟩, _⟩) => m.mem (c.tc.loc main_arg2)
  | (c, ⟨.local .tc .smem, ⟨1, _⟩, _⟩) => m.mem (c.tc.loc main_arg3)
  | (c, ⟨.local .tc .vmem, ⟨2, _⟩, _⟩) => res m c
  | (c, ⟨.local .tc .vmem, ⟨3, _⟩, _⟩) => cut (pay m c)
  | (c, ⟨.hbm, ⟨4, _⟩, _⟩) => res m c
  | ℓ => m.mem ℓ

theorem goalOf_stg0 (m : MemSt nD τ sig (Elt F)) (c : Dev nD) : goalOf m (c.tc.loc cc0_stg0_0) = m.mem (c.tc.loc main_arg0) := rfl
theorem goalOf_stg1 (m : MemSt nD τ sig (Elt F)) (c : Dev nD) : goalOf m (c.tc.loc cc0_stg1_0) = m.mem (c.tc.loc main_arg1) := rfl
theorem goalOf_stg2 (m : MemSt nD τ sig (Elt F)) (c : Dev nD) : goalOf m (c.tc.loc cc0_stg2_0) = m.mem (c.tc.loc main_arg2) := rfl
theorem goalOf_stg3 (m : MemSt nD τ sig (Elt F)) (c : Dev nD) : goalOf m (c.tc.loc cc0_stg3_0) = m.mem (c.tc.loc main_arg3) := rfl
theorem goalOf_stg4 (m : MemSt nD τ sig (Elt F)) (c : Dev nD) : goalOf m (c.tc.loc cc0_stg4_0) = res m c := rfl
theorem goalOf_scratch (m : MemSt nD τ sig (Elt F)) (c : Dev nD) : goalOf m (c.tc.loc cc0_scratch0) = cut (pay m c) := rfl
theorem goalOf_v1 (m : MemSt nD τ sig (Elt F)) (c : Dev nD) : goalOf m (c.tc.loc main_v1) = res m c := rfl
theorem goalOf_arg0 (m : MemSt nD τ sig (Elt F)) (c : Dev nD) : goalOf m (c.tc.loc main_arg0) = m.mem (c.tc.loc main_arg0) := rfl
theorem goalOf_arg1 (m : MemSt nD τ sig (Elt F)) (c : Dev nD) : goalOf m (c.tc.loc main_arg1) = m.mem (c.tc.loc main_arg1) := rfl
theorem goalOf_arg2 (m : MemSt nD τ sig (Elt F)) (c : Dev nD) : goalOf m (c.tc.loc main_arg2) = m.mem (c.tc.loc main_arg2) := rfl
theorem goalOf_arg3 (m : MemSt nD τ sig (Elt F)) (c : Dev nD) : goalOf m (c.tc.loc main_arg3) = m.mem (c.tc.loc main_arg3) := rfl

/-! ## The transfers -/

/-- The kernel's copies: device `c`'s operand `k` to its staging buffer, its block for the device `d + 1` after it,
    and its result back from its staging buffer. -/
inductive Tr
  | inp (k : Fin 4) (c : Dev nD)
  | send (d : Fin 31) (c : Dev nD)
  | out (c : Dev nD)

/-- The device `d + 1` after `c`. -/
def peer (d : Fin 31) (c : Dev nD) : Dev nD := ⟨(c.val + d.val + 1) % 32, Nat.mod_lt _ (by decide)⟩

/-- Different `d` give different devices. -/
theorem peer_index {d d' : Fin 31} {c : Dev nD} (h : peer d c = peer d' c) : d = d' := by
  apply Fin.ext
  have h := congrArg Fin.val h
  have hc : c.val < 32 := c.isLt
  have hd := d.isLt
  have hd' := d'.isLt
  simp only [peer] at h
  omega

/-- Every other device is some number of devices after this one. -/
theorem exists_peer {c r : Dev nD} (hr : r ≠ c) : ∃ d : Fin 31, r = peer d c := by
  have hc : c.val < 32 := c.isLt
  have hr' : r.val < 32 := r.isLt
  have hne : r.val ≠ c.val := fun e => hr (Fin.ext e)
  refine ⟨⟨(r.val + 31 - c.val) % 32, by omega⟩, Fin.ext ?_⟩
  simp only [peer]
  omega

/-- The device `d + 1` before `c`. -/
def prev (d : Fin 31) (c : Dev nD) : Dev nD := ⟨(c.val + 31 - d.val) % 32, Nat.mod_lt _ (by decide)⟩

theorem peer_ne (d : Fin 31) (c : Dev nD) : peer d c ≠ c := by
  intro h
  have h := congrArg Fin.val h
  have hc : c.val < 32 := c.isLt
  have hd := d.isLt
  simp only [peer] at h
  omega

theorem peer_prev (d : Fin 31) (c : Dev nD) : peer d (prev d c) = c := by
  apply Fin.ext
  have hc : c.val < 32 := c.isLt
  have hd := d.isLt
  simp only [peer, prev]
  omega

theorem prev_ne (d : Fin 31) (c : Dev nD) : prev d c ≠ c := fun h => peer_ne d c (by rw [← h, peer_prev, h])

theorem peer_inj {d : Fin 31} {c c' : Dev nD} (h : peer d c = peer d c') : c = c' := by
  apply Fin.ext
  have h := congrArg Fin.val h
  have hc : c.val < 32 := c.isLt
  have hc' : c'.val < 32 := c'.isLt
  have hd := d.isLt
  simp only [peer] at h
  omega

/-- The buffers of the operands and of their staging buffers. -/
def argRef : Fin 4 → Ref sig .tc | 0 => main_arg0 | 1 => main_arg1 | 2 => main_arg2 | 3 => main_arg3
def stgRef : Fin 4 → Ref sig .tc | 0 => cc0_stg0_0 | 1 => cc0_stg1_0 | 2 => cc0_stg2_0 | 3 => cc0_stg3_0

/-- The elements of one buffer of a device. -/
def bufSet (c : Dev nD) (b : Ref sig .tc) : Set (Elem nD τ sig) := {e | e.1 = c.tc.loc b}

/-- The block of the scratch, on device `c`, that goes to device `c'`. -/
def scrSet (c c' : Dev nD) : Set (Elem nD τ sig) := {e | ∃ x : S32x128x64.Idx, x 0 = c' ∧ e = ⟨c.tc.loc cc0_scratch0, x⟩}

/-- The rows of the result's staging buffer, on device `c`, that device `r` computes. -/
def rowSet (c r : Dev nD) : Set (Elem nD τ sig) := {e | ∃ x : S4096x64.Idx, rowDev x = r ∧ e = ⟨c.tc.loc cc0_stg4_0, x⟩}

theorem argRef_unscoped : ∀ k, (argRef k).isScoped = false := by decide

namespace Tr

/-- The device that starts a copy, -/
def owner : Tr → Dev nD | inp _ c => c | send _ c => c | out c => c
/-- the one that awaits its completion, -/
def waiter : Tr → Dev nD | inp _ c => c | send d c => peer d c | out c => c
/-- the semaphore it completes on, -/
def semD : Tr → SemLoc sig
  | inp k _ => .dma ⟨k.val, show k.val < 69 by omega⟩
  | send d _ => .dma ⟨38 + d.val, show 38 + d.val < 69 by omega⟩
  | out _ => .dma ⟨4, show 4 < 69 by omega⟩
/-- the semaphore its source side signals, -/
def semS : Tr → Option (SemLoc sig)
  | send d _ => some (.dma ⟨6 + d.val, show 6 + d.val < 69 by omega⟩)
  | _ => none
/-- and what it adds to each. -/
def cr : Tr → ℕ
  | inp k _ => (stgRef k).dmaCredit (stgRef k).ty.shape (stgRef k).ty.elt
  | send _ _ => cc0_stg4_0.dmaCredit S128x64 .f32
  | out _ => main_v1.dmaCredit S4096x64 .f32

/-- What it reads, -/
def src : Tr → Set (Elem nD τ sig)
  | inp k c => bufSet c (argRef k)
  | send d c => scrSet c (peer d c)
  | out c => bufSet c cc0_stg4_0
/-- and what it writes. -/
def dst : Tr → Set (Elem nD τ sig)
  | inp k c => bufSet c (stgRef k)
  | send d c => rowSet (peer d c) c
  | out c => bufSet c main_v1

theorem cr_pos : ∀ i : Tr, 0 < i.cr
  | inp k c => by
    have h : ∀ k, 0 < (stgRef k).ty.shape.numel := by decide
    exact sig.dmaCredit_pos _ _ _ _ _ (h k)
  | send d c => sig.dmaCredit_pos _ _ _ _ _ (by decide)
  | out c => sig.dmaCredit_pos _ _ _ _ _ (by decide)

end Tr

/-- What a device's operands hold. -/
def args : Set (LElem τ sig) := {e | ∃ k, e.1 = Proc.devRef .tc (argRef k)}

/-- Its result's elements. -/
def outs : Set (LElem τ sig) := {e | e.1 = Proc.devRef .tc main_v1}

namespace Tr

theorem semD_inj (i j : Tr) (hw : i.waiter = j.waiter) (hs : i.semD = j.semD) : i = j := by
  cases i <;> cases j <;> simp only [waiter, semD, SemLoc.dma.injEq, Fin.mk.injEq] at hw hs
  case inp.inp k c k' c' => rw [hw, Fin.ext hs]
  case send.send d c d' c' =>
    have hd : d = d' := Fin.ext (by omega)
    subst hd
    rw [peer_inj hw]
  case out.out c c' => rw [hw]
  all_goals omega

theorem semS_inj (i j : Tr) (g : SemLoc sig) (ho : i.owner = j.owner) (hi : i.semS = some g) (hj : j.semS = some g) : i = j := by
  cases i <;> cases j <;> simp only [owner, semS, reduceCtorEq] at ho hi hj
  case send.send d c d' c' =>
    have h := hi.trans hj.symm
    simp only [Option.some.injEq, SemLoc.dma.injEq, Fin.mk.injEq] at h
    have hd : d = d' := Fin.ext (by omega)
    rw [hd, ho]

theorem semD_ne_semS (i j : Tr) : j.semS ≠ some i.semD := by
  intro h
  cases i <;> cases j <;> simp only [semD, semS, Option.some.injEq, SemLoc.dma.injEq, Fin.mk.injEq, reduceCtorEq] at h <;> omega

theorem src_dev (i : Tr) (e : Elem nD τ sig) (h : e ∈ i.src) : e.1.1 = i.owner := by
  cases i with
  | inp k c => exact congrArg Prod.fst (h : e.1 = _)
  | send d c => obtain ⟨x, _, rfl⟩ := h; rfl
  | out c => exact congrArg Prod.fst (h : e.1 = _)

theorem dst_dev (i : Tr) (e : Elem nD τ sig) (h : e ∈ i.dst) : e.1.1 = i.waiter := by
  cases i with
  | inp k c => exact congrArg Prod.fst (h : e.1 = _)
  | send d c => obtain ⟨x, _, rfl⟩ := h; rfl
  | out c => exact congrArg Prod.fst (h : e.1 = _)

theorem semS_none (i : Tr) (h : i.semS = none) : i.waiter = i.owner := by
  cases i with
  | inp k c => rfl
  | send d c => cases h
  | out c => rfl

theorem bar_ne_semD (i : Tr) : some (SemLoc.reg barrier0) ≠ some i.semD := by
  cases i <;> intro h <;> simp only [semD, Option.some.injEq, reduceCtorEq] at h

theorem bar_ne_semS (i : Tr) (g : SemLoc sig) (hg : i.semS = some g) : some (SemLoc.reg barrier0 : SemLoc sig) ≠ some g := by
  rintro h
  have h := h.trans hg.symm
  cases i <;> simp only [semS, Option.some.injEq, reduceCtorEq] at h

end Tr

theorem args_unscoped (e : LElem τ sig) (h : e ∈ args) : ¬ Scoped e := by
  obtain ⟨b, y⟩ := e
  obtain ⟨k, hk⟩ := h
  cases hk
  intro hs
  have h := (mem_scopedRefs.mp hs).2
  rw [Proc.isScoped_devRef, argRef_unscoped] at h
  cases h

/-- The kernel's transfers, all that they move followed, and its barrier. -/
def plan (m : MemSt nD τ sig (Elt F)) : Plan nD τ sig (Elt F) where
  ι := Tr
  owner := Tr.owner
  waiter := Tr.waiter
  semD := Tr.semD
  semS := Tr.semS
  cr := Tr.cr
  srcSet := Tr.src
  dstSet := Tr.dst
  tr := Set.univ
  tgt := goalOf m
  bar := some (.reg barrier0)
  init _ := args
  goal _ := args ∪ outs
  semD_inj := Tr.semD_inj
  semS_inj := Tr.semS_inj
  semD_ne_semS i j _ := Tr.semD_ne_semS i j
  bar_ne_semD := Tr.bar_ne_semD
  bar_ne_semS := Tr.bar_ne_semS
  cr_pos := Tr.cr_pos
  src_dev := Tr.src_dev
  dst_dev := Tr.dst_dev
  src_tr _ _ _ := trivial
  semS_none := Tr.semS_none
  init_tr _ _ _ := trivial
  init_unscoped c e h := args_unscoped e h

end Cert.SyncedIdeal.Mesh

end
-- ==== Proof.Synced.Copies.lean ====
/- Each copy the kernel starts is the plan's: where its two ends sit in their buffers, and that what it moves is what its
   destination is meant to hold. -/
module

public import proofs.«01_k».proof.Proof.Synced.Plan

@[expose] public section

noncomputable section

namespace Cert.SyncedIdeal.Mesh

open Idealize.ShloMosaic Idealize.ShloMosaic.TcCoe Idealize.SL.Sem
open Cert.Transfers
open scoped Classical

variable {F : FTy → Type} [FloatOps F]

/-! ## Where the ends sit -/

/-- The scratch's block `j`, as a copy reads it. -/
theorem emb_block {o : Fin 3 → ℕ} {j : Fin 32} (ho : o = ![j.val, 0, 0]) (h hs hq) (x : S128x64.Idx) :
    (((Memref.whole cc0_scratch0).slice (Rect.unit (s := S32x128x64) o S1x128x64.size h) hs).squeeze S128x64 hq).view.emb x
      = ix3 (a := 32) (b := 128) (c := 64) j (x 0) (x 1) := by
  subst ho
  show (Rect.unit (s := S32x128x64) ![j.val, 0, 0] S1x128x64.size h).emb (Shape.reshapeEquiv _ x) = _
  rw [show Shape.reshapeEquiv _ x = (Fin.cons ⟨0, Nat.one_pos⟩ x : S1x128x64.Idx) from Shape.reshapeEquiv_cons_one _ x]
  funext a
  apply Fin.ext
  rw [Rect.emb_apply]
  match a with
  | 0 => show j.val + 1 * 0 = j.val; omega
  | 1 => show 0 + 1 * (x 0).val = (x 0).val; omega
  | 2 => show 0 + 1 * (x 1).val = (x 1).val; omega

/-- The same block as a load or a store goes through it. -/
theorem emb_slab {o : Fin 3 → ℕ} {j : Fin 32} (ho : o = ![j.val, 0, 0]) (h) (x : S1x128x64.Idx) :
    (Rect.unit (s := S32x128x64) o S1x128x64.size h).emb x = ix3 (a := 32) (b := 128) (c := 64) j (x 1) (x 2) := by
  subst ho
  funext a
  apply Fin.ext
  rw [Rect.emb_apply]
  have h0 : (x 0).val < 1 := (x 0).isLt
  match a with
  | 0 => show j.val + 1 * (x 0).val = j.val; omega
  | 1 => show 0 + 1 * (x 1).val = (x 1).val; omega
  | 2 => show 0 + 1 * (x 2).val = (x 2).val; omega

/-- Device `r`'s rows of an array of the result's shape. -/
theorem emb_rows {o : Fin 2 → ℕ} {r : Dev nD} (ho : o = ![128 * r.val, 0]) (h) (x : S128x64.Idx) :
    (Rect.unit (s := S4096x64) o S128x64.size h).emb x
      = ix2 (a := 4096) (b := 64) ⟨128 * r.val + (x 0).val, by
          have h0 : (x 0).val < 128 := (x 0).isLt
          have hr : r.val < 32 := r.isLt
          omega⟩ (x 1) := by
  subst ho
  funext a
  apply Fin.ext
  rw [Rect.emb_apply]
  match a with
  | 0 => show 128 * r.val + 1 * (x 0).val = 128 * r.val + (x 0).val; omega
  | 1 => show 0 + 1 * (x 1).val = (x 1).val; omega

theorem rowDev_rows {r : Dev nD} {i : Fin 128} {j : Fin 64} (h) :
    rowDev (ix2 (⟨128 * r.val + i.val, h⟩ : Fin 4096) j) = r := by
  apply Fin.ext
  show (128 * r.val + i.val) / 128 = r.val
  have := i.isLt
  omega

/-- What device `r`'s rows of device `c`'s columns hold is what block `c` of device `r`'s scratch holds. -/
theorem res_rows (m : MemSt nD τ sig (Elt F)) (c r : Dev nD) (i : Fin 128) (j : Fin 64) (h) :
    res m c (ix2 (⟨128 * r.val + i.val, h⟩ : Fin 4096) j) = cut (pay m r) (ix3 c i j) := by
  unfold res
  rw [rowDev_rows]
  congr 2
  apply Fin.ext
  show (128 * r.val + i.val) % 128 = i.val
  have := i.isLt
  omega

theorem ix2_eta {a b : ℕ} (x : (⟨2, ![a, b]⟩ : Shape).Idx) : ix2 (a := a) (b := b) (x 0) (x 1) = x := by
  funext k
  match k with
  | 0 => rfl
  | 1 => rfl

/-- A row of device `r`'s. -/
theorem eq_rows {x : S4096x64.Idx} {r : Dev nD} (hx : rowDev x = r) :
    ∃ (i : Fin 128) (h : 128 * r.val + i.val < 4096), x = ix2 (⟨128 * r.val + i.val, h⟩ : Fin 4096) (x 1) := by
  have h0 : (x 0).val < 4096 := (x 0).isLt
  have hr : (x 0).val / 128 = r.val := congrArg Fin.val hx
  refine ⟨⟨(x 0).val % 128, Nat.mod_lt _ (by decide)⟩, by dsimp only; omega, ?_⟩
  conv_lhs => rw [← ix2_eta (a := 4096) (b := 64) x]
  congr 1
  apply Fin.ext
  show (x 0).val = 128 * r.val + (x 0).val % 128
  omega

/-- A rectangle of an array's own sizes at offsets zero is the array. -/
theorem emb_all {s : Shape} {o : Fin s.rank → ℕ} (ho : ∀ a, o a = 0) (h) (x : s.Idx) : (Rect.unit (s := s) o s.size h).emb x = x := by
  funext a
  apply Fin.ext
  rw [Rect.emb_apply]
  show o a + 1 * (x a).val = (x a).val
  rw [ho]
  omega

/-! ## The copies between devices -/

theorem carry_send (m : MemSt nD τ sig (Elt F)) (c c' : Dev nD) {o4 : Fin 3 → ℕ} {o3 : Fin 2 → ℕ}
    (h4 : o4 = ![c'.val, 0, 0]) (h3 : o3 = ![128 * c.val, 0]) (i4 i3 hs4 hq) (x : S128x64.Idx) (f : S32x128x64.Idx → Elt F .f32)
    (hf : ∀ y : S32x128x64.Idx, y 0 = c' → f y = cut (pay m c) y) :
    f ((((Memref.whole cc0_scratch0).slice (Rect.unit (s := S32x128x64) o4 S1x128x64.size i4) hs4).squeeze S128x64 hq).view.emb x)
      = res m c' ((Rect.unit (s := S4096x64) o3 S128x64.size i3).emb x) := by
  rw [emb_rows h3, emb_block h4]
  exact (hf _ rfl).trans (res_rows m c' c (x 0) (x 1) _).symm

theorem cov_send (c : Dev nD) {o3 : Fin 2 → ℕ} (h3 : o3 = ![128 * c.val, 0]) (i3) (y : S4096x64.Idx) (hy : rowDev y = c) :
    ∃ x : S128x64.Idx, y = (Rect.unit (s := S4096x64) o3 S128x64.size i3).emb x := by
  obtain ⟨i, hi, hx⟩ := eq_rows hy
  refine ⟨ix2 i (y 1), ?_⟩
  rw [emb_rows h3]
  exact hx

theorem mem_send (c : Dev nD) {o3 : Fin 2 → ℕ} (h3 : o3 = ![128 * c.val, 0]) (i3) (x : S128x64.Idx) :
    rowDev ((Rect.unit (s := S4096x64) o3 S128x64.size i3).emb x) = c := by
  rw [emb_rows h3]
  exact rowDev_rows (i := x 0) (j := x 1) _

theorem impl_send (m : MemSt nD τ sig (Elt F)) (c : Dev nD) (d : Fin 31) {o4 : Fin 3 → ℕ} {o3 : Fin 2 → ℕ} {dev : Dev nD}
    {s1 s2 : DmaSem sig} (h4 : o4 = ![(peer d c).val, 0, 0]) (h3 : o3 = ![128 * c.val, 0]) (hd : dev = peer d c)
    (h1 : s1 = ⟨6 + d.val, show 6 + d.val < 69 by omega⟩) (h2 : s2 = ⟨38 + d.val, show 38 + d.val < 69 by omega⟩)
    (i4 i3 hs4 hs3 hq) (b₀ st) :
    (plan m).Impl (.send d c) (Dma.enqueued (c.tc : Thread nD τ)
      (((Memref.whole cc0_scratch0).slice (Rect.unit (s := S32x128x64) o4 S1x128x64.size i4) hs4).squeeze S128x64 hq).view
      (.remote dev.tc ((Memref.whole cc0_stg4_0).slice (Rect.unit (s := S4096x64) o3 S128x64.size i3) hs3) (.dma s1)) .same (.dma s2) b₀ st) := by
  subst hd h1 h2
  refine ⟨rfl, rfl, rfl, fun x => ⟨_, mem_send c h3 i3 x, rfl⟩, ?_, fun x _ f hf => ?_⟩
  · rintro e ⟨y, hy, rfl⟩
    obtain ⟨x, hx⟩ := cov_send c h3 i3 y hy
    exact ⟨x, by rw [hx]; rfl⟩
  · exact carry_send m c (peer d c) h4 h3 i4 i3 hs4 hq x f fun y hy => hf y ⟨y, hy, rfl⟩

/-! ## The copies between a device's operands and result and their staging buffers -/

theorem impl_in0 (m : MemSt nD τ sig (Elt F)) (c : Dev nD) (t : Fin grid0.N) (b₀ st) :
    (plan m).Impl (.inp 0 c) (Dma.enqueued (c.tc : Thread nD τ) (win0_0.blk t).view (.here (win0_0.stg t 0)) .same
      (.dma (win0_0.sem 0)) b₀ st) := by
  refine ⟨rfl, rfl, rfl, fun x => rfl, ?_, fun x _ f hf => ?_⟩
  · rintro ⟨ℓ, y⟩ he
    obtain rfl : ℓ = _ := he
    exact ⟨y, congrArg (Sigma.mk _) (emb_all (s := S128x4096) (fun _ => rfl) _ y).symm⟩
  · refine (hf _ rfl).trans ?_
    show m.mem (c.tc.loc main_arg0) _ = m.mem (c.tc.loc main_arg0) _
    exact congrArg _ ((emb_all (s := S128x4096) (fun _ => Nat.zero_mul _) _ x).trans (emb_all (s := S128x4096) (fun _ => rfl) _ x).symm)

theorem impl_in1 (m : MemSt nD τ sig (Elt F)) (c : Dev nD) (t : Fin grid0.N) (b₀ st) :
    (plan m).Impl (.inp 1 c) (Dma.enqueued (c.tc : Thread nD τ) (win0_1.blk t).view (.here (win0_1.stg t 0)) .same
      (.dma (win0_1.sem 0)) b₀ st) := by
  refine ⟨rfl, rfl, rfl, fun x => rfl, ?_, fun x _ f hf => ?_⟩
  · rintro ⟨ℓ, y⟩ he
    obtain rfl : ℓ = _ := he
    exact ⟨y, congrArg (Sigma.mk _) (emb_all (s := S4096x2048) (fun _ => rfl) _ y).symm⟩
  · refine (hf _ rfl).trans ?_
    show m.mem (c.tc.loc main_arg1) _ = m.mem (c.tc.loc main_arg1) _
    exact congrArg _ ((emb_all (s := S4096x2048) (fun _ => Nat.zero_mul _) _ x).trans (emb_all (s := S4096x2048) (fun _ => rfl) _ x).symm)

theorem impl_in2 (m : MemSt nD τ sig (Elt F)) (c : Dev nD) (t : Fin grid0.N) (b₀ st) :
    (plan m).Impl (.inp 2 c) (Dma.enqueued (c.tc : Thread nD τ) (win0_2.blk t).view (.here (win0_2.stg t 0)) .same
      (.dma (win0_2.sem 0)) b₀ st) := by
  refine ⟨rfl, rfl, rfl, fun x => rfl, ?_, fun x _ f hf => ?_⟩
  · rintro ⟨ℓ, y⟩ he
    obtain rfl : ℓ = _ := he
    exact ⟨y, congrArg (Sigma.mk _) (emb_all (s := S1) (fun _ => rfl) _ y).symm⟩
  · refine (hf _ rfl).trans ?_
    show m.mem (c.tc.loc main_arg2) _ = m.mem (c.tc.loc main_arg2) _
    exact congrArg _ ((emb_all (s := S1) (fun _ => Nat.zero_mul _) _ x).trans (emb_all (s := S1) (fun _ => rfl) _ x).symm)

theorem impl_in3 (m : MemSt nD τ sig (Elt F)) (c : Dev nD) (t : Fin grid0.N) (b₀ st) :
    (plan m).Impl (.inp 3 c) (Dma.enqueued (c.tc : Thread nD τ) (win0_3.blk t).view (.here (win0_3.stg t 0)) .same
      (.dma (win0_3.sem 0)) b₀ st) := by
  refine ⟨rfl, rfl, rfl, fun x => rfl, ?_, fun x _ f hf => ?_⟩
  · rintro ⟨ℓ, y⟩ he
    obtain rfl : ℓ = _ := he
    exact ⟨y, congrArg (Sigma.mk _) (emb_all (s := S1) (fun _ => rfl) _ y).symm⟩
  · refine (hf _ rfl).trans ?_
    show m.mem (c.tc.loc main_arg3) _ = m.mem (c.tc.loc main_arg3) _
    exact congrArg _ ((emb_all (s := S1) (fun _ => Nat.zero_mul _) _ x).trans (emb_all (s := S1) (fun _ => rfl) _ x).symm)

theorem impl_out (m : MemSt nD τ sig (Elt F)) (c : Dev nD) (t : Fin grid0.N) (b₀ st) :
    (plan m).Impl (.out c) (Dma.enqueued (c.tc : Thread nD τ) (win0_4.stg t 0).view (.here (win0_4.blk t)) .same
      (.dma (win0_4.sem 0)) b₀ st) := by
  have hb : ∀ x : S4096x64.Idx, (win0_4.blk t).view.emb x = x := emb_all (s := S4096x64) (fun _ => Nat.zero_mul _) _
  have hs : ∀ x : S4096x64.Idx, (win0_4.stg t 0).view.emb x = x := emb_all (s := S4096x64) (fun _ => rfl) _
  refine ⟨rfl, rfl, rfl, fun x => rfl, ?_, fun x _ f hf => ?_⟩
  · rintro ⟨ℓ, y⟩ he
    obtain rfl : ℓ = _ := he
    exact ⟨y, congrArg (Sigma.mk _) (hb y).symm⟩
  · have h1 : f ((win0_4.stg t 0).view.emb x) = f x := congrArg f (hs x)
    have h2 : res m c ((win0_4.blk t).view.emb x) = res m c x := congrArg (res m c) (hb x)
    exact (h1.trans (hf x rfl)).trans h2.symm

end Cert.SyncedIdeal.Mesh

end
-- ==== Proof.Synced.Steps.lean ====
/- The steps of one device: what it has done as counters, and for each operation of the kernel that it takes the
   counters one step on. -/
module

public import proofs.«01_k».proof.Proof.Synced.Copies

@[expose] public section

noncomputable section

namespace Cert.SyncedIdeal.Mesh

open Idealize.ShloMosaic Idealize.ShloMosaic.TcCoe Idealize.SL.Sem
open Cert.Transfers
open scoped Classical

variable {F : FTy → Type} [FloatOps F]

/-! ## What a device has done, as counters -/

/-- How many operands it has begun to stage and has staged, how many blocks of the scratch and whether its own rows of
    the result it has stored, how many devices it has signalled and whether it has heard of all of them, how many blocks
    it has begun to send, has sent and has received, and whether it has begun
    to write the result back and has done so. -/
structure Pos where
  ki : ℕ
  ko : ℕ
  blk : ℕ
  own : ℕ
  sg : ℕ
  bw : ℕ
  e : ℕ
  s : ℕ
  r : ℕ
  oi : ℕ
  ow : ℕ

/-- The copies a device has started, -/
def Started (c : Dev nD) (p : Pos) : Tr → Prop
  | .inp k c' => c' = c ∧ k.val < p.ki
  | .send d c' => c' = c ∧ d.val < p.e
  | .out c' => c' = c ∧ 0 < p.oi
/-- those it has seen completed, -/
def Landed (c : Dev nD) (p : Pos) : Tr → Prop
  | .inp k c' => c' = c ∧ k.val < p.ko
  | .send d c' => c' = prev d c ∧ d.val < p.r
  | .out c' => c' = c ∧ 0 < p.ow
/-- and those it has seen read. -/
def Sent (c : Dev nD) (p : Pos) : Tr → Prop
  | .inp _ _ => False
  | .send d c' => c' = c ∧ d.val < p.s
  | .out _ => False

/-- The counters say what has been done in the kernel, and which elements are known. -/
structure St (m : MemSt nD τ sig (Elt F)) (c : Dev nD) (p : Pos) (L : (plan m).Local) : Prop where
  stage : L.stage = 1
  issued : ∀ i : Tr, i ∈ L.issued ↔ Started c p i
  wd : ∀ i : Tr, i ∈ L.wd ↔ Landed c p i
  ws : ∀ i : Tr, i ∈ L.ws ↔ Sent c p i
  sent : ∀ c' : Dev nD, c' ∈ L.sent ↔ ∃ d : Fin 31, d.val < p.sg ∧ c' = peer d c
  passed : L.passed ↔ 0 < p.bw
  kargs : args ⊆ L.known
  kin : ∀ k : Fin 4, k.val < p.ko → ∀ y, (⟨Proc.devRef .tc (stgRef k), y⟩ : LElem τ sig) ∈ L.known
  kscr : ∀ x : S32x128x64.Idx, (x 0).val < p.blk → (⟨Proc.devRef .tc cc0_scratch0, x⟩ : LElem τ sig) ∈ L.known
  kown : 0 < p.own → ∀ x : S4096x64.Idx, rowDev x = c → (⟨Proc.devRef .tc cc0_stg4_0, x⟩ : LElem τ sig) ∈ L.known
  krecv : ∀ d : Fin 31, d.val < p.r → ∀ x : S4096x64.Idx, rowDev x = prev d c →
    (⟨Proc.devRef .tc cc0_stg4_0, x⟩ : LElem τ sig) ∈ L.known
  kout : 0 < p.ow → ∀ x : S4096x64.Idx, (⟨Proc.devRef .tc main_v1, x⟩ : LElem τ sig) ∈ L.known

/-- A device's program runs, in the kernel's own code. -/
abbrev Runs {α : Type} (m : MemSt nD τ sig (Elt F)) (c : Dev nD) (Q : α → (plan m).Local → Prop) (n : ℕ)
    (L : (plan m).Local) (p : Prog (TpuEff nD τ sig (Elt F) Λ₀ (Proc.tc : Proc τ)) α) : Prop :=
  (plan m).WP (Λ := Λ₀) (defs₀ (F := F)) c Q n L p

variable {m : MemSt nD τ sig (Elt F)} {c : Dev nD} {α : Type} {Q : α → (plan m).Local → Prop} {n : ℕ}
  {p : Pos} {L : (plan m).Local}

/-- What is known after some elements are is more. -/
theorem St.learn (h : St m c p L) (K : Set (LElem τ sig)) : St m c p (L.learn K) where
  stage := h.stage
  issued := h.issued
  wd := h.wd
  ws := h.ws
  sent := h.sent
  passed := h.passed
  kargs := h.kargs.trans Set.subset_union_left
  kin k hk y := .inl (h.kin k hk y)
  kscr x hx := .inl (h.kscr x hx)
  kown hp x hx := .inl (h.kown hp x hx)
  krecv d hd x hx := .inl (h.krecv d hd x hx)
  kout hp x := .inl (h.kout hp x)

/-! ## The semaphores of the two arrays -/

theorem sem_at {base j : ℕ} (h0 : base + S32.numel ≤ 69) (hj : j < 32) (hb hq) :
    (((SemArray.consecutive (n := 69) base S32 h0).slice (Rect.unit (s := S32) ![j] S1.size hb)).squeeze S_ hq).sem
      = ⟨base + j, by have : S32.numel = 32 := rfl; omega⟩ := by
  apply Fin.ext
  show base + (S32.rowMajor ((Rect.unit (s := S32) ![j] S1.size hb).emb (Shape.reshapeEquiv hq.numel_eq _))).val = base + j
  rw [Shape.rowMajor_val_one, Rect.emb_apply]
  generalize Shape.reshapeEquiv hq.numel_eq _ = y
  have h1 : (y 0).val < 1 := (y 0).isLt
  show base + (j + 1 * (y 0).val) = base + j
  omega

/-! ## The handshake -/

theorem St.allSent (h : St m c p L) (hg : p.sg = 31) : L.AllSent c := fun _ c' hc => by
  obtain ⟨d, hd⟩ := exists_peer hc
  exact (h.sent c').mpr ⟨d, by rw [hg]; exact d.isLt, hd⟩

/-- A signal to one of the other devices. -/
theorem step_signal (h : St m c p L) (d : Fin 31) (hg : p.sg = d.val) {dev : Dev nD} {sem : Sem sig} (hd : dev = peer d c)
    (hs : sem = barrier0) (k) (hk : ∀ L', St m c { p with sg := d.val + 1 } L' → Runs m c Q n L' (k ⟨⟩)) :
    Runs m c Q (n + 1) L (semSignalWord dev sem 1#32 >>= k) := by
  subst hd hs
  refine Plan.WP.signal _ _ _ rfl (peer_ne d c) ?_ h.stage (hk _ ?_)
  · intro hi
    obtain ⟨d', hd', he⟩ := (h.sent _).mp hi
    have := congrArg Fin.val (peer_index he)
    omega
  · refine { h with sent := fun c' => (Set.mem_insert_iff.trans (or_congr_right (h.sent c'))).trans ?_ }
    constructor
    · rintro (rfl | ⟨d', hd', rfl⟩)
      · exact ⟨d, Nat.lt_succ_self _, rfl⟩
      · exact ⟨d', by dsimp only; omega, rfl⟩
    · rintro ⟨d', hd', rfl⟩
      by_cases hdd : d'.val = d.val
      · exact .inl (by rw [Fin.ext hdd])
      · exact .inr ⟨d', by dsimp only at hd'; omega, rfl⟩

/-- The wait for all of them. -/
theorem step_barrier (h : St m c p L) (hg : p.sg = 31) (hw : p.bw = 0) {sem : Sem sig} (hs : sem = barrier0) (k)
    (hk : ∀ L', St m c { p with bw := 1 } L' → Runs m c Q n L' (k ⟨⟩)) :
    Runs m c Q (n + 1) L (semWaitWord sem 31#32 >>= k) := by
  subst hs
  refine Plan.WP.semWait _ _ _ rfl (by decide) (fun hp => ?_) (h.allSent hg) (hk _ ?_)
  · have := h.passed.mp hp
    omega
  · exact { h with passed := ⟨fun _ => Nat.one_pos, fun _ => trivial⟩ }

/-! ## Starting a copy to another device -/

theorem routed_peer (c dev : Dev nD) : τ.routes (c.tc : Thread nD τ) (dev.tc : Thread nD τ) = true := Topo.routes_tc c dev

theorem step_send (h : St m c p L) (d : Fin 31) (he : p.e = d.val) (hb : p.blk = 32) (hw : p.bw = 1)
    {o4 : Fin 3 → ℕ} {o3 : Fin 2 → ℕ} {dev : Dev nD} {j : ℕ}
    (h4 : o4 = ![(peer d c).val, 0, 0]) (h3 : o3 = ![128 * c.val, 0]) (hd : dev = peer d c) (hj : j = d.val + 1)
    (i4 i3 hs4 hs3 hq b1 q1 b2 q2 hw1 hw2 ht) (k)
    (hk : ∀ L', St m c { p with e := d.val + 1 } L' → Runs m c Q n L' (k ⟨⟩)) :
    Runs m c Q (n + 1) L (Prog.lift (TpuEff.enqueueDma
      (((Memref.whole cc0_scratch0).slice (Rect.unit (s := S32x128x64) o4 S1x128x64.size i4) hs4).squeeze S128x64 hq)
      (.remote dev.tc ((Memref.whole cc0_stg4_0).slice (Rect.unit (s := S4096x64) o3 S128x64.size i3) hs3)
        (.dma ((cc0_scratch1.slice (Rect.unit (s := S32) ![j] S1.size b1)).squeeze S_ q1).sem))
      (.dma ((cc0_scratch2.slice (Rect.unit (s := S32) ![j] S1.size b2)).squeeze S_ q2).sem) hw1 hw2 ht) >>= k) := by
  have hj32 : j < 32 := by omega
  have e1 : ((cc0_scratch1.slice (Rect.unit (s := S32) ![j] S1.size b1)).squeeze S_ q1).sem = ⟨6 + d.val, show 6 + d.val < 69 by omega⟩ :=
    (sem_at _ hj32 b1 q1).trans (Fin.ext (by dsimp only; omega))
  have e2 : ((cc0_scratch2.slice (Rect.unit (s := S32) ![j] S1.size b2)).squeeze S_ q2).sem = ⟨38 + d.val, show 38 + d.val < 69 by omega⟩ :=
    (sem_at _ hj32 b2 q2).trans (Fin.ext (by dsimp only; omega))
  refine Plan.WP.enqueue (i := (Tr.send d c : Tr)) _ _ _ _ _ _ _ _ (routed_peer c dev) rfl ?_ h.stage
    (fun b₀ st => impl_send m c d h4 h3 hd e1 e2 i4 i3 hs4 hs3 hq b₀ st) ?_ ?_ (hk _ ?_)
  · intro hi
    have := ((h.issued (.send d c)).mp hi).2
    omega
  · rintro e ⟨x, hx, rfl⟩
    refine h.kscr x ?_
    have h0 : (x 0).val < 32 := (x 0).isLt
    omega
  · refine .inr (.inr ⟨fun hb => (nomatch hb), h.passed.mpr (by omega)⟩)
  · refine { h with issued := fun i => ?_ }
    refine (Set.mem_insert_iff.trans (or_congr_right (h.issued i))).trans ?_
    cases i with
    | inp k' c' => exact ⟨fun hh => hh.elim (fun e => nomatch e) id, .inr⟩
    | out c' => exact ⟨fun hh => hh.elim (fun e => nomatch e) id, .inr⟩
    | send d' c' =>
      constructor
      · rintro (hh | ⟨hc, hlt⟩)
        · cases hh
          exact ⟨rfl, Nat.lt_succ_self _⟩
        · exact ⟨hc, by dsimp only; omega⟩
      · rintro ⟨rfl, hlt⟩
        by_cases hdd : d'.val = d.val
        · exact .inl (by rw [Fin.ext hdd])
        · exact .inr ⟨rfl, by dsimp only at hlt; omega⟩

/-! ## Awaiting the copies -/

theorem credit_block : cc0_scratch0.dmaCredit S128x64 .f32 = cc0_stg4_0.dmaCredit S128x64 .f32 := by decide

theorem step_sent (h : St m c p L) (d : Fin 31) (hs : p.s = d.val) (he : d.val < p.e) {j : ℕ} (hj : j = d.val + 1)
    {o4 : Fin 3 → ℕ} {sp : Space} {v : Memref sig .tc sp S128x64 .f32} (i4 hs4 hq b1 q1 hw1 hw2) (k)
    (hk : ∀ L', St m c { p with s := d.val + 1 } L' → Runs m c Q n L' (k ⟨⟩)) :
    Runs m c Q (n + 1) L (Prog.lift (TpuEff.waitDma2
      ((cc0_scratch1.slice (Rect.unit (s := S32) ![j] S1.size b1)).squeeze S_ q1).sem v
      (((Memref.whole cc0_scratch0).slice (Rect.unit (s := S32x128x64) o4 S1x128x64.size i4) hs4).squeeze S128x64 hq) hw1 hw2) >>= k) := by
  have hj32 : j < 32 := by omega
  have e1 : ((cc0_scratch1.slice (Rect.unit (s := S32) ![j] S1.size b1)).squeeze S_ q1).sem = ⟨6 + d.val, show 6 + d.val < 69 by omega⟩ :=
    (sem_at _ hj32 b1 q1).trans (Fin.ext (by dsimp only; omega))
  refine Plan.WP.waitS (i := (Tr.send d c : Tr)) _ _ _ _ _ _ rfl (congrArg (fun s => some (SemLoc.dma s)) e1.symm) credit_block ?_
    ((h.issued (.send d c)).mpr ⟨rfl, he⟩) (hk _ ?_)
  · intro hi
    have := ((h.ws (.send d c)).mp hi).2
    omega
  · refine { h with ws := fun i => ?_ }
    refine (Set.mem_insert_iff.trans (or_congr_right (h.ws i))).trans ?_
    cases i with
    | inp k' c' => exact ⟨fun hh => hh.elim (fun e => nomatch e) id, .inr⟩
    | out c' => exact ⟨fun hh => hh.elim (fun e => nomatch e) id, .inr⟩
    | send d' c' =>
      constructor
      · rintro (hh | ⟨hc, hlt⟩)
        · cases hh
          exact ⟨rfl, Nat.lt_succ_self _⟩
        · exact ⟨hc, by dsimp only; omega⟩
      · rintro ⟨rfl, hlt⟩
        by_cases hdd : d'.val = d.val
        · exact .inl (by rw [Fin.ext hdd])
        · exact .inr ⟨rfl, by dsimp only at hlt; omega⟩

theorem step_recv (h : St m c p L) (d : Fin 31) (hr : p.r = d.val) (he : p.e = 31) (hg : p.sg = 31) {j : ℕ} (hj : j = d.val + 1)
    {o3 : Fin 2 → ℕ} {sp : Space} {v : Memref sig .tc sp S128x64 .f32} (i3 hs3 b2 q2 hw1 hw2) (k)
    (hk : ∀ L', St m c { p with r := d.val + 1 } L' → Runs m c Q n L' (k ⟨⟩)) :
    Runs m c Q (n + 1) L (Prog.lift (TpuEff.waitDma2
      ((cc0_scratch2.slice (Rect.unit (s := S32) ![j] S1.size b2)).squeeze S_ q2).sem v
      ((Memref.whole cc0_stg4_0).slice (Rect.unit (s := S4096x64) o3 S128x64.size i3) hs3) hw1 hw2) >>= k) := by
  have hj32 : j < 32 := by omega
  have e2 : ((cc0_scratch2.slice (Rect.unit (s := S32) ![j] S1.size b2)).squeeze S_ q2).sem = ⟨38 + d.val, show 38 + d.val < 69 by omega⟩ :=
    (sem_at _ hj32 b2 q2).trans (Fin.ext (by dsimp only; omega))
  refine Plan.WP.waitD (i := (Tr.send d (prev d c) : Tr)) _ _ _ _ _ _ (peer_prev d c) (congrArg SemLoc.dma e2.symm) rfl ?_ h.stage ?_ (hk _ ?_)
  · intro hi
    have := ((h.wd (.send d (prev d c))).mp hi).2
    omega
  · rw [if_neg (show ¬ (plan m).owner (Tr.send d (prev d c) : Tr) = c from prev_ne d c)]
    refine ⟨h.allSent hg, fun i ho hw => ?_⟩
    cases i with
    | inp k' c' => exact absurd ho hw
    | out c' => exact absurd ho hw
    | send d' c' => exact (h.issued (.send d' c')).mpr ⟨ho, by rw [he]; exact d'.isLt⟩
  · refine { h with wd := fun i => ?_, kargs := h.kargs.trans Set.subset_union_left, kin := fun k hk y => .inl (h.kin k hk y),
                    kscr := fun x hx => .inl (h.kscr x hx), kown := fun hp x hx => .inl (h.kown hp x hx),
                    krecv := fun d' hd' x hx => ?_, kout := fun hp x => .inl (h.kout hp x) }
    · refine (Set.mem_insert_iff.trans (or_congr_right (h.wd i))).trans ?_
      cases i with
      | inp k' c' => exact ⟨fun hh => hh.elim (fun e => nomatch e) id, .inr⟩
      | out c' => exact ⟨fun hh => hh.elim (fun e => nomatch e) id, .inr⟩
      | send d' c' =>
        constructor
        · rintro (hh | ⟨hc, hlt⟩)
          · cases hh
            exact ⟨rfl, Nat.lt_succ_self _⟩
          · exact ⟨hc, by dsimp only; omega⟩
        · rintro ⟨hc, hlt⟩
          by_cases hdd : d'.val = d.val
          · obtain rfl := Fin.ext hdd
            exact .inl (by rw [hc])
          · exact .inr ⟨hc, by dsimp only at hlt; omega⟩
    · by_cases hdd : d'.val = d.val
      · obtain rfl := Fin.ext hdd
        refine .inr ⟨?_, ?_⟩
        · show (⟨(peer d' (prev d' c)).tc.loc cc0_stg4_0, x⟩ : Elem nD τ sig) ∈ rowSet (peer d' (prev d' c)) (prev d' c)
          exact ⟨x, hx, rfl⟩
        · trivial
      · exact .inl (h.krecv d' (by dsimp only at hd'; omega) x hx)

/-! ## Loads and stores -/

/-- A load, whatever it reads. -/
theorem step_load {cs : CoreSpace} {s : Shape} {e : EltTy} (mr : Memref sig (Proc.tc : Proc τ).kind cs s e) (r : LoadRect s)
    (hl : mr.view.LoadsAt r) (k) (hk : ∀ v, Runs m c Q n L (k v)) :
    Runs m c Q (n + 1) L (Prog.lift (TpuEff.load mr r hl) >>= k) :=
  Plan.WP.load _ _ _ _ fun _ _ => hk _

/-- The load of a whole operand, staged. -/
theorem step_load0 (h : St m c p L) (hi : 1 ≤ p.ko) (inb hl) (k) (hk : Runs m c Q n L (k (m.mem (c.tc.loc main_arg0)))) :
    Runs m c Q (n + 1) L (Prog.lift (TpuEff.load (Memref.whole cc0_stg0_0)
      (Rect.unit (s := S128x4096) ![0, 0] S128x4096.size inb).toLoadRect hl) >>= k) := by
  refine Plan.WP.load _ _ _ _ fun f hf => ?_
  have e : (Memref.whole cc0_stg0_0).view.readAt (Elt F) (Rect.unit (s := S128x4096) ![0, 0] S128x4096.size inb).toLoadRect f
      = m.mem (c.tc.loc main_arg0) := by
    funext x
    refine (congrArg f (emb_all (s := S128x4096) (o := ![0, 0]) (fun a => by fin_cases a <;> rfl) inb x)).trans ?_
    exact hf x (h.kin 0 hi x)
  exact e ▸ hk

theorem step_load1 (h : St m c p L) (hi : 2 ≤ p.ko) (inb hl) (k) (hk : Runs m c Q n L (k (m.mem (c.tc.loc main_arg1)))) :
    Runs m c Q (n + 1) L (Prog.lift (TpuEff.load (Memref.whole cc0_stg1_0)
      (Rect.unit (s := S4096x2048) ![0, 0] S4096x2048.size inb).toLoadRect hl) >>= k) := by
  refine Plan.WP.load _ _ _ _ fun f hf => ?_
  have e : (Memref.whole cc0_stg1_0).view.readAt (Elt F) (Rect.unit (s := S4096x2048) ![0, 0] S4096x2048.size inb).toLoadRect f
      = m.mem (c.tc.loc main_arg1) := by
    funext x
    refine (congrArg f (emb_all (s := S4096x2048) (o := ![0, 0]) (fun a => by fin_cases a <;> rfl) inb x)).trans ?_
    exact hf x (h.kin 1 hi x)
  exact e ▸ hk

theorem step_load2 (h : St m c p L) (hi : 3 ≤ p.ko) (inb h1 h2) (k) (hk : Runs m c Q n L (k (m.mem (c.tc.loc main_arg2) one))) :
    Runs m c Q (n + 1) L (smemLoad (Memref.whole cc0_stg2_0) (Rect.unit (s := S1) ![0] S1.size inb) h1 h2 >>= k) := by
  refine Plan.WP.load _ _ _ _ fun f hf => ?_
  have e : ∀ x : S1.Idx, (Memref.whole cc0_stg2_0).view.readAt (Elt F) (Rect.unit (s := S1) ![0] S1.size inb).toLoadRect f x
      = m.mem (c.tc.loc main_arg2) x := by
    intro x
    refine (congrArg f (emb_all (s := S1) (o := ![0]) (fun a => by fin_cases a; rfl) inb x)).trans ?_
    exact hf x (h.kin 2 hi x)
  refine (congrArg (fun z => Runs m c Q n L (k z)) (e _)).mpr hk

theorem step_load3 (h : St m c p L) (hi : 4 ≤ p.ko) (inb h1 h2) (k) (hk : Runs m c Q n L (k (m.mem (c.tc.loc main_arg3) one))) :
    Runs m c Q (n + 1) L (smemLoad (Memref.whole cc0_stg3_0) (Rect.unit (s := S1) ![0] S1.size inb) h1 h2 >>= k) := by
  refine Plan.WP.load _ _ _ _ fun f hf => ?_
  have e : ∀ x : S1.Idx, (Memref.whole cc0_stg3_0).view.readAt (Elt F) (Rect.unit (s := S1) ![0] S1.size inb).toLoadRect f x
      = m.mem (c.tc.loc main_arg3) x := by
    intro x
    refine (congrArg f (emb_all (s := S1) (o := ![0]) (fun a => by fin_cases a; rfl) inb x)).trans ?_
    exact hf x (h.kin 3 hi x)
  refine (congrArg (fun z => Runs m c Q n L (k z)) (e _)).mpr hk

/-- The load of a block of the scratch that has been stored. -/
theorem step_load_own (h : St m c p L) (hb : p.blk = 32) (j : Fin 32) {o : Fin 3 → ℕ} (ho : o = ![j.val, 0, 0]) (inb hl) (k)
    (hk : ∀ v : S1x128x64.Idx → Elt F .f32, (∀ x, v x = cut (pay m c) (ix3 j (x 1) (x 2))) → Runs m c Q n L (k v)) :
    Runs m c Q (n + 1) L (Prog.lift (TpuEff.load (Memref.whole cc0_scratch0)
      (Rect.unit (s := S32x128x64) o S1x128x64.size inb).toLoadRect hl) >>= k) := by
  refine Plan.WP.load _ _ _ _ fun f hf => hk _ fun x => ?_
  refine (congrArg f (emb_slab ho inb x)).trans ?_
  refine hf (ix3 j (x 1) (x 2)) (h.kscr _ ?_)
  rw [hb]
  exact j.isLt

/-- What such a store leaves: the block, and the rest as it was. -/
theorem write_block {g f : S32x128x64.Idx → Elt F .f32} {w : S1x128x64.Idx → Elt F .f32} {j : Fin 32} {o : Fin 3 → ℕ} (ho : o = ![j.val, 0, 0])
    (hw : ∀ x, w x = g (ix3 j (x 1) (x 2))) (inb) (y : S32x128x64.Idx) (hy : y 0 = j ∨ f y = g y) :
    ((Memref.whole cc0_scratch0).access (Rect.unit (s := S32x128x64) o S1x128x64.size inb)).write (Elt F) f w Finset.univ y = g y := by
  by_cases hyj : y 0 = j
  · have e : ix3 (a := 32) (b := 128) (c := 64) j (y 1) (y 2) = y := by
      funext a
      match a with
      | 0 => exact hyj.symm
      | 1 => rfl
      | 2 => rfl
    have e' : (Rect.unit (s := S32x128x64) o S1x128x64.size inb).emb (ix3 (a := 1) (b := 128) (c := 64) 0 (y 1) (y 2)) = y :=
      (emb_slab ho inb _).trans e
    have e2 := View.write_emb_of_mem (v := (Memref.whole cc0_scratch0).access (Rect.unit (s := S32x128x64) o S1x128x64.size inb)) (Val := Elt F) f w
      (Finset.mem_univ (ix3 (a := 1) (b := 128) (c := 64) 0 (y 1) (y 2)))
    have e3 : w (ix3 (a := 1) (b := 128) (c := 64) 0 (y 1) (y 2)) = g y := (hw _).trans (congrArg g e)
    exact (congrArg (((Memref.whole cc0_scratch0).access (Rect.unit (s := S32x128x64) o S1x128x64.size inb)).write (Elt F) f w Finset.univ) e').symm.trans
      (e2.trans e3)
  · refine (View.write_of_not_mem (v := (Memref.whole cc0_scratch0).access (Rect.unit (s := S32x128x64) o S1x128x64.size inb)) f w Finset.univ ?_).trans
      (hy.resolve_left hyj)
    intro hmem
    obtain ⟨x, _, hx⟩ := Finset.mem_map.mp hmem
    have hx' : (Rect.unit (s := S32x128x64) o S1x128x64.size inb).emb x = y := hx
    exact hyj ((congrFun hx' 0).symm.trans (congrFun (emb_slab ho inb x) 0))

/-- The same of a store of the device's own rows of the result. -/
theorem write_rows {g f : S4096x64.Idx → Elt F .f32} {w : S128x64.Idx → Elt F .f32} {c : Dev nD} {o : Fin 2 → ℕ} (ho : o = ![128 * c.val, 0]) (inb)
    (hw : ∀ x, w x = g ((Rect.unit (s := S4096x64) o S128x64.size inb).emb x)) (y : S4096x64.Idx) (hy : rowDev y = c ∨ f y = g y) :
    ((Memref.whole cc0_stg4_0).access (Rect.unit (s := S4096x64) o S128x64.size inb)).write (Elt F) f w Finset.univ y = g y := by
  by_cases hyj : rowDev y = c
  · obtain ⟨x, rfl⟩ := cov_send c ho inb y hyj
    have e2 := View.write_emb_of_mem (v := (Memref.whole cc0_stg4_0).access (Rect.unit (s := S4096x64) o S128x64.size inb)) (Val := Elt F) f w
      (Finset.mem_univ x)
    exact e2.trans (hw x)
  · refine (View.write_of_not_mem (v := (Memref.whole cc0_stg4_0).access (Rect.unit (s := S4096x64) o S128x64.size inb)) f w Finset.univ ?_).trans
      (hy.resolve_left hyj)
    intro hmem
    obtain ⟨x, _, hx⟩ := Finset.mem_map.mp hmem
    have hx' : (Rect.unit (s := S4096x64) o S128x64.size inb).emb x = y := hx
    exact hyj (hx' ▸ mem_send c ho inb x)

/-- The store of a block of the scratch. -/
theorem step_block (h : St m c p L) (j : Fin 32) (hb : p.blk = j.val) {o : Fin 3 → ℕ} (ho : o = ![j.val, 0, 0])
    {w : S1x128x64.Idx → Elt F .f32} (hw : ∀ x, w x = cut (pay m c) (ix3 j (x 1) (x 2))) (inb hst hm) (k)
    (hk : ∀ L', St m c { p with blk := j.val + 1 } L' → Runs m c Q n L' (k ⟨⟩)) :
    Runs m c Q (n + 1) L (Prog.lift (TpuEff.store (Memref.whole cc0_scratch0)
      (Rect.unit (s := S32x128x64) o S1x128x64.size inb) w Finset.univ hst hm) >>= k) := by
  refine Plan.WP.store _ _ _ _ _ _ _ {y : S32x128x64.Idx | y 0 = j} (fun _ _ => trivial)
    (fun f y _ hy => write_block (g := cut (pay m c)) ho hw inb y hy) (hk _ ?_)
  have h' := h.learn ((fun y : S32x128x64.Idx => (⟨Proc.devRef .tc cc0_scratch0, y⟩ : LElem τ sig)) '' {y : S32x128x64.Idx | y 0 = j})
  refine { h' with kscr := fun x hx => ?_ }
  by_cases hxj : (x 0).val = j.val
  · exact .inr ⟨x, Fin.ext hxj, rfl⟩
  · exact h'.kscr x (by dsimp only at hx; omega)

/-- The store of the device's own rows of the result. -/
theorem step_own (h : St m c p L) {o : Fin 2 → ℕ} (ho : o = ![128 * c.val, 0])
    {w : S128x64.Idx → Elt F .f32} (hw : ∀ x, w x = cut (pay m c) (ix3 c (x 0) (x 1))) (inb hst hm) (k)
    (hk : ∀ L', St m c { p with own := 1 } L' → Runs m c Q n L' (k ⟨⟩)) :
    Runs m c Q (n + 1) L (Prog.lift (TpuEff.store (Memref.whole cc0_stg4_0)
      (Rect.unit (s := S4096x64) o S128x64.size inb) w Finset.univ hst hm) >>= k) := by
  have hw' : ∀ x, w x = res m c ((Rect.unit (s := S4096x64) o S128x64.size inb).emb x) := fun x => by
    rw [emb_rows ho inb]
    exact (hw x).trans (res_rows m c c (x 0) (x 1) _).symm
  refine Plan.WP.store _ _ _ _ _ _ _ {y : S4096x64.Idx | rowDev y = c} (fun _ _ => trivial)
    (fun f y _ hy => write_rows (g := res m c) ho inb hw' y hy) (hk _ ?_)
  have h' := h.learn ((fun y : S4096x64.Idx => (⟨Proc.devRef .tc cc0_stg4_0, y⟩ : LElem τ sig)) '' {y : S4096x64.Idx | rowDev y = c})
  exact { h' with kown := fun _ x hx => .inr ⟨x, hx, rfl⟩ }

end Cert.SyncedIdeal.Mesh

end
-- ==== Proof.Synced.Walk.lean ====
/- The kernel's body, part by part: every operation in turn, from the operands staged to the result complete in its
   staging buffer. -/
module

public import proofs.«01_k».proof.Proof.Synced.Steps
public import Idealize.ShloMosaic.Lib.Pipeline.Value

@[expose] public section

noncomputable section

namespace Cert.SyncedIdeal.Mesh

open Idealize.ShloMosaic Idealize.ShloMosaic.TcCoe Idealize.SL.Sem
open Cert.Transfers Cert.SyncedIdeal.Gen
open scoped Classical

variable {F : FTy → Type} [FloatOps F]

/-! ## The payloads of the stores -/

/-- A store's payload, 64 columns of the product, is the block of the cut. -/
theorem pay_block {j : Fin 32} {o : Fin 2 → ℕ} (ho : o = ![0, 64 * j.val]) (v : FVec F S128x2048 .f32) (hs) (hc) (x : S1x128x64.Idx) :
    shapeCast S1x128x64 (extractStridedSlice S128x64 o v hs) hc x = cut v (ix3 j (x 1) (x 2)) := by
  subst ho
  refine (shapeCast_addUnit_apply ![128, 64] _ hc x).trans ?_
  refine extractStridedSlice_apply _ v hs _ (ix2 (x 1) ⟨64 * j.val + (x 2).val, by
    have h1 : (x 2).val < 64 := (x 2).isLt
    have h2 := j.isLt
    omega⟩) fun a => ?_
  match a with
  | 0 => show (x 1).val = 0 + (x 1).val; omega
  | 1 => rfl

/-- The device's own block, as it is stored among its rows of the result. -/
theorem pay_own {g : S32x128x64.Idx → Elt F .f32} {j : Fin 32} {v : S1x128x64.Idx → Elt F .f32}
    (hv : ∀ x, v x = g (ix3 j (x 1) (x 2))) (hc) (x : S128x64.Idx) : shapeCast S128x64 v hc x = g (ix3 j (x 0) (x 1)) :=
  (shapeCast_dropUnit_apply ![128, 64] v hc x).trans (hv _)

/-! ## The parts -/

variable {m : MemSt nD τ sig (Elt F)} {c : Dev nD} {L : (plan m).Local}
  {h0 : (Memref.whole cc0_stg0_0).IsWhole} {h1 : (Memref.whole cc0_stg1_0).IsWhole} {h2 : (Memref.whole cc0_stg2_0).IsWhole}
  {h3 : (Memref.whole cc0_stg3_0).IsWhole} {h4 : (Memref.whole cc0_stg4_0).IsWhole} {h5 : (Memref.whole cc0_scratch0).IsWhole}

theorem part1 (h : St m c ⟨4, 4, 0, 0, 0, 0, 0, 0, 0, 0, 0⟩ L)   :
    Runs m c (fun a L' => a.1 = c ∧ a.2.2.1 = pay m c ∧ (∀ x, k0_pay7 (F := F) a.2.2.2 x = cut (pay m c) (ix3 4 (x 1) (x 2))) ∧ St m c ⟨4, 4, 4, 0, 0, 0, 0, 0, 0, 0, 0⟩ L') 13 L
      (k0_part1 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 ) := by
  rw [k0_part1_eq_skeleton]
  unfold k0_part1_skel
  dsimp only
  refine Plan.WP.deviceId _ ?_
  refine step_load0 h (by decide) _ _ _ ?_
  refine step_load1 h (by decide) _ _ _ ?_
  refine step_load2 h (by decide) _ _ _ _ ?_
  refine step_load3 h (by decide) _ _ _ _ ?_
  refine step_load _ _ _ _ fun _ => ?_
  refine step_block h 0 rfl rfl (fun x => pay_block rfl _ _ _ x) _ _ _ _ fun L h => ?_
  refine step_load _ _ _ _ fun _ => ?_
  refine step_block h 1 rfl rfl (fun x => pay_block rfl _ _ _ x) _ _ _ _ fun L h => ?_
  refine step_load _ _ _ _ fun _ => ?_
  refine step_block h 2 rfl rfl (fun x => pay_block rfl _ _ _ x) _ _ _ _ fun L h => ?_
  refine step_load _ _ _ _ fun _ => ?_
  refine step_block h 3 rfl rfl (fun x => pay_block rfl _ _ _ x) _ _ _ _ fun L h => ?_
  exact Plan.WP.ret _ _ _ ⟨rfl, rfl, fun x => pay_block (j := 4) rfl (pay m c) slices_S128x2048_o0_256_S128x64 shapeCasts_S128x64_S1x128x64 x, h⟩

theorem part2 (h : St m c ⟨4, 4, 4, 0, 0, 0, 0, 0, 0, 0, 0⟩ L) (v30 : FVec F S128x64 .f32) (hv : ∀ x, k0_pay7 v30 x = cut (pay m c) (ix3 4 (x 1) (x 2))) :
    Runs m c (fun _ L' => St m c ⟨4, 4, 12, 0, 0, 0, 0, 0, 0, 0, 0⟩ L') 16 L
      (k0_part2 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 (pay m c) v30) := by
  rw [k0_part2_eq_skeleton]
  unfold k0_part2_skel
  dsimp only
  refine step_load _ _ _ _ fun _ => ?_
  refine step_block h 4 rfl rfl hv _ _ _ _ fun L h => ?_
  refine step_load _ _ _ _ fun _ => ?_
  refine step_block h 5 rfl rfl (fun x => pay_block rfl _ _ _ x) _ _ _ _ fun L h => ?_
  refine step_load _ _ _ _ fun _ => ?_
  refine step_block h 6 rfl rfl (fun x => pay_block rfl _ _ _ x) _ _ _ _ fun L h => ?_
  refine step_load _ _ _ _ fun _ => ?_
  refine step_block h 7 rfl rfl (fun x => pay_block rfl _ _ _ x) _ _ _ _ fun L h => ?_
  refine step_load _ _ _ _ fun _ => ?_
  refine step_block h 8 rfl rfl (fun x => pay_block rfl _ _ _ x) _ _ _ _ fun L h => ?_
  refine step_load _ _ _ _ fun _ => ?_
  refine step_block h 9 rfl rfl (fun x => pay_block rfl _ _ _ x) _ _ _ _ fun L h => ?_
  refine step_load _ _ _ _ fun _ => ?_
  refine step_block h 10 rfl rfl (fun x => pay_block rfl _ _ _ x) _ _ _ _ fun L h => ?_
  refine step_load _ _ _ _ fun _ => ?_
  refine step_block h 11 rfl rfl (fun x => pay_block rfl _ _ _ x) _ _ _ _ fun L h => ?_
  exact Plan.WP.ret _ _ _ h

theorem part3 (h : St m c ⟨4, 4, 12, 0, 0, 0, 0, 0, 0, 0, 0⟩ L)   :
    Runs m c (fun a L' => (∀ x, k0_pay23 (F := F) a x = cut (pay m c) (ix3 19 (x 1) (x 2))) ∧ St m c ⟨4, 4, 19, 0, 0, 0, 0, 0, 0, 0, 0⟩ L') 14 L
      (k0_part3 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 (pay m c)) := by
  rw [k0_part3_eq_skeleton]
  unfold k0_part3_skel
  dsimp only
  refine step_load _ _ _ _ fun _ => ?_
  refine step_block h 12 rfl rfl (fun x => pay_block rfl _ _ _ x) _ _ _ _ fun L h => ?_
  refine step_load _ _ _ _ fun _ => ?_
  refine step_block h 13 rfl rfl (fun x => pay_block rfl _ _ _ x) _ _ _ _ fun L h => ?_
  refine step_load _ _ _ _ fun _ => ?_
  refine step_block h 14 rfl rfl (fun x => pay_block rfl _ _ _ x) _ _ _ _ fun L h => ?_
  refine step_load _ _ _ _ fun _ => ?_
  refine step_block h 15 rfl rfl (fun x => pay_block rfl _ _ _ x) _ _ _ _ fun L h => ?_
  refine step_load _ _ _ _ fun _ => ?_
  refine step_block h 16 rfl rfl (fun x => pay_block rfl _ _ _ x) _ _ _ _ fun L h => ?_
  refine step_load _ _ _ _ fun _ => ?_
  refine step_block h 17 rfl rfl (fun x => pay_block rfl _ _ _ x) _ _ _ _ fun L h => ?_
  refine step_load _ _ _ _ fun _ => ?_
  refine step_block h 18 rfl rfl (fun x => pay_block rfl _ _ _ x) _ _ _ _ fun L h => ?_
  exact Plan.WP.ret _ _ _ ⟨fun x => pay_block (j := 19) rfl (pay m c) slices_S128x2048_o0_1216_S128x64 shapeCasts_S128x64_S1x128x64 x, h⟩

theorem part4 (h : St m c ⟨4, 4, 19, 0, 0, 0, 0, 0, 0, 0, 0⟩ L) (v90 : FVec F S128x64 .f32) (hv : ∀ x, k0_pay23 v90 x = cut (pay m c) (ix3 19 (x 1) (x 2))) :
    Runs m c (fun _ L' => St m c ⟨4, 4, 27, 0, 0, 0, 0, 0, 0, 0, 0⟩ L') 16 L
      (k0_part4 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 (pay m c) v90) := by
  rw [k0_part4_eq_skeleton]
  unfold k0_part4_skel
  dsimp only
  refine step_load _ _ _ _ fun _ => ?_
  refine step_block h 19 rfl rfl hv _ _ _ _ fun L h => ?_
  refine step_load _ _ _ _ fun _ => ?_
  refine step_block h 20 rfl rfl (fun x => pay_block rfl _ _ _ x) _ _ _ _ fun L h => ?_
  refine step_load _ _ _ _ fun _ => ?_
  refine step_block h 21 rfl rfl (fun x => pay_block rfl _ _ _ x) _ _ _ _ fun L h => ?_
  refine step_load _ _ _ _ fun _ => ?_
  refine step_block h 22 rfl rfl (fun x => pay_block rfl _ _ _ x) _ _ _ _ fun L h => ?_
  refine step_load _ _ _ _ fun _ => ?_
  refine step_block h 23 rfl rfl (fun x => pay_block rfl _ _ _ x) _ _ _ _ fun L h => ?_
  refine step_load _ _ _ _ fun _ => ?_
  refine step_block h 24 rfl rfl (fun x => pay_block rfl _ _ _ x) _ _ _ _ fun L h => ?_
  refine step_load _ _ _ _ fun _ => ?_
  refine step_block h 25 rfl rfl (fun x => pay_block rfl _ _ _ x) _ _ _ _ fun L h => ?_
  refine step_load _ _ _ _ fun _ => ?_
  refine step_block h 26 rfl rfl (fun x => pay_block rfl _ _ _ x) _ _ _ _ fun L h => ?_
  exact Plan.WP.ret _ _ _ h

theorem part5 (h : St m c ⟨4, 4, 27, 0, 0, 0, 0, 0, 0, 0, 0⟩ L) (v2 : BitVec 32)  :
    Runs m c (fun a L' => a.1.sem = barrier0 ∧ St m c ⟨4, 4, 32, 1, 0, 0, 0, 0, 0, 0, 0⟩ L') 13 L
      (k0_part5 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 (pay m c)) := by
  rw [k0_part5_eq_skeleton]
  unfold k0_part5_skel
  dsimp only
  refine step_load _ _ _ _ fun _ => ?_
  refine step_block h 27 rfl rfl (fun x => pay_block rfl _ _ _ x) _ _ _ _ fun L h => ?_
  refine step_load _ _ _ _ fun _ => ?_
  refine step_block h 28 rfl rfl (fun x => pay_block rfl _ _ _ x) _ _ _ _ fun L h => ?_
  refine step_load _ _ _ _ fun _ => ?_
  refine step_block h 29 rfl rfl (fun x => pay_block rfl _ _ _ x) _ _ _ _ fun L h => ?_
  refine step_load _ _ _ _ fun _ => ?_
  refine step_block h 30 rfl rfl (fun x => pay_block rfl _ _ _ x) _ _ _ _ fun L h => ?_
  refine step_load _ _ _ _ fun _ => ?_
  refine step_block h 31 rfl rfl (fun x => pay_block rfl _ _ _ x) _ _ _ _ fun L h => ?_
  refine step_load_own h rfl c (k0_off1_eq c) _ _ _ fun v hv => ?_
  refine step_load _ _ _ _ fun _ => ?_
  refine step_own h (k0_off2_eq c) (fun x => pay_own hv _ x) _ _ _ _ fun L h => ?_
  exact Plan.WP.ret _ _ _ ⟨rfl, h⟩

theorem part6 (h : St m c ⟨4, 4, 32, 1, 0, 0, 0, 0, 0, 0, 0⟩ L) (v2 : BitVec 32) (v148 : Sems sig S_) (v151 : BitVec 32) (c0_i32 : BitVec 32) (hb : v148.sem = barrier0) :
    Runs m c (fun _ L' => St m c ⟨4, 4, 32, 1, 6, 0, 0, 0, 0, 0, 0⟩ L') 6 L
      (k0_part6 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v148 v151 c0_i32) := by
  rw [k0_part6_eq_skeleton]
  unfold k0_part6_skel
  dsimp only
  refine step_signal h 0 rfl (Fin.ext (k0_dev1_eq c)) hb _ fun L h => ?_
  refine step_signal h 1 rfl (Fin.ext (k0_dev2_eq c)) hb _ fun L h => ?_
  refine step_signal h 2 rfl (Fin.ext (k0_dev3_eq c)) hb _ fun L h => ?_
  refine step_signal h 3 rfl (Fin.ext (k0_dev4_eq c)) hb _ fun L h => ?_
  refine step_signal h 4 rfl (Fin.ext (k0_dev5_eq c)) hb _ fun L h => ?_
  refine step_signal h 5 rfl (Fin.ext (k0_dev6_eq c)) hb _ fun L h => ?_
  exact Plan.WP.ret _ _ _ h

theorem part7 (h : St m c ⟨4, 4, 32, 1, 6, 0, 0, 0, 0, 0, 0⟩ L) (v2 : BitVec 32) (v148 : Sems sig S_) (v175 : BitVec 32) (c0_i32_100 : BitVec 32) (hb : v148.sem = barrier0) :
    Runs m c (fun _ L' => St m c ⟨4, 4, 32, 1, 12, 0, 0, 0, 0, 0, 0⟩ L') 6 L
      (k0_part7 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v148 v175 c0_i32_100) := by
  rw [k0_part7_eq_skeleton]
  unfold k0_part7_skel
  dsimp only
  refine step_signal h 6 rfl (Fin.ext (k0_dev7_eq c)) hb _ fun L h => ?_
  refine step_signal h 7 rfl (Fin.ext (k0_dev8_eq c)) hb _ fun L h => ?_
  refine step_signal h 8 rfl (Fin.ext (k0_dev9_eq c)) hb _ fun L h => ?_
  refine step_signal h 9 rfl (Fin.ext (k0_dev10_eq c)) hb _ fun L h => ?_
  refine step_signal h 10 rfl (Fin.ext (k0_dev11_eq c)) hb _ fun L h => ?_
  refine step_signal h 11 rfl (Fin.ext (k0_dev12_eq c)) hb _ fun L h => ?_
  exact Plan.WP.ret _ _ _ h

theorem part8 (h : St m c ⟨4, 4, 32, 1, 12, 0, 0, 0, 0, 0, 0⟩ L) (v2 : BitVec 32) (v148 : Sems sig S_) (v199 : BitVec 32) (c0_i32_124 : BitVec 32) (hb : v148.sem = barrier0) :
    Runs m c (fun _ L' => St m c ⟨4, 4, 32, 1, 18, 0, 0, 0, 0, 0, 0⟩ L') 6 L
      (k0_part8 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v148 v199 c0_i32_124) := by
  rw [k0_part8_eq_skeleton]
  unfold k0_part8_skel
  dsimp only
  refine step_signal h 12 rfl (Fin.ext (k0_dev13_eq c)) hb _ fun L h => ?_
  refine step_signal h 13 rfl (Fin.ext (k0_dev14_eq c)) hb _ fun L h => ?_
  refine step_signal h 14 rfl (Fin.ext (k0_dev15_eq c)) hb _ fun L h => ?_
  refine step_signal h 15 rfl (Fin.ext (k0_dev16_eq c)) hb _ fun L h => ?_
  refine step_signal h 16 rfl (Fin.ext (k0_dev17_eq c)) hb _ fun L h => ?_
  refine step_signal h 17 rfl (Fin.ext (k0_dev18_eq c)) hb _ fun L h => ?_
  exact Plan.WP.ret _ _ _ h

theorem part9 (h : St m c ⟨4, 4, 32, 1, 18, 0, 0, 0, 0, 0, 0⟩ L) (v2 : BitVec 32) (v148 : Sems sig S_) (v223 : BitVec 32) (c0_i32_148 : BitVec 32) (hb : v148.sem = barrier0) :
    Runs m c (fun _ L' => St m c ⟨4, 4, 32, 1, 24, 0, 0, 0, 0, 0, 0⟩ L') 6 L
      (k0_part9 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v148 v223 c0_i32_148) := by
  rw [k0_part9_eq_skeleton]
  unfold k0_part9_skel
  dsimp only
  refine step_signal h 18 rfl (Fin.ext (k0_dev19_eq c)) hb _ fun L h => ?_
  refine step_signal h 19 rfl (Fin.ext (k0_dev20_eq c)) hb _ fun L h => ?_
  refine step_signal h 20 rfl (Fin.ext (k0_dev21_eq c)) hb _ fun L h => ?_
  refine step_signal h 21 rfl (Fin.ext (k0_dev22_eq c)) hb _ fun L h => ?_
  refine step_signal h 22 rfl (Fin.ext (k0_dev23_eq c)) hb _ fun L h => ?_
  refine step_signal h 23 rfl (Fin.ext (k0_dev24_eq c)) hb _ fun L h => ?_
  exact Plan.WP.ret _ _ _ h

theorem part10 (h : St m c ⟨4, 4, 32, 1, 24, 0, 0, 0, 0, 0, 0⟩ L) (v2 : BitVec 32) (v148 : Sems sig S_) (v247 : BitVec 32) (c0_i32_172 : BitVec 32) (hb : v148.sem = barrier0) :
    Runs m c (fun _ L' => St m c ⟨4, 4, 32, 1, 30, 0, 0, 0, 0, 0, 0⟩ L') 6 L
      (k0_part10 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v148 v247 c0_i32_172) := by
  rw [k0_part10_eq_skeleton]
  unfold k0_part10_skel
  dsimp only
  refine step_signal h 24 rfl (Fin.ext (k0_dev25_eq c)) hb _ fun L h => ?_
  refine step_signal h 25 rfl (Fin.ext (k0_dev26_eq c)) hb _ fun L h => ?_
  refine step_signal h 26 rfl (Fin.ext (k0_dev27_eq c)) hb _ fun L h => ?_
  refine step_signal h 27 rfl (Fin.ext (k0_dev28_eq c)) hb _ fun L h => ?_
  refine step_signal h 28 rfl (Fin.ext (k0_dev29_eq c)) hb _ fun L h => ?_
  refine step_signal h 29 rfl (Fin.ext (k0_dev30_eq c)) hb _ fun L h => ?_
  exact Plan.WP.ret _ _ _ h

theorem part11 (h : St m c ⟨4, 4, 32, 1, 30, 0, 0, 0, 0, 0, 0⟩ L) (v2 : BitVec 32) (v148 : Sems sig S_) (v271 : BitVec 32) (c0_i32_196 : BitVec 32) (hb : v148.sem = barrier0) :
    Runs m c (fun _ L' => St m c ⟨4, 4, 32, 1, 31, 1, 2, 0, 0, 0, 0⟩ L') 4 L
      (k0_part11 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v148 v271 c0_i32_196) := by
  rw [k0_part11_eq_skeleton]
  unfold k0_part11_skel
  dsimp only
  refine step_signal h 30 rfl (Fin.ext (k0_dev31_eq c)) hb _ fun L h => ?_
  refine step_barrier h rfl rfl hb _ fun L h => ?_
  refine step_send h 0 rfl rfl rfl (k0_off4_eq c 0) (k0_off3_eq c) (Fin.ext (k0_dev32_eq c)) rfl _ _ _ _ _ _ _ _ _ _ _ _ _ fun L h => ?_
  refine step_send h 1 rfl rfl rfl (k0_off4_eq c 1) (k0_off3_eq c) (Fin.ext (k0_dev33_eq c)) rfl _ _ _ _ _ _ _ _ _ _ _ _ _ fun L h => ?_
  exact Plan.WP.ret _ _ _ h

theorem part12 (h : St m c ⟨4, 4, 32, 1, 31, 1, 2, 0, 0, 0, 0⟩ L) (v2 : BitVec 32) (v298 : BitVec 32) (c1_i32_223 : BitVec 32)  :
    Runs m c (fun _ L' => St m c ⟨4, 4, 32, 1, 31, 1, 5, 0, 0, 0, 0⟩ L') 3 L
      (k0_part12 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v298 c1_i32_223) := by
  rw [k0_part12_eq_skeleton]
  unfold k0_part12_skel
  dsimp only
  refine step_send h 2 rfl rfl rfl (k0_off4_eq c 2) (k0_off3_eq c) (Fin.ext (k0_dev34_eq c)) rfl _ _ _ _ _ _ _ _ _ _ _ _ _ fun L h => ?_
  refine step_send h 3 rfl rfl rfl (k0_off4_eq c 3) (k0_off3_eq c) (Fin.ext (k0_dev35_eq c)) rfl _ _ _ _ _ _ _ _ _ _ _ _ _ fun L h => ?_
  refine step_send h 4 rfl rfl rfl (k0_off4_eq c 4) (k0_off3_eq c) (Fin.ext (k0_dev36_eq c)) rfl _ _ _ _ _ _ _ _ _ _ _ _ _ fun L h => ?_
  exact Plan.WP.ret _ _ _ h

theorem part13 (h : St m c ⟨4, 4, 32, 1, 31, 1, 5, 0, 0, 0, 0⟩ L) (v2 : BitVec 32)  :
    Runs m c (fun _ L' => St m c ⟨4, 4, 32, 1, 31, 1, 7, 0, 0, 0, 0⟩ L') 2 L
      (k0_part13 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part13_eq_skeleton]
  unfold k0_part13_skel
  dsimp only
  refine step_send h 5 rfl rfl rfl (k0_off4_eq c 5) (k0_off3_eq c) (Fin.ext (k0_dev37_eq c)) rfl _ _ _ _ _ _ _ _ _ _ _ _ _ fun L h => ?_
  refine step_send h 6 rfl rfl rfl (k0_off4_eq c 6) (k0_off3_eq c) (Fin.ext (k0_dev38_eq c)) rfl _ _ _ _ _ _ _ _ _ _ _ _ _ fun L h => ?_
  exact Plan.WP.ret _ _ _ h

theorem part14 (h : St m c ⟨4, 4, 32, 1, 31, 1, 7, 0, 0, 0, 0⟩ L) (v2 : BitVec 32)  :
    Runs m c (fun _ L' => St m c ⟨4, 4, 32, 1, 31, 1, 10, 0, 0, 0, 0⟩ L') 3 L
      (k0_part14 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part14_eq_skeleton]
  unfold k0_part14_skel
  dsimp only
  refine step_send h 7 rfl rfl rfl (k0_off4_eq c 7) (k0_off3_eq c) (Fin.ext (k0_dev39_eq c)) rfl _ _ _ _ _ _ _ _ _ _ _ _ _ fun L h => ?_
  refine step_send h 8 rfl rfl rfl (k0_off4_eq c 8) (k0_off3_eq c) (Fin.ext (k0_dev40_eq c)) rfl _ _ _ _ _ _ _ _ _ _ _ _ _ fun L h => ?_
  refine step_send h 9 rfl rfl rfl (k0_off4_eq c 9) (k0_off3_eq c) (Fin.ext (k0_dev41_eq c)) rfl _ _ _ _ _ _ _ _ _ _ _ _ _ fun L h => ?_
  exact Plan.WP.ret _ _ _ h

theorem part15 (h : St m c ⟨4, 4, 32, 1, 31, 1, 10, 0, 0, 0, 0⟩ L) (v2 : BitVec 32) (v394 : BitVec 32) (c128_i32_300 : BitVec 32)  :
    Runs m c (fun _ L' => St m c ⟨4, 4, 32, 1, 31, 1, 12, 0, 0, 0, 0⟩ L') 2 L
      (k0_part15 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v394 c128_i32_300) := by
  rw [k0_part15_eq_skeleton]
  unfold k0_part15_skel
  dsimp only
  refine step_send h 10 rfl rfl rfl (k0_off4_eq c 10) (k0_off3_eq c) (Fin.ext (k0_dev42_eq c)) rfl _ _ _ _ _ _ _ _ _ _ _ _ _ fun L h => ?_
  refine step_send h 11 rfl rfl rfl (k0_off4_eq c 11) (k0_off3_eq c) (Fin.ext (k0_dev43_eq c)) rfl _ _ _ _ _ _ _ _ _ _ _ _ _ fun L h => ?_
  exact Plan.WP.ret _ _ _ h

theorem part16 (h : St m c ⟨4, 4, 32, 1, 31, 1, 12, 0, 0, 0, 0⟩ L) (v2 : BitVec 32)  :
    Runs m c (fun _ L' => St m c ⟨4, 4, 32, 1, 31, 1, 15, 0, 0, 0, 0⟩ L') 3 L
      (k0_part16 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part16_eq_skeleton]
  unfold k0_part16_skel
  dsimp only
  refine step_send h 12 rfl rfl rfl (k0_off4_eq c 12) (k0_off3_eq c) (Fin.ext (k0_dev44_eq c)) rfl _ _ _ _ _ _ _ _ _ _ _ _ _ fun L h => ?_
  refine step_send h 13 rfl rfl rfl (k0_off4_eq c 13) (k0_off3_eq c) (Fin.ext (k0_dev45_eq c)) rfl _ _ _ _ _ _ _ _ _ _ _ _ _ fun L h => ?_
  refine step_send h 14 rfl rfl rfl (k0_off4_eq c 14) (k0_off3_eq c) (Fin.ext (k0_dev46_eq c)) rfl _ _ _ _ _ _ _ _ _ _ _ _ _ fun L h => ?_
  exact Plan.WP.ret _ _ _ h

theorem part17 (h : St m c ⟨4, 4, 32, 1, 31, 1, 15, 0, 0, 0, 0⟩ L) (v2 : BitVec 32) (v456 : BitVec 32)  :
    Runs m c (fun _ L' => St m c ⟨4, 4, 32, 1, 31, 1, 18, 0, 0, 0, 0⟩ L') 3 L
      (k0_part17 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v456) := by
  rw [k0_part17_eq_skeleton]
  unfold k0_part17_skel
  dsimp only
  refine step_send h 15 rfl rfl rfl (k0_off4_eq c 15) (k0_off3_eq c) (Fin.ext (k0_dev47_eq c)) rfl _ _ _ _ _ _ _ _ _ _ _ _ _ fun L h => ?_
  refine step_send h 16 rfl rfl rfl (k0_off4_eq c 16) (k0_off3_eq c) (Fin.ext (k0_dev48_eq c)) rfl _ _ _ _ _ _ _ _ _ _ _ _ _ fun L h => ?_
  refine step_send h 17 rfl rfl rfl (k0_off4_eq c 17) (k0_off3_eq c) (Fin.ext (k0_dev49_eq c)) rfl _ _ _ _ _ _ _ _ _ _ _ _ _ fun L h => ?_
  exact Plan.WP.ret _ _ _ h

theorem part18 (h : St m c ⟨4, 4, 32, 1, 31, 1, 18, 0, 0, 0, 0⟩ L) (v2 : BitVec 32) (c19_i32_378 : BitVec 32)  :
    Runs m c (fun _ L' => St m c ⟨4, 4, 32, 1, 31, 1, 20, 0, 0, 0, 0⟩ L') 2 L
      (k0_part18 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 c19_i32_378) := by
  rw [k0_part18_eq_skeleton]
  unfold k0_part18_skel
  dsimp only
  refine step_send h 18 rfl rfl rfl (k0_off4_eq c 18) (k0_off3_eq c) (Fin.ext (k0_dev50_eq c)) rfl _ _ _ _ _ _ _ _ _ _ _ _ _ fun L h => ?_
  refine step_send h 19 rfl rfl rfl (k0_off4_eq c 19) (k0_off3_eq c) (Fin.ext (k0_dev51_eq c)) rfl _ _ _ _ _ _ _ _ _ _ _ _ _ fun L h => ?_
  exact Plan.WP.ret _ _ _ h

theorem part19 (h : St m c ⟨4, 4, 32, 1, 31, 1, 20, 0, 0, 0, 0⟩ L) (v2 : BitVec 32)  :
    Runs m c (fun _ L' => St m c ⟨4, 4, 32, 1, 31, 1, 23, 0, 0, 0, 0⟩ L') 3 L
      (k0_part19 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part19_eq_skeleton]
  unfold k0_part19_skel
  dsimp only
  refine step_send h 20 rfl rfl rfl (k0_off4_eq c 20) (k0_off3_eq c) (Fin.ext (k0_dev52_eq c)) rfl _ _ _ _ _ _ _ _ _ _ _ _ _ fun L h => ?_
  refine step_send h 21 rfl rfl rfl (k0_off4_eq c 21) (k0_off3_eq c) (Fin.ext (k0_dev53_eq c)) rfl _ _ _ _ _ _ _ _ _ _ _ _ _ fun L h => ?_
  refine step_send h 22 rfl rfl rfl (k0_off4_eq c 22) (k0_off3_eq c) (Fin.ext (k0_dev54_eq c)) rfl _ _ _ _ _ _ _ _ _ _ _ _ _ fun L h => ?_
  exact Plan.WP.ret _ _ _ h

theorem part20 (h : St m c ⟨4, 4, 32, 1, 31, 1, 23, 0, 0, 0, 0⟩ L) (v2 : BitVec 32) (v550 : BitVec 32)  :
    Runs m c (fun _ L' => St m c ⟨4, 4, 32, 1, 31, 1, 25, 0, 0, 0, 0⟩ L') 2 L
      (k0_part20 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v550) := by
  rw [k0_part20_eq_skeleton]
  unfold k0_part20_skel
  dsimp only
  refine step_send h 23 rfl rfl rfl (k0_off4_eq c 23) (k0_off3_eq c) (Fin.ext (k0_dev55_eq c)) rfl _ _ _ _ _ _ _ _ _ _ _ _ _ fun L h => ?_
  refine step_send h 24 rfl rfl rfl (k0_off4_eq c 24) (k0_off3_eq c) (Fin.ext (k0_dev56_eq c)) rfl _ _ _ _ _ _ _ _ _ _ _ _ _ fun L h => ?_
  exact Plan.WP.ret _ _ _ h

theorem part21 (h : St m c ⟨4, 4, 32, 1, 31, 1, 25, 0, 0, 0, 0⟩ L) (v2 : BitVec 32)  :
    Runs m c (fun _ L' => St m c ⟨4, 4, 32, 1, 31, 1, 28, 0, 0, 0, 0⟩ L') 3 L
      (k0_part21 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2) := by
  rw [k0_part21_eq_skeleton]
  unfold k0_part21_skel
  dsimp only
  refine step_send h 25 rfl rfl rfl (k0_off4_eq c 25) (k0_off3_eq c) (Fin.ext (k0_dev57_eq c)) rfl _ _ _ _ _ _ _ _ _ _ _ _ _ fun L h => ?_
  refine step_send h 26 rfl rfl rfl (k0_off4_eq c 26) (k0_off3_eq c) (Fin.ext (k0_dev58_eq c)) rfl _ _ _ _ _ _ _ _ _ _ _ _ _ fun L h => ?_
  refine step_send h 27 rfl rfl rfl (k0_off4_eq c 27) (k0_off3_eq c) (Fin.ext (k0_dev59_eq c)) rfl _ _ _ _ _ _ _ _ _ _ _ _ _ fun L h => ?_
  exact Plan.WP.ret _ _ _ h

theorem part22 (h : St m c ⟨4, 4, 32, 1, 31, 1, 28, 0, 0, 0, 0⟩ L) (v2 : BitVec 32) (v612 : BitVec 32) (c0_i32_484 : BitVec 32)  :
    Runs m c (fun _ L' => St m c ⟨4, 4, 32, 1, 31, 1, 31, 0, 0, 0, 0⟩ L') 3 L
      (k0_part22 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v2 v612 c0_i32_484) := by
  rw [k0_part22_eq_skeleton]
  unfold k0_part22_skel
  dsimp only
  refine step_send h 28 rfl rfl rfl (k0_off4_eq c 28) (k0_off3_eq c) (Fin.ext (k0_dev60_eq c)) rfl _ _ _ _ _ _ _ _ _ _ _ _ _ fun L h => ?_
  refine step_send h 29 rfl rfl rfl (k0_off4_eq c 29) (k0_off3_eq c) (Fin.ext (k0_dev61_eq c)) rfl _ _ _ _ _ _ _ _ _ _ _ _ _ fun L h => ?_
  refine step_send h 30 rfl rfl rfl (k0_off4_eq c 30) (k0_off3_eq c) (Fin.ext (k0_dev62_eq c)) rfl _ _ _ _ _ _ _ _ _ _ _ _ _ fun L h => ?_
  exact Plan.WP.ret _ _ _ h

theorem part23 (h : St m c ⟨4, 4, 32, 1, 31, 1, 31, 0, 0, 0, 0⟩ L) (v274 : BitVec 32) (v286 : BitVec 32)  :
    Runs m c (fun _ L' => St m c ⟨4, 4, 32, 1, 31, 1, 31, 2, 2, 0, 0⟩ L') 4 L
      (k0_part23 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v274 v286) := by
  rw [k0_part23_eq_skeleton]
  unfold k0_part23_skel
  dsimp only
  refine step_sent h 0 rfl (by decide) rfl _ _ _ _ _ _ _ _ fun L h => ?_
  refine step_recv h 0 rfl rfl rfl rfl _ _ _ _ _ _ _ fun L h => ?_
  refine step_sent h 1 rfl (by decide) rfl _ _ _ _ _ _ _ _ fun L h => ?_
  refine step_recv h 1 rfl rfl rfl rfl _ _ _ _ _ _ _ fun L h => ?_
  exact Plan.WP.ret _ _ _ h

theorem part24 (h : St m c ⟨4, 4, 32, 1, 31, 1, 31, 2, 2, 0, 0⟩ L) (v298 : BitVec 32) (v310 : BitVec 32)  :
    Runs m c (fun _ L' => St m c ⟨4, 4, 32, 1, 31, 1, 31, 5, 4, 0, 0⟩ L') 5 L
      (k0_part24 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v298 v310) := by
  rw [k0_part24_eq_skeleton]
  unfold k0_part24_skel
  dsimp only
  refine step_sent h 2 rfl (by decide) rfl _ _ _ _ _ _ _ _ fun L h => ?_
  refine step_recv h 2 rfl rfl rfl rfl _ _ _ _ _ _ _ fun L h => ?_
  refine step_sent h 3 rfl (by decide) rfl _ _ _ _ _ _ _ _ fun L h => ?_
  refine step_recv h 3 rfl rfl rfl rfl _ _ _ _ _ _ _ fun L h => ?_
  refine step_sent h 4 rfl (by decide) rfl _ _ _ _ _ _ _ _ fun L h => ?_
  exact Plan.WP.ret _ _ _ h

theorem part25 (h : St m c ⟨4, 4, 32, 1, 31, 1, 31, 5, 4, 0, 0⟩ L) (v322 : BitVec 32) (v334 : BitVec 32) (v346 : BitVec 32)  :
    Runs m c (fun _ L' => St m c ⟨4, 4, 32, 1, 31, 1, 31, 7, 6, 0, 0⟩ L') 4 L
      (k0_part25 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v322 v334 v346) := by
  rw [k0_part25_eq_skeleton]
  unfold k0_part25_skel
  dsimp only
  refine step_recv h 4 rfl rfl rfl rfl _ _ _ _ _ _ _ fun L h => ?_
  refine step_sent h 5 rfl (by decide) rfl _ _ _ _ _ _ _ _ fun L h => ?_
  refine step_recv h 5 rfl rfl rfl rfl _ _ _ _ _ _ _ fun L h => ?_
  refine step_sent h 6 rfl (by decide) rfl _ _ _ _ _ _ _ _ fun L h => ?_
  exact Plan.WP.ret _ _ _ h

theorem part26 (h : St m c ⟨4, 4, 32, 1, 31, 1, 31, 7, 6, 0, 0⟩ L) (v358 : BitVec 32) (v370 : BitVec 32)  :
    Runs m c (fun _ L' => St m c ⟨4, 4, 32, 1, 31, 1, 31, 9, 8, 0, 0⟩ L') 4 L
      (k0_part26 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v358 v370) := by
  rw [k0_part26_eq_skeleton]
  unfold k0_part26_skel
  dsimp only
  refine step_recv h 6 rfl rfl rfl rfl _ _ _ _ _ _ _ fun L h => ?_
  refine step_sent h 7 rfl (by decide) rfl _ _ _ _ _ _ _ _ fun L h => ?_
  refine step_recv h 7 rfl rfl rfl rfl _ _ _ _ _ _ _ fun L h => ?_
  refine step_sent h 8 rfl (by decide) rfl _ _ _ _ _ _ _ _ fun L h => ?_
  exact Plan.WP.ret _ _ _ h

theorem part27 (h : St m c ⟨4, 4, 32, 1, 31, 1, 31, 9, 8, 0, 0⟩ L) (v382 : BitVec 32) (v394 : BitVec 32)  :
    Runs m c (fun _ L' => St m c ⟨4, 4, 32, 1, 31, 1, 31, 11, 11, 0, 0⟩ L') 5 L
      (k0_part27 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v382 v394) := by
  rw [k0_part27_eq_skeleton]
  unfold k0_part27_skel
  dsimp only
  refine step_recv h 8 rfl rfl rfl rfl _ _ _ _ _ _ _ fun L h => ?_
  refine step_sent h 9 rfl (by decide) rfl _ _ _ _ _ _ _ _ fun L h => ?_
  refine step_recv h 9 rfl rfl rfl rfl _ _ _ _ _ _ _ fun L h => ?_
  refine step_sent h 10 rfl (by decide) rfl _ _ _ _ _ _ _ _ fun L h => ?_
  refine step_recv h 10 rfl rfl rfl rfl _ _ _ _ _ _ _ fun L h => ?_
  exact Plan.WP.ret _ _ _ h

theorem part28 (h : St m c ⟨4, 4, 32, 1, 31, 1, 31, 11, 11, 0, 0⟩ L) (v406 : BitVec 32) (v418 : BitVec 32)  :
    Runs m c (fun _ L' => St m c ⟨4, 4, 32, 1, 31, 1, 31, 13, 13, 0, 0⟩ L') 4 L
      (k0_part28 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v406 v418) := by
  rw [k0_part28_eq_skeleton]
  unfold k0_part28_skel
  dsimp only
  refine step_sent h 11 rfl (by decide) rfl _ _ _ _ _ _ _ _ fun L h => ?_
  refine step_recv h 11 rfl rfl rfl rfl _ _ _ _ _ _ _ fun L h => ?_
  refine step_sent h 12 rfl (by decide) rfl _ _ _ _ _ _ _ _ fun L h => ?_
  refine step_recv h 12 rfl rfl rfl rfl _ _ _ _ _ _ _ fun L h => ?_
  exact Plan.WP.ret _ _ _ h

theorem part29 (h : St m c ⟨4, 4, 32, 1, 31, 1, 31, 13, 13, 0, 0⟩ L) (v430 : BitVec 32) (v442 : BitVec 32) (v454 : BitVec 32)  :
    Runs m c (fun _ L' => St m c ⟨4, 4, 32, 1, 31, 1, 31, 16, 15, 0, 0⟩ L') 5 L
      (k0_part29 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v430 v442 v454) := by
  rw [k0_part29_eq_skeleton]
  unfold k0_part29_skel
  dsimp only
  refine step_sent h 13 rfl (by decide) rfl _ _ _ _ _ _ _ _ fun L h => ?_
  refine step_recv h 13 rfl rfl rfl rfl _ _ _ _ _ _ _ fun L h => ?_
  refine step_sent h 14 rfl (by decide) rfl _ _ _ _ _ _ _ _ fun L h => ?_
  refine step_recv h 14 rfl rfl rfl rfl _ _ _ _ _ _ _ fun L h => ?_
  refine step_sent h 15 rfl (by decide) rfl _ _ _ _ _ _ _ _ fun L h => ?_
  exact Plan.WP.ret _ _ _ h

theorem part30 (h : St m c ⟨4, 4, 32, 1, 31, 1, 31, 16, 15, 0, 0⟩ L) (v466 : BitVec 32) (v478 : BitVec 32) (v830 : BitVec 32) (c0_i32_712 : BitVec 32)  :
    Runs m c (fun _ L' => St m c ⟨4, 4, 32, 1, 31, 1, 31, 18, 17, 0, 0⟩ L') 4 L
      (k0_part30 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v466 v478 v830 c0_i32_712) := by
  rw [k0_part30_eq_skeleton]
  unfold k0_part30_skel
  dsimp only
  refine step_recv h 15 rfl rfl rfl rfl _ _ _ _ _ _ _ fun L h => ?_
  refine step_sent h 16 rfl (by decide) rfl _ _ _ _ _ _ _ _ fun L h => ?_
  refine step_recv h 16 rfl rfl rfl rfl _ _ _ _ _ _ _ fun L h => ?_
  refine step_sent h 17 rfl (by decide) rfl _ _ _ _ _ _ _ _ fun L h => ?_
  exact Plan.WP.ret _ _ _ h

theorem part31 (h : St m c ⟨4, 4, 32, 1, 31, 1, 31, 18, 17, 0, 0⟩ L) (v490 : BitVec 32) (v502 : BitVec 32)  :
    Runs m c (fun _ L' => St m c ⟨4, 4, 32, 1, 31, 1, 31, 20, 20, 0, 0⟩ L') 5 L
      (k0_part31 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v490 v502) := by
  rw [k0_part31_eq_skeleton]
  unfold k0_part31_skel
  dsimp only
  refine step_recv h 17 rfl rfl rfl rfl _ _ _ _ _ _ _ fun L h => ?_
  refine step_sent h 18 rfl (by decide) rfl _ _ _ _ _ _ _ _ fun L h => ?_
  refine step_recv h 18 rfl rfl rfl rfl _ _ _ _ _ _ _ fun L h => ?_
  refine step_sent h 19 rfl (by decide) rfl _ _ _ _ _ _ _ _ fun L h => ?_
  refine step_recv h 19 rfl rfl rfl rfl _ _ _ _ _ _ _ fun L h => ?_
  exact Plan.WP.ret _ _ _ h

theorem part32 (h : St m c ⟨4, 4, 32, 1, 31, 1, 31, 20, 20, 0, 0⟩ L) (v514 : BitVec 32) (v526 : BitVec 32)  :
    Runs m c (fun _ L' => St m c ⟨4, 4, 32, 1, 31, 1, 31, 22, 22, 0, 0⟩ L') 4 L
      (k0_part32 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v514 v526) := by
  rw [k0_part32_eq_skeleton]
  unfold k0_part32_skel
  dsimp only
  refine step_sent h 20 rfl (by decide) rfl _ _ _ _ _ _ _ _ fun L h => ?_
  refine step_recv h 20 rfl rfl rfl rfl _ _ _ _ _ _ _ fun L h => ?_
  refine step_sent h 21 rfl (by decide) rfl _ _ _ _ _ _ _ _ fun L h => ?_
  refine step_recv h 21 rfl rfl rfl rfl _ _ _ _ _ _ _ fun L h => ?_
  exact Plan.WP.ret _ _ _ h

theorem part33 (h : St m c ⟨4, 4, 32, 1, 31, 1, 31, 22, 22, 0, 0⟩ L) (v538 : BitVec 32) (v550 : BitVec 32)  :
    Runs m c (fun _ L' => St m c ⟨4, 4, 32, 1, 31, 1, 31, 25, 24, 0, 0⟩ L') 5 L
      (k0_part33 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v538 v550) := by
  rw [k0_part33_eq_skeleton]
  unfold k0_part33_skel
  dsimp only
  refine step_sent h 22 rfl (by decide) rfl _ _ _ _ _ _ _ _ fun L h => ?_
  refine step_recv h 22 rfl rfl rfl rfl _ _ _ _ _ _ _ fun L h => ?_
  refine step_sent h 23 rfl (by decide) rfl _ _ _ _ _ _ _ _ fun L h => ?_
  refine step_recv h 23 rfl rfl rfl rfl _ _ _ _ _ _ _ fun L h => ?_
  refine step_sent h 24 rfl (by decide) rfl _ _ _ _ _ _ _ _ fun L h => ?_
  exact Plan.WP.ret _ _ _ h

theorem part34 (h : St m c ⟨4, 4, 32, 1, 31, 1, 31, 25, 24, 0, 0⟩ L) (v562 : BitVec 32) (v574 : BitVec 32) (v586 : BitVec 32)  :
    Runs m c (fun _ L' => St m c ⟨4, 4, 32, 1, 31, 1, 31, 27, 26, 0, 0⟩ L') 4 L
      (k0_part34 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v562 v574 v586) := by
  rw [k0_part34_eq_skeleton]
  unfold k0_part34_skel
  dsimp only
  refine step_recv h 24 rfl rfl rfl rfl _ _ _ _ _ _ _ fun L h => ?_
  refine step_sent h 25 rfl (by decide) rfl _ _ _ _ _ _ _ _ fun L h => ?_
  refine step_recv h 25 rfl rfl rfl rfl _ _ _ _ _ _ _ fun L h => ?_
  refine step_sent h 26 rfl (by decide) rfl _ _ _ _ _ _ _ _ fun L h => ?_
  exact Plan.WP.ret _ _ _ h

theorem part35 (h : St m c ⟨4, 4, 32, 1, 31, 1, 31, 27, 26, 0, 0⟩ L) (v598 : BitVec 32) (v610 : BitVec 32)  :
    Runs m c (fun _ L' => St m c ⟨4, 4, 32, 1, 31, 1, 31, 29, 28, 0, 0⟩ L') 4 L
      (k0_part35 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2 c v598 v610) := by
  rw [k0_part35_eq_skeleton]
  unfold k0_part35_skel
  dsimp only
  refine step_recv h 26 rfl rfl rfl rfl _ _ _ _ _ _ _ fun L h => ?_
  refine step_sent h 27 rfl (by decide) rfl _ _ _ _ _ _ _ _ fun L h => ?_
  refine step_recv h 27 rfl rfl rfl rfl _ _ _ _ _ _ _ fun L h => ?_
  refine step_sent h 28 rfl (by decide) rfl _ _ _ _ _ _ _ _ fun L h => ?_
  exact Plan.WP.ret _ _ _ h

theorem part36 :
    ∃ n, ∀ L, St m c ⟨4, 4, 0, 0, 0, 0, 0, 0, 0, 0, 0⟩ L → Runs m c (fun a L' => a.1 = c ∧ St m c ⟨4, 4, 32, 1, 31, 1, 31, 30, 29, 0, 0⟩ L') n L (k0_part36 (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2) := by
  rw [k0_part36_eq_skeleton]
  unfold k0_part36_skel
  refine ⟨13 + (16 + (14 + (16 + (13 + (6 + (6 + (6 + (6 + (6 + (4 + (3 + (2 + (3 + (2 + (3 + (3 + (2 + (3 + (2 + (3 + (3 + (4 + (5 + (4 + (4 + (5 + (4 + (5 + (4 + (5 + (4 + (5 + (4 + (4 + 2)))))))))))))))))))))))))))))))))), fun L h => ?_⟩
  refine Plan.WP.bind (part1 h) ?_
  rintro ⟨d0, v2, v13, v30⟩ L ⟨hd, hp, hv, h⟩
  dsimp only at hd hp hv ⊢
  subst hd hp
  refine Plan.WP.bind (part2 h _ hv) ?_
  intro _ L h
  refine Plan.WP.bind (part3 h) ?_
  rintro v90 L ⟨hv, h⟩
  refine Plan.WP.bind (part4 h _ hv) ?_
  intro _ L h
  refine Plan.WP.bind (part5 h _) ?_
  rintro ⟨v148, v151, c0_i32⟩ L ⟨hb, h⟩
  dsimp only at hb ⊢
  refine Plan.WP.bind (part6 h _ _ _ _ hb) ?_
  rintro ⟨v175, c0_i32_100⟩ L h
  dsimp only
  refine Plan.WP.bind (part7 h _ _ _ _ hb) ?_
  rintro ⟨v199, c0_i32_124⟩ L h
  dsimp only
  refine Plan.WP.bind (part8 h _ _ _ _ hb) ?_
  rintro ⟨v223, c0_i32_148⟩ L h
  dsimp only
  refine Plan.WP.bind (part9 h _ _ _ _ hb) ?_
  rintro ⟨v247, c0_i32_172⟩ L h
  dsimp only
  refine Plan.WP.bind (part10 h _ _ _ _ hb) ?_
  rintro ⟨v271, c0_i32_196⟩ L h
  dsimp only
  refine Plan.WP.bind (part11 h _ _ _ _ hb) ?_
  rintro ⟨v274, v286, v298, c1_i32_223⟩ L h
  dsimp only
  refine Plan.WP.bind (part12 h _ _ _) ?_
  rintro ⟨v310, v322⟩ L h
  dsimp only
  refine Plan.WP.bind (part13 h _) ?_
  rintro ⟨v334, v346, v358⟩ L h
  dsimp only
  refine Plan.WP.bind (part14 h _) ?_
  rintro ⟨v370, v382, v394, c128_i32_300⟩ L h
  dsimp only
  refine Plan.WP.bind (part15 h _ _ _) ?_
  rintro ⟨v406, v418⟩ L h
  dsimp only
  refine Plan.WP.bind (part16 h _) ?_
  rintro ⟨v430, v442, v454, v456⟩ L h
  dsimp only
  refine Plan.WP.bind (part17 h _ _) ?_
  rintro ⟨v466, v478, c19_i32_378⟩ L h
  dsimp only
  refine Plan.WP.bind (part18 h _ _) ?_
  rintro ⟨v490, v502, v514⟩ L h
  dsimp only
  refine Plan.WP.bind (part19 h _) ?_
  rintro ⟨v526, v538, v550⟩ L h
  dsimp only
  refine Plan.WP.bind (part20 h _ _) ?_
  rintro ⟨v562, v574⟩ L h
  dsimp only
  refine Plan.WP.bind (part21 h _) ?_
  rintro ⟨v586, v598, v610, v612, c0_i32_484⟩ L h
  dsimp only
  refine Plan.WP.bind (part22 h _ _ _) ?_
  rintro ⟨v622, v634⟩ L h
  dsimp only
  refine Plan.WP.bind (part23 h _ _) ?_
  intro _ L h
  refine Plan.WP.bind (part24 h _ _) ?_
  intro _ L h
  refine Plan.WP.bind (part25 h _ _ _) ?_
  intro _ L h
  refine Plan.WP.bind (part26 h _ _) ?_
  intro _ L h
  refine Plan.WP.bind (part27 h _ _) ?_
  intro _ L h
  refine Plan.WP.bind (part28 h _ _) ?_
  intro _ L h
  refine Plan.WP.bind (part29 h _ _ _) ?_
  rintro ⟨v830, c0_i32_712⟩ L h
  dsimp only
  refine Plan.WP.bind (part30 h _ _ _ _) ?_
  intro _ L h
  refine Plan.WP.bind (part31 h _ _) ?_
  intro _ L h
  refine Plan.WP.bind (part32 h _ _) ?_
  intro _ L h
  refine Plan.WP.bind (part33 h _ _) ?_
  intro _ L h
  refine Plan.WP.bind (part34 h _ _ _) ?_
  intro _ L h
  refine Plan.WP.bind (part35 h _ _) ?_
  intro _ L h
  refine step_recv h 28 rfl rfl rfl rfl _ _ _ _ _ _ _ fun L h => ?_
  refine step_sent h 29 rfl (by decide) rfl _ _ _ _ _ _ _ _ fun L h => ?_
  exact Plan.WP.ret 0 _ _ ⟨rfl, h⟩

theorem body_runs :
    ∃ n, ∀ L, St m c ⟨4, 4, 0, 0, 0, 0, 0, 0, 0, 0, 0⟩ L → Runs m c (fun _ L' => St m c ⟨4, 4, 32, 1, 31, 1, 31, 31, 31, 0, 0⟩ L') n L (cc0_body (Memref.whole cc0_stg0_0) h0 (Memref.whole cc0_stg1_0) h1 (Memref.whole cc0_stg2_0) h2 (Memref.whole cc0_stg3_0) h3 (Memref.whole cc0_stg4_0) h4 (Memref.whole cc0_scratch0) h5 cc0_scratch1 cc0_scratch2) := by
  rw [cc0_body_eq_skeleton]
  unfold cc0_body_skel
  obtain ⟨n, hn⟩ := part36 (m := m) (c := c) (h0 := h0) (h1 := h1) (h2 := h2) (h3 := h3) (h4 := h4) (h5 := h5)
  refine ⟨n + 3, fun L h => Plan.WP.bind (hn L h) ?_⟩
  rintro ⟨d0, v634⟩ L ⟨hd, h⟩
  dsimp only at hd ⊢
  subst hd
  refine step_recv h 29 rfl rfl rfl rfl _ _ _ _ _ _ _ fun L h => ?_
  refine step_sent h 30 rfl (by decide) rfl _ _ _ _ _ _ _ _ fun L h => ?_
  refine step_recv h 30 rfl rfl rfl rfl _ _ _ _ _ _ _ fun L h => ?_
  exact Plan.WP.ret 0 _ _ h

end Cert.SyncedIdeal.Mesh

end
-- ==== Proof.Synced.Launch.lean ====
/- The kernel's run on every device: its operands staged, its body, its result written back; and so, from any memory,
   what every execution of the program ends with. -/
module

public import proofs.«01_k».proof.Proof.Synced.Walk
public import proofs.«01_k».proof.Proof.Lift
public import proofs.«01_k».proof.Proof.Gen.SyncedIdeal.Launch
public import proofs.«01_k».proof.Proof.Gen.SyncedIdeal.Points

@[expose] public section

noncomputable section

namespace Cert.SyncedIdeal.Mesh

open Idealize.ShloMosaic Idealize.ShloMosaic.TcCoe Idealize.SL.Sem
open Cert.Transfers Cert.SyncedIdeal.Gen
open scoped Classical

variable {F : FTy → Type} [FloatOps F]

/-! ## Staging the operands and writing the result back -/

variable {m : MemSt nD τ sig (Elt F)} {c : Dev nD} {Λ : Labels} {defs : Defs nD τ sig (Elt F) Λ} {α : Type}
  {Q : α → (plan m).Local → Prop} {n : ℕ} {p : Pos} {L : (plan m).Local}

theorem step_stage (h : St m c p L) (k : Fin 4) (hki : p.ki = k.val) {sp sp' : Space} {s₀ : Shape} {e₀ : EltTy} {s : Shape} {e : EltTy}
    {src : Memref sig (Proc.tc : Proc τ).kind sp s₀ e₀} {mr : Memref sig (Proc.tc : Proc τ).kind sp' s e} {via : ReadAs (Elt F) s₀ e₀ s e}
    {sem : SemLoc sig} (hsrc hdst hsem) (kk)
    (himpl : ∀ b₀ st, (plan m).Impl (.inp k c) (Dma.enqueued (c.tc : Thread nD τ) src.view (.here mr) via sem b₀ st))
    (hk : ∀ L', St m c { p with ki := k.val + 1 } L' → (plan m).WP defs c Q n L' (kk ⟨⟩)) :
    (plan m).WP defs c Q (n + 1) L (.op (.enqueueDmaAs src (.here mr) via sem hsrc hdst hsem) kk) := by
  refine Plan.WP.enqueue (i := (Tr.inp k c : Tr)) _ _ _ _ _ _ _ _ rfl rfl ?_ h.stage himpl ?_ (.inl rfl) (hk _ ?_)
  · intro hi
    have := ((h.issued (.inp k c)).mp hi).2
    omega
  · rintro ⟨ℓ, y⟩ he
    obtain rfl : ℓ = _ := he
    exact h.kargs ⟨k, rfl⟩
  · refine { h with issued := fun i => ?_ }
    refine (Set.mem_insert_iff.trans (or_congr_right (h.issued i))).trans ?_
    cases i with
    | send d' c' => exact ⟨fun hh => hh.elim (fun e => nomatch e) id, .inr⟩
    | out c' => exact ⟨fun hh => hh.elim (fun e => nomatch e) id, .inr⟩
    | inp k' c' =>
      constructor
      · rintro (hh | ⟨hc, hlt⟩)
        · cases hh
          exact ⟨rfl, Nat.lt_succ_self _⟩
        · exact ⟨hc, by dsimp only; omega⟩
      · rintro ⟨rfl, hlt⟩
        by_cases hdd : k'.val = k.val
        · exact .inl (by rw [Fin.ext hdd])
        · exact .inr ⟨rfl, by dsimp only at hlt; omega⟩

theorem step_staged (h : St m c p L) (k : Fin 4) (hko : p.ko = k.val) (hki : k.val < p.ki) {κ : Kind} {sem : DmaSem sig} {b : Ref sig κ}
    {s : Shape} {e : EltTy} (hh) (kk) (hsem : SemLoc.dma sem = (Tr.inp k c).semD) (hcr : b.dmaCredit s e = (Tr.inp k c).cr)
    (hk : ∀ L', St m c { p with ko := k.val + 1 } L' → (plan m).WP defs c Q n L' (kk ⟨⟩)) :
    (plan m).WP defs c Q (n + 1) L (.op (.waitDma sem b s e hh) kk) := by
  refine Plan.WP.waitD (i := (Tr.inp k c : Tr)) _ _ _ _ _ _ rfl hsem.symm hcr ?_ h.stage ?_ (hk _ ?_)
  · intro hi
    have := ((h.wd (.inp k c)).mp hi).2
    omega
  · rw [if_pos (show (plan m).owner (Tr.inp k c : Tr) = c from rfl)]
    exact (h.issued (.inp k c)).mpr ⟨rfl, hki⟩
  · refine { h with wd := fun i => ?_, kargs := h.kargs.trans Set.subset_union_left, kin := fun k' hk' y => ?_,
                    kscr := fun x hx => .inl (h.kscr x hx), kown := fun hp x hx => .inl (h.kown hp x hx),
                    krecv := fun d' hd' x hx => .inl (h.krecv d' hd' x hx), kout := fun hp x => .inl (h.kout hp x) }
    · refine (Set.mem_insert_iff.trans (or_congr_right (h.wd i))).trans ?_
      cases i with
      | send d' c' => exact ⟨fun hh => hh.elim (fun e => nomatch e) id, .inr⟩
      | out c' => exact ⟨fun hh => hh.elim (fun e => nomatch e) id, .inr⟩
      | inp k' c' =>
        constructor
        · rintro (hh | ⟨hc, hlt⟩)
          · cases hh
            exact ⟨rfl, Nat.lt_succ_self _⟩
          · exact ⟨hc, by dsimp only; omega⟩
        · rintro ⟨rfl, hlt⟩
          by_cases hdd : k'.val = k.val
          · exact .inl (by rw [Fin.ext hdd])
          · exact .inr ⟨rfl, by dsimp only at hlt; omega⟩
    · by_cases hdd : k'.val = k.val
      · obtain rfl := Fin.ext hdd
        refine .inr ⟨?_, ?_⟩
        · exact rfl
        · trivial
      · exact .inl (h.kin k' (by dsimp only at hk'; omega) y)

/-- Every other device is some number of devices before this one. -/
theorem exists_prev {c r : Dev nD} (hr : r ≠ c) : ∃ d : Fin 31, prev d c = r := by
  have hc : c.val < 32 := c.isLt
  have hr' : r.val < 32 := r.isLt
  have hne : r.val ≠ c.val := fun e => hr (Fin.ext e)
  refine ⟨⟨(c.val + 31 - r.val) % 32, by omega⟩, Fin.ext ?_⟩
  simp only [prev]
  omega

theorem step_write (h : St m c p L) (hown : p.own = 1) (hr : p.r = 31) (hoi : p.oi = 0) {sp sp' : Space} {s₀ : Shape} {e₀ : EltTy} {s : Shape} {e : EltTy}
    {src : Memref sig (Proc.tc : Proc τ).kind sp s₀ e₀} {mr : Memref sig (Proc.tc : Proc τ).kind sp' s e} {via : ReadAs (Elt F) s₀ e₀ s e}
    {sem : SemLoc sig} (hsrc hdst hsem) (kk)
    (himpl : ∀ b₀ st, (plan m).Impl (.out c) (Dma.enqueued (c.tc : Thread nD τ) src.view (.here mr) via sem b₀ st))
    (hk : ∀ L', St m c { p with oi := 1 } L' → (plan m).WP defs c Q n L' (kk ⟨⟩)) :
    (plan m).WP defs c Q (n + 1) L (.op (.enqueueDmaAs src (.here mr) via sem hsrc hdst hsem) kk) := by
  refine Plan.WP.enqueue (i := (Tr.out c : Tr)) _ _ _ _ _ _ _ _ rfl rfl ?_ h.stage himpl ?_ (.inl rfl) (hk _ ?_)
  · intro hi
    have := ((h.issued (.out c)).mp hi).2
    omega
  · rintro ⟨ℓ, y⟩ he
    obtain rfl : ℓ = _ := he
    by_cases hy : rowDev y = c
    · exact h.kown (by omega) y hy
    · obtain ⟨d, hd⟩ := exists_prev hy
      exact h.krecv d (by rw [hr]; exact d.isLt) y hd.symm
  · refine { h with issued := fun i => ?_ }
    refine (Set.mem_insert_iff.trans (or_congr_right (h.issued i))).trans ?_
    cases i with
    | send d' c' => exact ⟨fun hh => hh.elim (fun e => nomatch e) id, .inr⟩
    | inp k' c' => exact ⟨fun hh => hh.elim (fun e => nomatch e) id, .inr⟩
    | out c' =>
      constructor
      · rintro (hh | ⟨hc, hlt⟩)
        · cases hh
          exact ⟨rfl, Nat.one_pos⟩
        · exact ⟨hc, Nat.one_pos⟩
      · rintro ⟨rfl, _⟩
        exact .inl rfl

theorem step_written (h : St m c p L) (hoi : p.oi = 1) (how : p.ow = 0) {κ : Kind} {sem : DmaSem sig} {b : Ref sig κ}
    {s : Shape} {e : EltTy} (hh) (kk) (hsem : SemLoc.dma sem = (Tr.out c).semD) (hcr : b.dmaCredit s e = (Tr.out c).cr)
    (hk : ∀ L', St m c { p with ow := 1 } L' → (plan m).WP defs c Q n L' (kk ⟨⟩)) :
    (plan m).WP defs c Q (n + 1) L (.op (.waitDma sem b s e hh) kk) := by
  refine Plan.WP.waitD (i := (Tr.out c : Tr)) _ _ _ _ _ _ rfl hsem.symm hcr ?_ h.stage ?_ (hk _ ?_)
  · intro hi
    have := ((h.wd (.out c)).mp hi).2
    omega
  · rw [if_pos (show (plan m).owner (Tr.out c : Tr) = c from rfl)]
    exact (h.issued (.out c)).mpr ⟨rfl, by omega⟩
  · refine { h with wd := fun i => ?_, kargs := h.kargs.trans Set.subset_union_left, kin := fun k' hk' y => .inl (h.kin k' hk' y),
                    kscr := fun x hx => .inl (h.kscr x hx), kown := fun hp x hx => .inl (h.kown hp x hx),
                    krecv := fun d' hd' x hx => .inl (h.krecv d' hd' x hx), kout := fun _ _ => .inr ⟨rfl, trivial⟩ }
    refine (Set.mem_insert_iff.trans (or_congr_right (h.wd i))).trans ?_
    cases i with
    | send d' c' => exact ⟨fun hh => hh.elim (fun e => nomatch e) id, .inr⟩
    | inp k' c' => exact ⟨fun hh => hh.elim (fun e => nomatch e) id, .inr⟩
    | out c' =>
      constructor
      · rintro (hh | ⟨hc, hlt⟩)
        · cases hh
          exact ⟨rfl, Nat.one_pos⟩
        · exact ⟨hc, Nat.one_pos⟩
      · rintro ⟨rfl, _⟩
        exact .inl rfl

/-! ## The whole kernel -/

/-- What has been done at the kernel's entry, -/
theorem st_enter : St m c ⟨0, 0, 0, 0, 0, 0, 0, 0, 0, 0, 0⟩ (Plan.Local.start (P := plan m) c).enter where
  stage := rfl
  issued i := by cases i <;> exact ⟨fun h => h.elim, fun h => absurd h.2 (Nat.not_lt_zero _)⟩
  wd i := by cases i <;> exact ⟨fun h => h.elim, fun h => absurd h.2 (Nat.not_lt_zero _)⟩
  ws i := by
    cases i with
    | send d c' => exact ⟨fun h => h.elim, fun h => absurd h.2 (Nat.not_lt_zero _)⟩
    | inp k c' => exact ⟨fun h => h.elim, fun h => h.elim⟩
    | out c' => exact ⟨fun h => h.elim, fun h => h.elim⟩
  sent _ := ⟨fun h => h.elim, fun ⟨_, h, _⟩ => absurd h (Nat.not_lt_zero _)⟩
  passed := ⟨fun h => h.elim, fun h => absurd h (Nat.not_lt_zero _)⟩
  kargs e he := ⟨he, args_unscoped e he⟩
  kin k hk := absurd hk (Nat.not_lt_zero _)
  kscr x hx := absurd hx (Nat.not_lt_zero _)
  kown h := absurd h (Nat.not_lt_zero _)
  krecv d hd := absurd hd (Nat.not_lt_zero _)
  kout h := absurd h (Nat.not_lt_zero _)

/-- at its exit, -/
theorem complete (h : St m c ⟨4, 4, 32, 1, 31, 1, 31, 31, 31, 1, 1⟩ L) : L.Complete c where
  sent := h.allSent rfl
  passed _ := h.passed.mpr Nat.one_pos
  issued j hj := by
    refine (h.issued j).mpr ?_
    cases j with
    | inp k c' => exact ⟨hj, k.isLt⟩
    | send d c' => exact ⟨hj, d.isLt⟩
    | out c' => exact ⟨hj, Nat.one_pos⟩
  wd j hj := by
    refine (h.wd j).mpr ?_
    cases j with
    | inp k c' => exact ⟨hj, k.isLt⟩
    | send d c' => exact ⟨peer_inj (hj.trans (peer_prev d c).symm), d.isLt⟩
    | out c' => exact ⟨hj, Nat.one_pos⟩
  ws j hj hs := by
    refine (h.ws j).mpr ?_
    cases j with
    | inp k c' => exact absurd rfl hs
    | send d c' => exact ⟨hj, d.isLt⟩
    | out c' => exact absurd rfl hs

theorem v1_unscoped : main_v1.isScoped = false := by decide

/-- and after it. -/
theorem done (h : St m c ⟨4, 4, 32, 1, 31, 1, 31, 31, 31, 1, 1⟩ L) : L.leave.Done c where
  toComplete := ⟨(complete h).sent, (complete h).passed, (complete h).issued, (complete h).wd, (complete h).ws⟩
  goal e he := by
    rcases he with he | he
    · exact ⟨h.kargs he, args_unscoped e he⟩
    · obtain ⟨b, x⟩ := e
      obtain rfl : b = _ := he
      refine ⟨h.kout Nat.one_pos x, fun hs => ?_⟩
      have h := (mem_scopedRefs.mp hs).2
      rw [Proc.isScoped_devRef, v1_unscoped] at h
      cases h

/-- With no grid the kernel's steps are its operands' staging, its body and its result's write-back. -/
theorem runAt_eq (a : (pcfgs (F := F) 0).Adm) :
    (((pcfgs (F := F) 0).at a).runAt (nD := nD) (τ := τ) (0 : Fin 1) a : Prog (TpuEff nD τ sig (Elt F) (Pipeline.Sig Λ₀ (Fin 1) fun p => (pcfgs (F := F) p).Adm) Proc.tc) PUnit) =
      .op (cfg0.startIn (0 : Fin 5) t0_0) fun _ => .op (cfg0.startIn (1 : Fin 5) t0_0) fun _ =>
      .op (cfg0.startIn (2 : Fin 5) t0_0) fun _ => .op (cfg0.startIn (3 : Fin 5) t0_0) fun _ =>
      .op (cfg0.waitIn (0 : Fin 5) t0_0) fun _ => .op (cfg0.waitIn (1 : Fin 5) t0_0) fun _ =>
      .op (cfg0.waitIn (2 : Fin 5) t0_0) fun _ => .op (cfg0.waitIn (3 : Fin 5) t0_0) fun _ =>
      .op (.call (Pipeline.kernel cfg0.body) (cfg0.bodyArgs t0_0 (cfg0.slots t0_0))) fun _ =>
      .op (cfg0.startOut (4 : Fin 5) t0_0) fun _ => .op (cfg0.waitOut (4 : Fin 5) t0_0) fun _ => .ret ⟨⟩ := by
  rfl

/-- The kernel's entry runs those steps, from whatever its tables are (there are none). -/
theorem entry_eq : ∃ (q : Prop) (d : Decidable q) (a : PLift q → (pcfgs (F := F) 0).Adm), q ∧
    SyncedIdeal.defs (F := F) .tc (Pipeline.entry 0) () =
      .op (.assume q d) fun h => ((pcfgs (F := F) 0).at (a h)).runAt (nD := nD) (τ := τ) (0 : Fin 1) (a h) :=
  ⟨_, _, fun h => ⟨_, h.down⟩, trivial, rfl⟩

theorem credit_in0 (c : Dev nD) : ((cfg0.win (0 : Fin 5)).stg t0_0 (cfg0.slots t0_0 (0 : Fin 5))).view.ref.dmaCredit ((cfg0.win (0 : Fin 5)).xblock (cfg0.grid.coords t0_0)) (cfg0.win (0 : Fin 5)).elt =
    (Tr.inp 0 c).cr := by
  refine Eq.trans (b := (stgRef 0).dmaCredit (stgRef 0).ty.shape (stgRef 0).ty.elt) ?_ ?_
  · decide
  · rw [Tr.cr]

theorem credit_in1 (c : Dev nD) : ((cfg0.win (1 : Fin 5)).stg t0_0 (cfg0.slots t0_0 (1 : Fin 5))).view.ref.dmaCredit ((cfg0.win (1 : Fin 5)).xblock (cfg0.grid.coords t0_0)) (cfg0.win (1 : Fin 5)).elt =
    (Tr.inp 1 c).cr := by
  refine Eq.trans (b := (stgRef 1).dmaCredit (stgRef 1).ty.shape (stgRef 1).ty.elt) ?_ ?_
  · decide
  · rw [Tr.cr]

theorem credit_in2 (c : Dev nD) : ((cfg0.win (2 : Fin 5)).stg t0_0 (cfg0.slots t0_0 (2 : Fin 5))).view.ref.dmaCredit ((cfg0.win (2 : Fin 5)).xblock (cfg0.grid.coords t0_0)) (cfg0.win (2 : Fin 5)).elt =
    (Tr.inp 2 c).cr := by
  refine Eq.trans (b := (stgRef 2).dmaCredit (stgRef 2).ty.shape (stgRef 2).ty.elt) ?_ ?_
  · decide
  · rw [Tr.cr]

theorem credit_in3 (c : Dev nD) : ((cfg0.win (3 : Fin 5)).stg t0_0 (cfg0.slots t0_0 (3 : Fin 5))).view.ref.dmaCredit ((cfg0.win (3 : Fin 5)).xblock (cfg0.grid.coords t0_0)) (cfg0.win (3 : Fin 5)).elt =
    (Tr.inp 3 c).cr := by
  refine Eq.trans (b := (stgRef 3).dmaCredit (stgRef 3).ty.shape (stgRef 3).ty.elt) ?_ ?_
  · decide
  · rw [Tr.cr]

theorem credit_out (c : Dev nD) : ((cfg0.win (4 : Fin 5)).blk t0_0).view.ref.dmaCredit ((cfg0.win (4 : Fin 5)).xblock (cfg0.grid.coords t0_0)) (cfg0.win (4 : Fin 5)).elt =
    (Tr.out c).cr := by
  refine Eq.trans (b := main_v1.dmaCredit S4096x64 .f32) ?_ ?_
  · decide
  · rw [Tr.cr]

/-- A device's program, from its start to its end. -/
theorem main_runs (m : MemSt nD τ sig (Elt F)) (c : Dev nD) :
    ∃ n, (plan m).WP (SyncedIdeal.defs (F := F)) c (fun _ L => L.Done c) n (Plan.Local.start c) (main (F := F) c) := by
  obtain ⟨n, hn⟩ := body_runs (m := m) (c := c) (h0 := hstage0_0 0) (h1 := hstage0_1 0) (h2 := hstage0_2 0) (h3 := hstage0_3 0) (h4 := hstage0_4 0)
    (h5 := Memref.isWhole_whole _)
  obtain ⟨q, d, a, hq, he⟩ := entry_eq (F := F)
  refine ⟨((n + 3) + 10) + 2, ?_⟩
  refine Plan.WP.customCall _ _ _ rfl rfl ?_
  rw [he]
  refine Plan.WP.assume _ _ _ hq ?_
  refine Plan.WP.bind (R := fun _ L => St m c ⟨4, 4, 32, 1, 31, 1, 31, 31, 31, 1, 1⟩ L) (n := n + 12) (m := 1) ?_ ?_
  · beta_reduce
    rw [runAt_eq]
    refine step_stage st_enter 0 rfl _ _ _ _ (impl_in0 m c t0_0) fun L h => ?_
    refine step_stage h 1 rfl _ _ _ _ (impl_in1 m c t0_0) fun L h => ?_
    refine step_stage h 2 rfl _ _ _ _ (impl_in2 m c t0_0) fun L h => ?_
    refine step_stage h 3 rfl _ _ _ _ (impl_in3 m c t0_0) fun L h => ?_
    refine step_staged h 0 rfl (by decide) _ _ rfl (credit_in0 c) fun L h => ?_
    refine step_staged h 1 rfl (by decide) _ _ rfl (credit_in1 c) fun L h => ?_
    refine step_staged h 2 rfl (by decide) _ _ rfl (credit_in2 c) fun L h => ?_
    refine step_staged h 3 rfl (by decide) _ _ rfl (credit_in3 c) fun L h => ?_
    refine Plan.WP.call _ _ _ ?_
    refine Plan.WP.bind (n := n) (m := 3) (Plan.WP.lift (fun _ _ => rfl) (hn L h)) fun _ L h => ?_
    refine step_write h rfl rfl rfl _ _ _ _ (impl_out m c t0_0) fun L h => ?_
    refine step_written h rfl rfl _ _ rfl (credit_out c) fun L h => ?_
    exact Plan.WP.ret _ _ _ h
  · intro _ L h
    exact Plan.WP.kernelExit _ h.stage (complete h) (Plan.WP.ret _ _ _ (done h))

/-- From any memory, every execution ends with the operands unchanged, each device's result right, and every counter at
    zero. -/
theorem run_main (m : MemSt nD τ sig (Elt F)) (hm : m.sem = fun _ => 0) :
    θ_run (SyncedIdeal.defs (F := F)) (onTc main) m fun r =>
      (∀ c e, e ∈ args ∪ outs → (plan m).Good r.2 (e.at c)) ∧ r.2.sem = fun _ => 0 := by
  have hn : ∀ c, ∃ n, (plan m).WP (SyncedIdeal.defs (F := F)) c (fun _ L => L.Done c) n (Plan.Local.start c) (main (F := F) c) :=
    fun c => main_runs m c
  choose n hn using hn
  refine Plan.run (P := plan m) hm ?_ n hn ?_
  · rintro c ⟨b, y⟩ ⟨k, hk⟩
    cases hk
    fin_cases k <;> rfl
  · rintro ⟨d, _ | _ | _⟩ ht
    · exact absurd rfl ht
    · rfl
    · rfl

end Cert.SyncedIdeal.Mesh

end
-- ==== Proof.Synced.Values.lean ====
/- What the result of the kernel with the handshake is at the ideal values: the reference's, where the magnitudes of an element's products total
   less than 2²⁴. -/
module

public import proofs.«01_k».proof.Proof.Synced.Plan
public import proofs.«01_k».proof.Proof.Reference
public import Idealize.ShloMosaic.Lib.Layout
public import Idealize.ShloMosaic.Lib.Pipeline.Value

@[expose] public section

noncomputable section

namespace Cert.SyncedIdeal.Mesh

open Idealize.ShloMosaic Idealize.ShloMosaic.TcCoe
open Cert.Product

/-- An element of a device's scaled product. -/
theorem pay_eq (x : Vec Ideal S128x4096 .i8) (w : Vec Ideal S4096x2048 .i8) (a b : Elt Ideal .f32) (j : S128x2048.Idx)
    (h : total (fun i : Fin 4096 => x (Idealize.ShloMosaic.ix2 (j 0) i)) (fun i => w (Idealize.ShloMosaic.ix2 i (j 1))) ≤ 2 ^ 24 - 1) :
    Gen.k0_pay1 (F := Ideal) x w a b j =
      ((dot (fun i : Fin 4096 => x (Idealize.ShloMosaic.ix2 (j 0) i)) (fun i => w (Idealize.ShloMosaic.ix2 i (j 1))) : ℝ) : EReal) * ((a : EReal) * (b : EReal)) := by
  have hm := matmul_toInt x w (constantI S128x2048 32 0#32) j rfl h
  rw [← hm]
  unfold Gen.k0_pay1
  rw [shapeCast_self, shapeCast_self]
  rfl

theorem whole_lt (c : Dev nD) (x : S4096x64.Idx) : 64 * c.val + (x 1).val < 2048 := by
  have h0 : c.val < 32 := c.isLt
  have h1 : (x 1).val < 64 := (x 1).isLt
  omega

/-- How a device's columns lie in the whole result. -/
theorem tiles : Layout.Tiles ⟨2, ![4096, 64]⟩ ⟨2, ![4096, 2048]⟩ 1 32 := by decide

/-- Where element `x` of device `c`'s columns is in the whole result. -/
abbrev whole (c : Dev nD) (x : S4096x64.Idx) : ReferenceIdeal.S4096x2048.Idx := tiles.idx c x

/-- Where it is in the rows of the device that computes it. -/
abbrev within (c : Dev nD) (x : S4096x64.Idx) : S128x2048.Idx :=
  Idealize.ShloMosaic.ix2 (⟨(x 0).val % 128, Nat.mod_lt _ (by decide)⟩ : Fin 128) (⟨64 * c.val + (x 1).val, whole_lt c x⟩ : Fin 2048)

/-- A row of the whole first operand, in its device's block. -/
theorem arg0_at (m : MemSt nD τ sig (Elt Ideal)) (X : IVec ReferenceIdeal.S4096x4096 8)
    (h0 : ∀ d : Dev nD, m.mem (d.tc.loc main_arg0) = Layout.block ⟨2, ![128, 4096]⟩ ⟨2, ![4096, 4096]⟩ 0 32 d X) (c : Dev nD) (x : S4096x64.Idx) (i : Fin 4096) :
    (m.mem ((rowDev x).tc.loc main_arg0) : Vec Ideal S128x4096 .i8) (Idealize.ShloMosaic.ix2 (within c x 0) i) = X (Idealize.ShloMosaic.ix2 (whole c x 0) i) := by
  rw [h0]
  refine congrArg X (funext fun q => Fin.ext ?_)
  match q with
  | ⟨0, _⟩ => exact Nat.div_add_mod' _ _
  | ⟨1, _⟩ => rfl

/-- A column of the second operand. -/
theorem arg1_at (m : MemSt nD τ sig (Elt Ideal)) (W : IVec S4096x2048 8) (h1 : ∀ d : Dev nD, m.mem (d.tc.loc main_arg1) = W) (d c : Dev nD) (x : S4096x64.Idx)
    (i : Fin 4096) :
    (m.mem (d.tc.loc main_arg1) : Vec Ideal S4096x2048 .i8) (Idealize.ShloMosaic.ix2 i (within c x 1)) = W (Idealize.ShloMosaic.ix2 i (whole c x 1)) := by
  rw [h1]
  refine congrArg W (funext fun q => Fin.ext ?_)
  match q with
  | ⟨0, _⟩ => rfl
  | ⟨1, _⟩ => exact congrArg (· + (x 1).val) (Nat.mul_comm _ _)

theorem res_at (m : MemSt nD τ sig (Elt Ideal)) (c : Dev nD) (x : S4096x64.Idx) : res m c x = pay m (rowDev x) (within c x) :=
  congrArg (pay m (rowDev x)) (funext fun q => match q with
    | ⟨0, _⟩ => Fin.ext rfl
    | ⟨1, _⟩ => Fin.ext rfl)

/-- Device `c`'s columns of the whole product are the reference's, where the magnitudes total less than 2²⁴. -/
theorem res_eq (m : MemSt nD τ sig (Elt Ideal)) (c : Dev nD) (X : IVec ReferenceIdeal.S4096x4096 8) (W : IVec S4096x2048 8) (a b : FVec Ideal S1 .f32)
    (h0 : ∀ d : Dev nD, m.mem (d.tc.loc main_arg0) = Layout.block ⟨2, ![128, 4096]⟩ ⟨2, ![4096, 4096]⟩ 0 32 d X)
    (h1 : ∀ d : Dev nD, m.mem (d.tc.loc main_arg1) = W) (h2 : ∀ d : Dev nD, m.mem (d.tc.loc main_arg2) = a) (h3 : ∀ d : Dev nD, m.mem (d.tc.loc main_arg3) = b)
    (x : S4096x64.Idx)
    (h : total (fun i : Fin 4096 => (m.mem ((rowDev x).tc.loc main_arg0) : Vec Ideal S128x4096 .i8) (Idealize.ShloMosaic.ix2 (within c x 0) i))
      (fun i => (m.mem ((rowDev x).tc.loc main_arg1) : Vec Ideal S4096x2048 .i8) (Idealize.ShloMosaic.ix2 i (within c x 1))) ≤ 2 ^ 24 - 1) :
    res m c x = ReferenceIdeal.Value.term X W a b (whole c x) := by
  refine (res_at m c x).trans (Eq.trans ?_ (ReferenceIdeal.Value.term_eq X W a b (whole c x)).symm)
  refine (pay_eq _ _ _ _ (within c x) h).trans ?_
  refine congrArg₂ (fun p q : EReal => p * q) ?_ ?_
  · refine congrArg (fun z : ℤ => ((z : ℝ) : EReal)) ?_
    exact congrArg₂ dot (funext fun i => arg0_at m X h0 c x i) (funext fun i => arg1_at m W h1 (rowDev x) c x i)
  · rw [h2, h3]
    exact congrArg (fun i => (a i * b i : EReal)) (ReferenceIdeal.Value.eq_one _)

end Cert.SyncedIdeal.Mesh

end
-- ==== Proof.Synced.Mask.lean ====
/- What the bound says of an element of the whole result, and of an element of one device's rows: the magnitudes of its
   products total less than 2²⁴. -/
module

public import proofs.«01_k».proof.Proof.Product
public import proofs.«01_k».proof.Proof.Gen.On_exact_totals
public import proofs.«01_k».proof.Proof.Gen.Pre_exact_totals_SyncedIdeal

@[expose] public section

noncomputable section

namespace Cert.Product

open Idealize.ShloMosaic

theorem ole_at {s : Shape} (x y : FVec Ideal s .f32) (j : s.Idx) : cmpf (F := Ideal) .ole x y j = Ideal.cmp .ole (x j : EReal) (y j : EReal) := rfl

theorem const_bcast_at {s : Shape} (hb : (⟨0, ![]⟩ : Shape).BroadcastsInDim s ![]) (t : BitVec 32) (j : s.Idx) :
    (broadcastInDim s ![] hb (constant ⟨0, ![]⟩ .f32 t : FVec Ideal ⟨0, ![]⟩ .f32)) j = Ideal.ofBits .f32 t := rfl

/-- The comparison of the product of the magnitudes with any bound, at an element. -/
theorem ole_totals {a b : ℕ} (hw : 8 < 32) (hb : (⟨0, ![]⟩ : Shape).BroadcastsInDim ⟨2, ![a, b]⟩ ![]) (X : IVec ⟨2, ![a, 4096]⟩ 8) (W : IVec ⟨2, ![4096, b]⟩ 8)
    (t : BitVec 32) (j : (⟨2, ![a, b]⟩ : Shape).Idx) :
    cmpf (F := Ideal) .ole (Host.dotGeneral (DotDims.plain a 4096 b) none (sitofp .f32 (absi (extsi 32 X hw))) (sitofp .f32 (absi (extsi 32 W hw))))
        (broadcastInDim ⟨2, ![a, b]⟩ ![] hb (constant ⟨0, ![]⟩ .f32 t)) j =
      Ideal.cmp .ole (∑ i : Fin 4096, (((IntOp.absi ((X (ix2 (j 0) i)).signExtend 32)).toInt : ℝ) : EReal) *
        (((IntOp.absi ((W (ix2 i (j 1))).signExtend 32)).toInt : ℝ) : EReal)) (Ideal.ofBits .f32 t) := by
  have hd := host_dot (a := a) (k := 4096) (b := b) (sitofp .f32 (absi (extsi 32 X hw))) (sitofp .f32 (absi (extsi 32 W hw))) j
  exact (ole_at _ _ j).trans (congrArg₂ (fun p q : EReal => Ideal.cmp .ole p q) hd (const_bcast_at hb t j))

end Cert.Product

namespace Cert.On_exact_totals

open Idealize.ShloMosaic Cert.Product

/-- Of an element of the whole result. -/
theorem fn_total (X : IVec S4096x4096 8) (W : IVec S4096x2048 8) (a b : FVec Ideal S1 .f32) (j : S4096x2048.Idx) (h : fn X W a b j = 1#1) :
    total (fun i : Fin 4096 => X (ix2 (j 0) i)) (fun i => W (ix2 i (j 1))) ≤ 2 ^ 24 - 1 :=
  total_le ((ole_totals (a := 4096) (b := 2048) Facts.natLt_8_32 Facts.bcast_S_S4096x2048 X W _ j).symm.trans h)

end Cert.On_exact_totals

namespace Cert.Pre_exact_totals_SyncedIdeal

open Idealize.ShloMosaic Cert.Product

/-- Of an element of one device's rows. -/
theorem fn_total (X : IVec S128x4096 8) (W : IVec S4096x2048 8) (a b : FVec Ideal S1 .f32) (j : S128x2048.Idx) (h : fn X W a b j = 1#1) :
    total (fun i : Fin 4096 => X (ix2 (j 0) i)) (fun i => W (ix2 i (j 1))) ≤ 2 ^ 24 - 1 :=
  total_le ((ole_totals (a := 128) (b := 2048) Facts.natLt_8_32 Facts.bcast_S_S128x2048 X W _ j).symm.trans h)

end Cert.Pre_exact_totals_SyncedIdeal

end
-- ==== Proof.Synced.Claims.lean ====
/- The claims of the kernel with the handshake: its frames, and the whole of its result against the reference's. -/
module

public import proofs.«01_k».proof.Defs
public import proofs.«01_k».proof.Proof.Synced.Launch
public import proofs.«01_k».proof.Proof.Synced.Values
public import proofs.«01_k».proof.Proof.Synced.Mask
public import proofs.«01_k».proof.Proof.Gen.Synced
public import proofs.«01_k».proof.Proof.Gen.Pre_exact_totals_ReferenceIdeal

@[expose] public section

noncomputable section

namespace Cert.Proof.Synced

open Idealize.ShloMosaic Idealize.ShloMosaic.TcCoe Idealize.SL.Sem
open Cert.Transfers

section Frame

open Cert.SyncedIdeal Cert.SyncedIdeal.Mesh

variable {F : FTy → Type} [FloatOps F]

/-- An operand is at the end what it was. -/
theorem good_arg (m m' : MemSt nD τ sig (Elt F)) (c : Dev nD) (k : Fin 4)
    (h : ∀ e, e ∈ args ∪ outs → (plan m).Good m' (e.at c)) : m'.mem (c.tc.loc (argRef k)) = goalOf m (c.tc.loc (argRef k)) :=
  funext fun y => h ⟨Proc.devRef .tc (argRef k), y⟩ (Or.inl ⟨k, rfl⟩)

/-- Every execution ends, the operands as they were, the counters at zero, and each device's result at its columns of the
    whole product. -/
theorem run_kernel (m : (ℓ : Loc nD τ sig) → Buf (Elt F) ℓ) (g : Dev nD → PrngReg) :
    θ_run (SyncedIdeal.defs (F := F)) (onTc (τ := τ) (main (F := F))) ⟨m, fun _ => 0, g⟩ fun r =>
      (∀ c : Dev nD, (∀ x : S4096x64.Idx, r.2.mem (c.tc.loc main_v1) x = res ⟨m, fun _ => 0, g⟩ c x) ∧
        r.2.mem (c.tc.loc main_arg0) = m (c.tc.loc main_arg0) ∧ r.2.mem (c.tc.loc main_arg1) = m (c.tc.loc main_arg1) ∧
        r.2.mem (c.tc.loc main_arg2) = m (c.tc.loc main_arg2) ∧ r.2.mem (c.tc.loc main_arg3) = m (c.tc.loc main_arg3)) ∧
      r.2.sem = fun _ => 0 := by
  refine (θ_run (SyncedIdeal.defs (F := F)) _ _).mono (fun r h => ⟨fun c => ⟨fun x => ?_, ?_, ?_, ?_, ?_⟩, h.2⟩) (run_main (F := F) ⟨m, fun _ => 0, g⟩ rfl)
  · exact h.1 c ⟨Proc.devRef .tc main_v1, x⟩ (Or.inr rfl)
  · exact (good_arg _ _ c 0 (h.1 c)).trans (goalOf_arg0 _ c)
  · exact (good_arg _ _ c 1 (h.1 c)).trans (goalOf_arg1 _ c)
  · exact (good_arg _ _ c 2 (h.1 c)).trans (goalOf_arg2 _ c)
  · exact (good_arg _ _ c 3 (h.1 c)).trans (goalOf_arg3 _ c)

end Frame

theorem frame_ideal : Cert.quiescent_SyncedIdeal := fun m g _ =>
  (θ_run Cert.SyncedIdeal.defs _ _).mono (fun _ h => ⟨fun c => (h.1 c).2, h.2⟩) (run_kernel (F := Ideal) m g)

theorem frame_ideal_pre : Cert.quiescent_SyncedIdeal_pre_exact_totals_SyncedIdeal := fun m g _ => frame_ideal m g trivial

section Same

variable {F : FTy → Type} [FloatOps F]

/-- The kernel and its idealization have one text: so their bodies, -/
theorem bodies_eq : Cert.Synced.defs₀ (F := F) = Cert.SyncedIdeal.defs₀ (F := F) := by
  unfold Cert.Synced.defs₀ Cert.SyncedIdeal.defs₀
  congr 1
  funext l a
  match l with
  | ⟨0, _⟩ => rfl

/-- their tables, -/
theorem tables_eq : Cert.Synced.defs (F := F) = Cert.SyncedIdeal.defs (F := F) :=
  congrArg (fun d => Pipeline.defs (Cert.SyncedIdeal.pcfgs (F := F)) d) bodies_eq

/-- and their programs are one. -/
theorem mains_eq : Cert.Synced.main (F := F) = Cert.SyncedIdeal.main (F := F) := rfl

end Same

theorem frame_kernel : Cert.quiescent_Synced := fun m g _ => by
  have h := run_kernel (F := Bits) m g
  rw [← tables_eq, ← mains_eq] at h
  exact (θ_run (Cert.Synced.defs (F := Bits)) _ _).mono (fun _ h => ⟨fun c => (h.1 c).2, h.2⟩) h

section Value

open Cert.SyncedIdeal.Mesh

/-- Where the magnitudes total less than 2²⁴ the whole result is the reference's. -/
theorem value : Cert.algebraic_SyncedIdeal_ReferenceIdeal_on_exact_totals := by
  intro m g m' g' _ hb
  refine ⟨_, (θ_run Cert.SyncedIdeal.defs _ _).mono (fun r h c => ⟨fun x hx => ?_, (h.1 c).2⟩) (run_kernel (F := Ideal) m g),
    (θ_run Cert.ReferenceIdeal.defs _ _).mono (fun r h => ⟨fun x _ => congrFun (h 0).1 x, (h 0).2⟩) (Cert.ReferenceIdeal.Value.run (F := Ideal) m' g')⟩
  have ht := Cert.On_exact_totals.fn_total _ _ _ _ (whole c x) hx
  refine ((h.1 c).1 x).trans (res_eq _ c _ _ _ _ (fun d => (hb d).1) (fun d => (hb d).2.1) (fun d => (hb d).2.2.1) (fun d => (hb d).2.2.2) x ?_)
  refine le_trans (le_of_eq ?_) ht
  exact congrArg₂ Product.total (funext fun i => arg0_at ⟨m, fun _ => 0, g⟩ _ (fun d => (hb d).1) c x i)
    (funext fun i => arg1_at ⟨m, fun _ => 0, g⟩ _ (fun d => (hb d).2.1) (rowDev x) c x i)

/-- Where they do so for every element the result is the reference's, as arrays. -/
theorem value_pre : Cert.algebraic_SyncedIdeal_ReferenceIdeal_pre_exact_totals_SyncedIdeal := by
  intro m g m' g' hp hb
  refine ⟨_, (θ_run Cert.SyncedIdeal.defs _ _).mono (fun r h c => ⟨funext fun x => ?_, (h.1 c).2⟩) (run_kernel (F := Ideal) m g),
    (θ_run Cert.ReferenceIdeal.defs _ _).mono (fun r h => h 0) (Cert.ReferenceIdeal.Value.run (F := Ideal) m' g')⟩
  exact ((h.1 c).1 x).trans (res_eq _ c _ _ _ _ (fun d => (hb d).1) (fun d => (hb d).2.1) (fun d => (hb d).2.2.1) (fun d => (hb d).2.2.2) x
    (Cert.Pre_exact_totals_SyncedIdeal.fn_total _ _ _ _ (within c x) (congrFun (hp (rowDev x)) (within c x))))

end Value

end Cert.Proof.Synced

end
-- ==== Proof.lean ====
/- The certificate's claims, together. -/
module

public import proofs.«01_k».proof.Defs
public import proofs.«01_k».proof.Proof.Claims
public import proofs.«01_k».proof.Proof.Synced.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Synced.Gen.facts, Cert.SyncedIdeal.Gen.facts,
  Cert.Pre_exact_totals_ReferenceIdeal.Gen.facts, Cert.Pre_exact_totals_SyncedIdeal.Gen.facts, Cert.On_exact_own_blocks.Gen.facts, Cert.On_exact_totals.Gen.facts,
  frame_kernel, frame_ideal, frame_reference, fun m g _ => frame_reference m g trivial, Synced.frame_kernel, Synced.frame_ideal, Synced.frame_ideal_pre,
  trivial, value, trivial, Synced.value_pre, Synced.value⟩

end Cert.Proof

end
